-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v47_0)) (v1 : (c : Dev Cert.Kernel3Ideal.nD) → Buf (Elt Ideal) ((c.tc : Thread Cert.Kernel3Ideal.nD Cert.Kernel3Ideal.τ).loc Cert.Kernel3Ideal.main_v47_1)) (v2 : (c : Dev Cert.Kernel3Ideal.nD) → Buf (Elt Ideal) ((c.tc : Thread Cert.Kernel3Ideal.nD Cert.Kernel3Ideal.τ).loc Cert.Kernel3Ideal.main_v47_3)) (v3 : (c : Dev Cert.Kernel3Ideal.nD) → Buf (Elt Ideal) ((c.tc : Thread Cert.Kernel3Ideal.nD Cert.Kernel3Ideal.τ).loc Cert.Kernel3Ideal.main_v47_7)) (v4 : (c : Dev Cert.Kernel3Ideal.nD) → Buf (Elt Ideal) ((c.tc : Thread Cert.Kernel3Ideal.nD Cert.Kernel3Ideal.τ).loc Cert.Kernel3Ideal.main_v47_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v47_0) = v0 c
          ∧ r.2.mem ((c.tc : Thread Cert.Kernel3Ideal.nD Cert.Kernel3Ideal.τ).loc Cert.Kernel3Ideal.main_v47_1) = v1 c
          ∧ r.2.mem ((c.tc : Thread Cert.Kernel3Ideal.nD Cert.Kernel3Ideal.τ).loc Cert.Kernel3Ideal.main_v47_3) = v2 c
          ∧ r.2.mem ((c.tc : Thread Cert.Kernel3Ideal.nD Cert.Kernel3Ideal.τ).loc Cert.Kernel3Ideal.main_v47_7) = v3 c
          ∧ r.2.mem ((c.tc : Thread Cert.Kernel3Ideal.nD Cert.Kernel3Ideal.τ).loc Cert.Kernel3Ideal.main_v47_8) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_v54) = v1 c
          ∧ r.2.mem ((c.tc : Thread Cert.Reference3Ideal.nD Cert.Reference3Ideal.τ).loc Cert.Reference3Ideal.main_v57) = v2 c
          ∧ r.2.mem ((c.tc : Thread Cert.Reference3Ideal.nD Cert.Reference3Ideal.τ).loc Cert.Reference3Ideal.main_v59) = v3 c
          ∧ r.2.mem ((c.tc : Thread Cert.Reference3Ideal.nD Cert.Reference3Ideal.τ).loc Cert.Reference3Ideal.main_v60) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S16x4096x512 : Shape := ⟨3, ![16, 4096, 512]⟩
abbrev S16x4x4096 : Shape := ⟨3, ![16, 4, 4096]⟩
abbrev S512 : Shape := ⟨1, ![512]⟩
abbrev S_ : Shape := ⟨0, ![]⟩

class Facts : Prop where
  bcast_S_S16x4096x512 : S_.BroadcastsInDim S16x4096x512 (![] : Fin 0 → Fin S16x4096x512.rank)
  reducesTo_S16x4096x512_S_d0_1_2 : S16x4096x512.ReducesTo [0, 1, 2] S_
  h_S_ : 0 < S_.numel
  bcast_S_S16x4x4096 : S_.BroadcastsInDim S16x4x4096 (![] : Fin 0 → Fin S16x4x4096.rank)
  reducesTo_S16x4x4096_S_d0_1_2 : S16x4x4096.ReducesTo [0, 1, 2] S_

variable [Facts]

def fn_part1 {F : FTy → Type} [FloatOps F] (main_arg5 : FVec F S16x4x4096 .f32) (main_v13 : IVec S_ 1) (main_v16 : IVec S16x4x4096 1) : IVec S_ 1 :=
  let main_c_5 : IVec S_ 1 := constantI S_ 1 1#1
  let main_v17 : IVec S_ 1 := (fun x v => Host.reduce IntOp.andi x v reducesTo_S16x4x4096_S_d0_1_2 h_S_) main_v16 main_c_5
  let main_v18 : IVec S_ 1 := andi main_v13 main_v17
  let main_v19 : FVec F S16x4x4096 .f32 := Host.absf main_arg5
  let main_cst_6 : FVec F S_ .f32 := constant S_ .f32 0x7F800000#32
  let main_v20 : FVec F S16x4x4096 .f32 := broadcastInDim S16x4x4096 ![] bcast_S_S16x4x4096 main_cst_6
  let main_v21 : IVec S16x4x4096 1 := cmpf .olt main_v19 main_v20
  let main_c_7 : IVec S_ 1 := constantI S_ 1 1#1
  let main_v22 : IVec S_ 1 := (fun x v => Host.reduce IntOp.andi x v reducesTo_S16x4x4096_S_d0_1_2 h_S_) main_v21 main_c_7
  let main_v23 : IVec S_ 1 := andi main_v18 main_v22
  main_v23

def fn {F : FTy → Type} [FloatOps F] (main_arg0 : FVec F S16x4096x512 .f32) (main_arg1 : FVec F S16x4096x512 .f32) (main_arg2 : FVec F S16x4096x512 .f32) (main_arg3 : FVec F S16x4096x512 .f32) (main_arg4 : FVec F S16x4x4096 .f32) (main_arg5 : FVec F S16x4x4096 .f32) (main_arg6 : FVec F S512 .f32) : IVec S_ 1 :=
  let main_v0 : FVec F S16x4096x512 .f32 := Host.absf main_arg0
  let main_cst : FVec F S_ .f32 := constant S_ .f32 0x7F800000#32
  let main_v1 : FVec F S16x4096x512 .f32 := broadcastInDim S16x4096x512 ![] bcast_S_S16x4096x512 main_cst
  let main_v2 : IVec S16x4096x512 1 := cmpf .olt main_v0 main_v1
  let main_c : IVec S_ 1 := constantI S_ 1 1#1
  let main_v3 : IVec S_ 1 := (fun x v => Host.reduce IntOp.andi x v reducesTo_S16x4096x512_S_d0_1_2 h_S_) main_v2 main_c
  let main_v4 : FVec F S16x4096x512 .f32 := Host.absf main_arg1
  let main_cst_0 : FVec F S_ .f32 := constant S_ .f32 0x7F800000#32
  let main_v5 : FVec F S16x4096x512 .f32 := broadcastInDim S16x4096x512 ![] bcast_S_S16x4096x512 main_cst_0
  let main_v6 : IVec S16x4096x512 1 := cmpf .olt main_v4 main_v5
  let main_c_1 : IVec S_ 1 := constantI S_ 1 1#1
  let main_v7 : IVec S_ 1 := (fun x v => Host.reduce IntOp.andi x v reducesTo_S16x4096x512_S_d0_1_2 h_S_) main_v6 main_c_1
  let main_v8 : IVec S_ 1 := andi main_v3 main_v7
  let main_v9 : FVec F S16x4096x512 .f32 := Host.absf main_arg2
  let main_cst_2 : FVec F S_ .f32 := constant S_ .f32 0x7F800000#32
  let main_v10 : FVec F S16x4096x512 .f32 := broadcastInDim S16x4096x512 ![] bcast_S_S16x4096x512 main_cst_2
  let main_v11 : IVec S16x4096x512 1 := cmpf .olt main_v9 main_v10
  let main_c_3 : IVec S_ 1 := constantI S_ 1 1#1
  let main_v12 : IVec S_ 1 := (fun x v => Host.reduce IntOp.andi x v reducesTo_S16x4096x512_S_d0_1_2 h_S_) main_v11 main_c_3
  let main_v13 : IVec S_ 1 := andi main_v8 main_v12
  let main_v14 : FVec F S16x4x4096 .f32 := Host.absf main_arg4
  let main_cst_4 : FVec F S_ .f32 := constant S_ .f32 0x7F800000#32
  let main_v15 : FVec F S16x4x4096 .f32 := broadcastInDim S16x4x4096 ![] bcast_S_S16x4x4096 main_cst_4
  let main_v16 : IVec S16x4x4096 1 := cmpf .olt main_v14 main_v15
  fn_part1 (F := F) main_arg5 main_v13 main_v16
-- ==== Kernel.lean ====
abbrev S16x4096x512 : Shape := ⟨3, ![16, 4096, 512]⟩
abbrev S16x4x4096 : Shape := ⟨3, ![16, 4, 4096]⟩
abbrev S512 : Shape := ⟨1, ![512]⟩
abbrev S_ : Shape := ⟨0, ![]⟩
abbrev S16x512x4096 : Shape := ⟨3, ![16, 512, 4096]⟩
abbrev S16x1x4x4096 : Shape := ⟨4, ![16, 1, 4, 4096]⟩
abbrev S16x3x4x4096 : Shape := ⟨4, ![16, 3, 4, 4096]⟩
abbrev S16x3x8x4096 : Shape := ⟨4, ![16, 3, 8, 4096]⟩
abbrev S16x4096x4 : Shape := ⟨3, ![16, 4096, 4]⟩
abbrev S16x4096x128 : Shape := ⟨3, ![16, 4096, 128]⟩
abbrev S512x1 : Shape := ⟨2, ![512, 1]⟩
abbrev S512x256 : Shape := ⟨2, ![512, 256]⟩
abbrev S1x1024x512 : Shape := ⟨3, ![1, 1024, 512]⟩
abbrev S1x512x1024 : Shape := ⟨3, ![1, 512, 1024]⟩
abbrev S1x3x8x1024 : Shape := ⟨4, ![1, 3, 8, 1024]⟩
abbrev S1x1024x128 : Shape := ⟨3, ![1, 1024, 128]⟩
abbrev S4x144x128 : Shape := ⟨3, ![4, 144, 128]⟩
abbrev S8x128 : Shape := ⟨2, ![8, 128]⟩
abbrev S256x256 : Shape := ⟨2, ![256, 256]⟩
abbrev S16x256 : Shape := ⟨2, ![16, 256]⟩
abbrev S1x256x128 : Shape := ⟨3, ![1, 256, 128]⟩
abbrev S256x128 : Shape := ⟨2, ![256, 128]⟩
abbrev S1x128x256 : Shape := ⟨3, ![1, 128, 256]⟩
abbrev S128x256 : Shape := ⟨2, ![128, 256]⟩
abbrev S144x256 : Shape := ⟨2, ![144, 256]⟩
abbrev S1x1x1x256 : Shape := ⟨4, ![1, 1, 1, 256]⟩
abbrev S1x256 : Shape := ⟨2, ![1, 256]⟩
abbrev S1x1 : Shape := ⟨2, ![1, 1]⟩
abbrev S1x144x128 : Shape := ⟨3, ![1, 144, 128]⟩
abbrev S144x128 : Shape := ⟨2, ![144, 128]⟩
abbrev S256x1 : Shape := ⟨2, ![256, 1]⟩
abbrev S1x128 : Shape := ⟨2, ![1, 128]⟩
abbrev S256 : Shape := ⟨1, ![256]⟩

abbrev nBuf : Space → Nat
  | .hbm => 54
  | .vmem => 17
  | .smem => 0
  | _ => 0

abbrev bufTy : (tb : Table) → Fin (tcTables nBuf tb) → BufTy
  | .hbm, ⟨0, _⟩ => ⟨S16x4096x512, .f32⟩
  | .hbm, ⟨1, _⟩ => ⟨S16x4096x512, .f32⟩
  | .hbm, ⟨2, _⟩ => ⟨S16x4096x512, .f32⟩
  | .hbm, ⟨3, _⟩ => ⟨S16x4096x512, .f32⟩
  | .hbm, ⟨4, _⟩ => ⟨S16x4x4096, .f32⟩
  | .hbm, ⟨5, _⟩ => ⟨S16x4x4096, .f32⟩
  | .hbm, ⟨6, _⟩ => ⟨S512, .f32⟩
  | .hbm, ⟨7, _⟩ => ⟨S_, .f32⟩
  | .hbm, ⟨8, _⟩ => ⟨S16x4096x512, .f32⟩
  | .hbm, ⟨9, _⟩ => ⟨S16x4096x512, .f32⟩
  | .hbm, ⟨10, _⟩ => ⟨S16x4096x512, .bf16⟩
  | .hbm, ⟨11, _⟩ => ⟨S16x4096x512, .bf16⟩
  | .hbm, ⟨12, _⟩ => ⟨S16x512x4096, .f32⟩
  | .hbm, ⟨13, _⟩ => ⟨S16x512x4096, .bf16⟩
  | .hbm, ⟨14, _⟩ => ⟨S16x4096x512, .f32⟩
  | .hbm, ⟨15, _⟩ => ⟨S16x4096x512, .f32⟩
  | .hbm, ⟨16, _⟩ => ⟨S_, .f32⟩
  | .hbm, ⟨17, _⟩ => ⟨S16x4096x512, .f32⟩
  | .hbm, ⟨18, _⟩ => ⟨S16x4096x512, .f32⟩
  | .hbm, ⟨19, _⟩ => ⟨S_, .f32⟩
  | .hbm, ⟨20, _⟩ => ⟨S16x4096x512, .f32⟩
  | .hbm, ⟨21, _⟩ => ⟨S16x4096x512, .f32⟩
  | .hbm, ⟨22, _⟩ => ⟨S16x4096x512, .bf16⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S16x4x4096, .f32⟩
  | .hbm, ⟨28, _⟩ => ⟨S16x4x4096, .f32⟩
  | .hbm, ⟨29, _⟩ => ⟨S16x4x4096, .f32⟩
  | .hbm, ⟨30, _⟩ => ⟨S16x4x4096, .f32⟩
  | .hbm, ⟨31, _⟩ => ⟨S16x4x4096, .f32⟩
  | .hbm, ⟨32, _⟩ => ⟨S16x4x4096, .f32⟩
  | .hbm, ⟨33, _⟩ => ⟨S_, .f32⟩
  | .hbm, ⟨34, _⟩ => ⟨S_, .f32⟩
  | .hbm, ⟨35, _⟩ => ⟨S16x4x4096, .f32⟩
  | .hbm, ⟨36, _⟩ => ⟨S_, .f32⟩
  | .hbm, ⟨37, _⟩ => ⟨S16x4x4096, .f32⟩
  | .hbm, ⟨38, _⟩ => ⟨S16x4x4096, .f32⟩
  | .hbm, ⟨39, _⟩ => ⟨S16x4x4096, .f32⟩
  | .hbm, ⟨40, _⟩ => ⟨S16x1x4x4096, .f32⟩
  | .hbm, ⟨41, _⟩ => ⟨S16x1x4x4096, .f32⟩
  | .hbm, ⟨42, _⟩ => ⟨S16x1x4x4096, .f32⟩
  | .hbm, ⟨43, _⟩ => ⟨S16x3x4x4096, .f32⟩
  | .hbm, ⟨44, _⟩ => ⟨S_, .i32⟩
  | .hbm, ⟨45, _⟩ => ⟨S_, .f32⟩
  | .hbm, ⟨46, _⟩ => ⟨S16x3x8x4096, .f32⟩
  | .hbm, ⟨47, _⟩ => ⟨S16x4096x4, .f32⟩
  | .hbm, ⟨48, _⟩ => ⟨S_, .i32⟩
  | .hbm, ⟨49, _⟩ => ⟨S_, .f32⟩
  | .hbm, ⟨50, _⟩ => ⟨S16x4096x128, .f32⟩
  | .hbm, ⟨51, _⟩ => ⟨S512x1, .f32⟩
  | .hbm, ⟨52, _⟩ => ⟨S512x256, .f32⟩
  | .hbm, ⟨53, _⟩ => ⟨S16x4096x512, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x3x8x1024, .f32⟩
  | .local _ .vmem, ⟨9, _⟩ => ⟨S1x3x8x1024, .f32⟩
  | .local _ .vmem, ⟨10, _⟩ => ⟨S1x1024x128, .f32⟩
  | .local _ .vmem, ⟨11, _⟩ => ⟨S1x1024x128, .f32⟩
  | .local _ .vmem, ⟨12, _⟩ => ⟨S512x256, .f32⟩
  | .local _ .vmem, ⟨13, _⟩ => ⟨S1x1024x512, .bf16⟩
  | .local _ .vmem, ⟨14, _⟩ => ⟨S1x1024x512, .bf16⟩
  | .local _ .vmem, ⟨15, _⟩ => ⟨S4x144x128, .f32⟩
  | .local _ .vmem, ⟨16, _⟩ => ⟨S8x128, .f32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_call0_call0_cst : Ref sig .tc := ⟨.hbm, 25, rfl⟩
abbrev main_call0_call0_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call1_cst : Ref sig .tc := ⟨.hbm, 33, rfl⟩
abbrev main_call1_v0 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c : Ref sig .tc := ⟨.hbm, 44, rfl⟩
abbrev main_call2_v0 : Ref sig .tc := ⟨.hbm, 45, rfl⟩
abbrev main_v28 : Ref sig .tc := ⟨.hbm, 46, rfl⟩
abbrev main_v29 : Ref sig .tc := ⟨.hbm, 47, rfl⟩
abbrev main_c_4 : Ref sig .tc := ⟨.hbm, 48, rfl⟩
abbrev main_call3_v0 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S16x4096x512 : Shape := ⟨3, ![16, 4096, 512]⟩
abbrev S16x4x4096 : Shape := ⟨3, ![16, 4, 4096]⟩
abbrev S512 : Shape := ⟨1, ![512]⟩
abbrev S16x4096x4x128 : Shape := ⟨4, ![16, 4096, 4, 128]⟩
abbrev S16x4x4096x128 : Shape := ⟨4, ![16, 4, 4096, 128]⟩
abbrev S_ : Shape := ⟨0, ![]⟩
abbrev S16x4x4096x1 : Shape := ⟨4, ![16, 4, 4096, 1]⟩
abbrev S16x4x1x4096 : Shape := ⟨4, ![16, 4, 1, 4096]⟩
abbrev S16x4x4096x4096 : Shape := ⟨4, ![16, 4, 4096, 4096]⟩
abbrev S4096x4096 : Shape := ⟨2, ![4096, 4096]⟩
abbrev S4x1x128 : Shape := ⟨3, ![4, 1, 128]⟩
abbrev S1x4x1x128 : Shape := ⟨4, ![1, 4, 1, 128]⟩

abbrev nBuf : Space → Nat
  | .hbm => 83
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S16x4096x512, .f32⟩
  | .hbm, ⟨2, _⟩ => ⟨S16x4096x512, .f32⟩
  | .hbm, ⟨3, _⟩ => ⟨S16x4096x512, .f32⟩
  | .hbm, ⟨4, _⟩ => ⟨S16x4x4096, .f32⟩
  | .hbm, ⟨5, _⟩ => ⟨S16x4x4096, .f32⟩
  | .hbm, ⟨6, _⟩ => ⟨S512, .f32⟩
  | .hbm, ⟨7, _⟩ => ⟨S16x4096x4x128, .f32⟩
  | .hbm, ⟨8, _⟩ => ⟨S16x4x4096x128, .f32⟩
  | .hbm, ⟨9, _⟩ => ⟨S_, .f32⟩
  | .hbm, ⟨10, _⟩ => ⟨S16x4x4096x128, .f32⟩
  | .hbm, ⟨11, _⟩ => ⟨S16x4x4096x128, .f32⟩
  | .hbm, ⟨12, _⟩ => ⟨S16x4096x4x128, .f32⟩
  | .hbm, ⟨13, _⟩ => ⟨S16x4x4096x128, .f32⟩
  | .hbm, ⟨14, _⟩ => ⟨S16x4096x4x128, .f32⟩
  | .hbm, ⟨15, _⟩ => ⟨S16x4x4096x128, .f32⟩
  | .hbm, ⟨16, _⟩ => ⟨S_, .f32⟩
  | .hbm, ⟨17, _⟩ => ⟨S_, .f32⟩
  | .hbm, ⟨18, _⟩ => ⟨S16x4x4096, .f32⟩
  | .hbm, ⟨19, _⟩ => ⟨S16x4x4096x1, .f32⟩
  | .hbm, ⟨20, _⟩ => ⟨S16x4x1x4096, .f32⟩
  | .hbm, ⟨21, _⟩ => ⟨S16x4x4096x4096, .f32⟩
  | .hbm, ⟨22, _⟩ => ⟨S16x4x4096x4096, .f32⟩
  | .hbm, ⟨23, _⟩ => ⟨S16x4x4096x4096, .f32⟩
  | .hbm, ⟨24, _⟩ => ⟨S16x4x1x4096, .f32⟩
  | .hbm, ⟨25, _⟩ => ⟨S16x4x4096x4096, .f32⟩
  | .hbm, ⟨26, _⟩ => ⟨S16x4x4096x4096, .f32⟩
  | .hbm, ⟨27, _⟩ => ⟨S4096x4096, .i32⟩
  | .hbm, ⟨28, _⟩ => ⟨S4096x4096, .i32⟩
  | .hbm, ⟨29, _⟩ => ⟨S4096x4096, .i1⟩
  | .hbm, ⟨30, _⟩ => ⟨S_, .f32⟩
  | .hbm, ⟨31, _⟩ => ⟨S_, .f32⟩
  | .hbm, ⟨32, _⟩ => ⟨S16x4x4096x4096, .i1⟩
  | .hbm, ⟨33, _⟩ => ⟨S16x4x4096x4096, .f32⟩
  | .hbm, ⟨34, _⟩ => ⟨S16x4x4096x4096, .f32⟩
  | .hbm, ⟨35, _⟩ => ⟨S_, .f32⟩
  | .hbm, ⟨36, _⟩ => ⟨S16x4x4096, .f32⟩
  | .hbm, ⟨37, _⟩ => ⟨S16x4x4096, .f32⟩
  | .hbm, ⟨38, _⟩ => ⟨S16x4x4096x4096, .f32⟩
  | .hbm, ⟨39, _⟩ => ⟨S16x4x4096x1, .f32⟩
  | .hbm, ⟨40, _⟩ => ⟨S16x4x4096x4096, .f32⟩
  | .hbm, ⟨41, _⟩ => ⟨S16x4x4096x4096, .f32⟩
  | .hbm, ⟨42, _⟩ => ⟨S16x4x4096x4096, .f32⟩
  | .hbm, ⟨43, _⟩ => ⟨S16x4x4096x4096, .f32⟩
  | .hbm, ⟨44, _⟩ => ⟨S16x4x4096x128, .f32⟩
  | .hbm, ⟨45, _⟩ => ⟨S_, .f32⟩
  | .hbm, ⟨46, _⟩ => ⟨S16x4x4096, .f32⟩
  | .hbm, ⟨47, _⟩ => ⟨S16x4x4096, .f32⟩
  | .hbm, ⟨48, _⟩ => ⟨S16x4x4096, .f32⟩
  | .hbm, ⟨49, _⟩ => ⟨S16x4x4096, .f32⟩
  | .hbm, ⟨50, _⟩ => ⟨S16x4x4096, .f32⟩
  | .hbm, ⟨51, _⟩ => ⟨S16x4x4096x1, .f32⟩
  | .hbm, ⟨52, _⟩ => ⟨S16x4x4096x128, .f32⟩
  | .hbm, ⟨53, _⟩ => ⟨S16x4x4096x128, .f32⟩
  | .hbm, ⟨54, _⟩ => ⟨S16x4x4096x128, .f32⟩
  | .hbm, ⟨55, _⟩ => ⟨S_, .f32⟩
  | .hbm, ⟨56, _⟩ => ⟨S16x4x4096, .f32⟩
  | .hbm, ⟨57, _⟩ => ⟨S16x4x4096x1, .f32⟩
  | .hbm, ⟨58, _⟩ => ⟨S_, .f32⟩
  | .hbm, ⟨59, _⟩ => ⟨S16x4x4096x1, .f32⟩
  | .hbm, ⟨60, _⟩ => ⟨S16x4x4096x1, .f32⟩
  | .hbm, ⟨61, _⟩ => ⟨S_, .f32⟩
  | .hbm, ⟨62, _⟩ => ⟨S16x4x4096x1, .f32⟩
  | .hbm, ⟨63, _⟩ => ⟨S16x4x4096x1, .f32⟩
  | .hbm, ⟨64, _⟩ => ⟨S16x4x4096x1, .f32⟩
  | .hbm, ⟨65, _⟩ => ⟨S16x4x4096x128, .f32⟩
  | .hbm, ⟨66, _⟩ => ⟨S16x4x4096x128, .f32⟩
  | .hbm, ⟨67, _⟩ => ⟨S4x1x128, .f32⟩
  | .hbm, ⟨68, _⟩ => ⟨S1x4x1x128, .f32⟩
  | .hbm, ⟨69, _⟩ => ⟨S16x4x4096x128, .f32⟩
  | .hbm, ⟨70, _⟩ => ⟨S16x4x4096x128, .f32⟩
  | .hbm, ⟨71, _⟩ => ⟨S16x4096x512, .f32⟩
  | .hbm, ⟨72, _⟩ => ⟨S16x4096x512, .f32⟩
  | .hbm, ⟨73, _⟩ => ⟨S_, .f32⟩
  | .hbm, ⟨74, _⟩ => ⟨S16x4096x512, .f32⟩
  | .hbm, ⟨75, _⟩ => ⟨S16x4096x512, .f32⟩
  | .hbm, ⟨76, _⟩ => ⟨S_, .f32⟩
  | .hbm, ⟨77, _⟩ => ⟨S16x4096x512, .f32⟩
  | .hbm, ⟨78, _⟩ => ⟨S16x4096x512, .f32⟩
  | .hbm, ⟨79, _⟩ => ⟨S16x4096x4x128, .f32⟩
  | .hbm, ⟨80, _⟩ => ⟨S16x4096x512, .f32⟩
  | .hbm, ⟨81, _⟩ => ⟨S16x4096x512, .f32⟩
  | .hbm, ⟨82, _⟩ => ⟨S16x4096x512, .bf16⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_call0_cst : Ref sig .tc := ⟨.hbm, 16, rfl⟩
abbrev main_call0_call0_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_2 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_3 : Ref sig .tc := ⟨.hbm, 55, rfl⟩
abbrev main_v39 : Ref sig .tc := ⟨.hbm, 56, rfl⟩
abbrev main_v40 : Ref sig .tc := ⟨.hbm, 57, rfl⟩
abbrev main_cst_4 : Ref sig .tc := ⟨.hbm, 58, rfl⟩
abbrev main_v41 : Ref sig .tc := ⟨.hbm, 59, rfl⟩
abbrev main_v42 : Ref sig .tc := ⟨.hbm, 60, rfl⟩
abbrev main_cst_5 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_6 : Ref sig .tc := ⟨.hbm, 73, rfl⟩
abbrev main_v54 : Ref sig .tc := ⟨.hbm, 74, rfl⟩
abbrev main_v55 : Ref sig .tc := ⟨.hbm, 75, rfl⟩
abbrev main_cst_7 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]
-- ==== Kernel2.lean ====
abbrev S16x4096x1024 : Shape := ⟨3, ![16, 4096, 1024]⟩
abbrev S16x4096x512 : Shape := ⟨3, ![16, 4096, 512]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S1024x1024 : Shape := ⟨2, ![1024, 1024]⟩
abbrev S1024x5632 : Shape := ⟨2, ![1024, 5632]⟩
abbrev S2816x1024 : Shape := ⟨2, ![2816, 1024]⟩
abbrev S1x512x1024 : Shape := ⟨3, ![1, 512, 1024]⟩
abbrev S1x512x512 : Shape := ⟨3, ![1, 512, 512]⟩
abbrev S512x2816 : Shape := ⟨2, ![512, 2816]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 18
  | .vmem => 14
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .bf16⟩
  | .hbm, ⟨2, _⟩ => ⟨S16x4096x512, .bf16⟩
  | .hbm, ⟨3, _⟩ => ⟨S1x1024x1024, .f32⟩
  | .hbm, ⟨4, _⟩ => ⟨S1x1024, .f32⟩
  | .hbm, ⟨5, _⟩ => ⟨S1x1024x5632, .f32⟩
  | .hbm, ⟨6, _⟩ => ⟨S1x2816x1024, .f32⟩
  | .hbm, ⟨7, _⟩ => ⟨S1024, .f32⟩
  | .hbm, ⟨8, _⟩ => ⟨S1024x1024, .f32⟩
  | .hbm, ⟨9, _⟩ => ⟨S1024x1024, .bf16⟩
  | .hbm, ⟨10, _⟩ => ⟨S1024, .f32⟩
  | .hbm, ⟨11, _⟩ => ⟨S1x1024, .f32⟩
  | .hbm, ⟨12, _⟩ => ⟨S1024x5632, .f32⟩
  | .hbm, ⟨13, _⟩ => ⟨S1024x5632, .bf16⟩
  | .hbm, ⟨14, _⟩ => ⟨S2816x1024, .f32⟩
  | .hbm, ⟨15, _⟩ => ⟨S2816x1024, .bf16⟩
  | .hbm, ⟨16, _⟩ => ⟨S1x1024, .f32⟩
  | .hbm, ⟨17, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x5632, .bf16⟩
  | .local _ .vmem, ⟨9, _⟩ => ⟨S2816x1024, .bf16⟩
  | .local _ .vmem, ⟨10, _⟩ => ⟨S1x1024, .f32⟩
  | .local _ .vmem, ⟨11, _⟩ => ⟨S1x512x1024, .f32⟩
  | .local _ .vmem, ⟨12, _⟩ => ⟨S1x512x1024, .f32⟩
  | .local _ .vmem, ⟨13, _⟩ => ⟨S512x2816, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S16x4096x1024 : Shape := ⟨3, ![16, 4096, 1024]⟩
abbrev S16x4096x512 : Shape := ⟨3, ![16, 4096, 512]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S1024x1024 : Shape := ⟨2, ![1024, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S1024x5632 : Shape := ⟨2, ![1024, 5632]⟩
abbrev S16x4096x5632 : Shape := ⟨3, ![16, 4096, 5632]⟩
abbrev S16x4096x2816 : Shape := ⟨3, ![16, 4096, 2816]⟩
abbrev S2816x1024 : Shape := ⟨2, ![2816, 1024]⟩

abbrev nBuf : Space → Nat
  | .hbm => 66
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .bf16⟩
  | .hbm, ⟨2, _⟩ => ⟨S16x4096x512, .bf16⟩
  | .hbm, ⟨3, _⟩ => ⟨S1x1024x1024, .f32⟩
  | .hbm, ⟨4, _⟩ => ⟨S1x1024, .f32⟩
  | .hbm, ⟨5, _⟩ => ⟨S1x1024x5632, .f32⟩
  | .hbm, ⟨6, _⟩ => ⟨S1x2816x1024, .f32⟩
  | .hbm, ⟨7, _⟩ => ⟨S1024, .f32⟩
  | .hbm, ⟨8, _⟩ => ⟨S16x4096x1024, .bf16⟩
  | .hbm, ⟨9, _⟩ => ⟨S16x4096x1024, .f32⟩
  | .hbm, ⟨10, _⟩ => ⟨S1024x1024, .f32⟩
  | .hbm, ⟨11, _⟩ => ⟨S16x4096x1024, .f32⟩
  | .hbm, ⟨12, _⟩ => ⟨S16x4096x1024, .f32⟩
  | .hbm, ⟨13, _⟩ => ⟨S1024, .f32⟩
  | .hbm, ⟨14, _⟩ => ⟨S16x4096x1024, .f32⟩
  | .hbm, ⟨15, _⟩ => ⟨S_, .f32⟩
  | .hbm, ⟨16, _⟩ => ⟨S16x4096, .f32⟩
  | .hbm, ⟨17, _⟩ => ⟨S16x4096x1, .f32⟩
  | .hbm, ⟨18, _⟩ => ⟨S_, .f32⟩
  | .hbm, ⟨19, _⟩ => ⟨S16x4096x1, .f32⟩
  | .hbm, ⟨20, _⟩ => ⟨S16x4096x1, .f32⟩
  | .hbm, ⟨21, _⟩ => ⟨S_, .f32⟩
  | .hbm, ⟨22, _⟩ => ⟨S16x4096x1, .f32⟩
  | .hbm, ⟨23, _⟩ => ⟨S16x4096x1, .f32⟩
  | .hbm, ⟨24, _⟩ => ⟨S16x4096x1, .f32⟩
  | .hbm, ⟨25, _⟩ => ⟨S16x4096x1024, .f32⟩
  | .hbm, ⟨26, _⟩ => ⟨S16x4096x1024, .f32⟩
  | .hbm, ⟨27, _⟩ => ⟨S1x1x1024, .f32⟩
  | .hbm, ⟨28, _⟩ => ⟨S16x4096x1024, .f32⟩
  | .hbm, ⟨29, _⟩ => ⟨S16x4096x1024, .f32⟩
  | .hbm, ⟨30, _⟩ => ⟨S1024x5632, .f32⟩
  | .hbm, ⟨31, _⟩ => ⟨S16x4096x5632, .f32⟩
  | .hbm, ⟨32, _⟩ => ⟨S16x4096x2816, .f32⟩
  | .hbm, ⟨33, _⟩ => ⟨S16x4096x2816, .f32⟩
  | .hbm, ⟨34, _⟩ => ⟨S16x4096x2816, .f32⟩
  | .hbm, ⟨35, _⟩ => ⟨S16x4096x2816, .f32⟩
  | .hbm, ⟨36, _⟩ => ⟨S_, .f32⟩
  | .hbm, ⟨37, _⟩ => ⟨S16x4096x2816, .f32⟩
  | .hbm, ⟨38, _⟩ => ⟨S16x4096x2816, .f32⟩
  | .hbm, ⟨39, _⟩ => ⟨S_, .f32⟩
  | .hbm, ⟨40, _⟩ => ⟨S16x4096x2816, .f32⟩
  | .hbm, ⟨41, _⟩ => ⟨S16x4096x2816, .f32⟩
  | .hbm, ⟨42, _⟩ => ⟨S16x4096x2816, .f32⟩
  | .hbm, ⟨43, _⟩ => ⟨S16x4096x2816, .f32⟩
  | .hbm, ⟨44, _⟩ => ⟨S2816x1024, .f32⟩
  | .hbm, ⟨45, _⟩ => ⟨S16x4096x1024, .f32⟩
  | .hbm, ⟨46, _⟩ => ⟨S_, .f32⟩
  | .hbm, ⟨47, _⟩ => ⟨S16x4096x1024, .f32⟩
  | .hbm, ⟨48, _⟩ => ⟨S16x4096x1024, .f32⟩
  | .hbm, ⟨49, _⟩ => ⟨S16x4096x1024, .f32⟩
  | .hbm, ⟨50, _⟩ => ⟨S16x4096x1024, .f32⟩
  | .hbm, ⟨51, _⟩ => ⟨S_, .f32⟩
  | .hbm, ⟨52, _⟩ => ⟨S16x4096, .f32⟩
  | .hbm, ⟨53, _⟩ => ⟨S16x4096x1, .f32⟩
  | .hbm, ⟨54, _⟩ => ⟨S_, .f32⟩
  | .hbm, ⟨55, _⟩ => ⟨S16x4096x1, .f32⟩
  | .hbm, ⟨56, _⟩ => ⟨S16x4096x1, .f32⟩
  | .hbm, ⟨57, _⟩ => ⟨S_, .f32⟩
  | .hbm, ⟨58, _⟩ => ⟨S16x4096x1, .f32⟩
  | .hbm, ⟨59, _⟩ => ⟨S16x4096x1, .f32⟩
  | .hbm, ⟨60, _⟩ => ⟨S16x4096x1, .f32⟩
  | .hbm, ⟨61, _⟩ => ⟨S16x4096x1024, .f32⟩
  | .hbm, ⟨62, _⟩ => ⟨S16x4096x1024, .f32⟩
  | .hbm, ⟨63, _⟩ => ⟨S1x1x1024, .f32⟩
  | .hbm, ⟨64, _⟩ => ⟨S16x4096x1024, .f32⟩
  | .hbm, ⟨65, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_2 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_3 : Ref sig .tc := ⟨.hbm, 51, rfl⟩
abbrev main_v31 : Ref sig .tc := ⟨.hbm, 52, rfl⟩
abbrev main_v32 : Ref sig .tc := ⟨.hbm, 53, rfl⟩
abbrev main_cst_4 : Ref sig .tc := ⟨.hbm, 54, rfl⟩
abbrev main_v33 : Ref sig .tc := ⟨.hbm, 55, rfl⟩
abbrev main_v34 : Ref sig .tc := ⟨.hbm, 56, rfl⟩
abbrev main_cst_5 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩

abbrev nD : Nat := 1
abbrev τ : Topo := Topo.v7x

variable {F : FTy → Type} [FloatOps F]
-- ==== Kernel3.lean ====
abbrev S16x4096x1024 : Shape := ⟨3, ![16, 4096, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x1024x3600 : Shape := ⟨3, ![1, 1024, 3600]⟩
abbrev S1x8 : Shape := ⟨2, ![1, 8]⟩
abbrev S1x4 : Shape := ⟨2, ![1, 4]⟩
abbrev S1x4x1024 : Shape := ⟨3, ![1, 4, 1024]⟩
abbrev S1024x3600 : Shape := ⟨2, ![1024, 3600]⟩
abbrev S1024x512 : Shape := ⟨2, ![1024, 512]⟩
abbrev S512x1024 : Shape := ⟨2, ![512, 1024]⟩
abbrev S1024x1024 : Shape := ⟨2, ![1024, 1024]⟩
abbrev S1024x8 : Shape := ⟨2, ![1024, 8]⟩
abbrev S8x1024 : Shape := ⟨2, ![8, 1024]⟩
abbrev S1024x4 : Shape := ⟨2, ![1024, 4]⟩
abbrev S4x1024 : Shape := ⟨2, ![4, 1024]⟩
abbrev S_ : Shape := ⟨0, ![]⟩
abbrev S16x1024 : Shape := ⟨2, ![16, 1024]⟩
abbrev S32x1024 : Shape := ⟨2, ![32, 1024]⟩
abbrev S544x1024 : Shape := ⟨2, ![544, 1024]⟩
abbrev S8 : Shape := ⟨1, ![8]⟩
abbrev S4 : Shape := ⟨1, ![4]⟩
abbrev S16 : Shape := ⟨1, ![16]⟩
abbrev S32 : Shape := ⟨1, ![32]⟩
abbrev S32x1 : Shape := ⟨2, ![32, 1]⟩
abbrev S32x512 : Shape := ⟨2, ![32, 512]⟩
abbrev S512x512 : Shape := ⟨2, ![512, 512]⟩
abbrev S1024 : Shape := ⟨1, ![1024]⟩
abbrev S1024x5632 : Shape := ⟨2, ![1024, 5632]⟩
abbrev S2816x1024 : Shape := ⟨2, ![2816, 1024]⟩
abbrev S16x512x4096 : Shape := ⟨3, ![16, 512, 4096]⟩
abbrev S16x8x4096x128 : Shape := ⟨4, ![16, 8, 4096, 128]⟩
abbrev S16x16x512x256 : Shape := ⟨4, ![16, 16, 512, 256]⟩
abbrev S16x24x4096 : Shape := ⟨3, ![16, 24, 4096]⟩
abbrev S16x4096x512 : Shape := ⟨3, ![16, 4096, 512]⟩
abbrev S16x3x8x4096 : Shape := ⟨4, ![16, 3, 8, 4096]⟩
abbrev S16x4096x128 : Shape := ⟨3, ![16, 4096, 128]⟩
abbrev S1x512x1024 : Shape := ⟨3, ![1, 512, 1024]⟩
abbrev S1x512x512 : Shape := ⟨3, ![1, 512, 512]⟩
abbrev S1x8x512x128 : Shape := ⟨4, ![1, 8, 512, 128]⟩
abbrev S1x2x512x256 : Shape := ⟨4, ![1, 2, 512, 256]⟩
abbrev S1x24x512 : Shape := ⟨3, ![1, 24, 512]⟩
abbrev S1x3x8x512 : Shape := ⟨4, ![1, 3, 8, 512]⟩
abbrev S1x512x128 : Shape := ⟨3, ![1, 512, 128]⟩
abbrev S512x2816 : Shape := ⟨2, ![512, 2816]⟩
abbrev S520x1024 : Shape := ⟨2, ![520, 1024]⟩
abbrev S24x128 : Shape := ⟨2, ![24, 128]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S544x512 : Shape := ⟨2, ![544, 512]⟩
abbrev S16x512 : Shape := ⟨2, ![16, 512]⟩
abbrev S48x512 : Shape := ⟨2, ![48, 512]⟩
abbrev S16x1 : Shape := ⟨2, ![16, 1]⟩
abbrev S16x128 : Shape := ⟨2, ![16, 128]⟩
abbrev S8x512 : Shape := ⟨2, ![8, 512]⟩
abbrev S8x1 : Shape := ⟨2, ![8, 1]⟩
abbrev S8x128 : Shape := ⟨2, ![8, 128]⟩
abbrev S1x1x8x512 : Shape := ⟨4, ![1, 1, 8, 512]⟩
abbrev S24x512 : Shape := ⟨2, ![24, 512]⟩
abbrev S96x512 : Shape := ⟨2, ![96, 512]⟩
abbrev S128x512 : Shape := ⟨2, ![128, 512]⟩
abbrev S512x128 : Shape := ⟨2, ![512, 128]⟩
abbrev S1x1x512x128 : Shape := ⟨4, ![1, 1, 512, 128]⟩
abbrev S1x1x512x256 : Shape := ⟨4, ![1, 1, 512, 256]⟩

abbrev nBuf : Space → Nat
  | .hbm => 89
  | .vmem => 40
  | .smem => 0
  | _ => 0

abbrev bufTy : (tb : Table) → Fin (tcTables nBuf tb) → BufTy
  | .hbm, ⟨0, _⟩ => ⟨S16x4096x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1x1024, .f32⟩
  | .hbm, ⟨5, _⟩ => ⟨S1x1024x3600, .f32⟩
  | .hbm, ⟨6, _⟩ => ⟨S1x8, .f32⟩
  | .hbm, ⟨7, _⟩ => ⟨S1x4, .f32⟩
  | .hbm, ⟨8, _⟩ => ⟨S1x4, .f32⟩
  | .hbm, ⟨9, _⟩ => ⟨S1x4x1024, .f32⟩
  | .hbm, ⟨10, _⟩ => ⟨S1024x3600, .f32⟩
  | .hbm, ⟨11, _⟩ => ⟨S1024x512, .f32⟩
  | .hbm, ⟨12, _⟩ => ⟨S1024x512, .bf16⟩
  | .hbm, ⟨13, _⟩ => ⟨S1024x512, .f32⟩
  | .hbm, ⟨14, _⟩ => ⟨S512x1024, .f32⟩
  | .hbm, ⟨15, _⟩ => ⟨S512x1024, .bf16⟩
  | .hbm, ⟨16, _⟩ => ⟨S1024x1024, .f32⟩
  | .hbm, ⟨17, _⟩ => ⟨S1024x1024, .bf16⟩
  | .hbm, ⟨18, _⟩ => ⟨S1024x512, .f32⟩
  | .hbm, ⟨19, _⟩ => ⟨S512x1024, .f32⟩
  | .hbm, ⟨20, _⟩ => ⟨S512x1024, .bf16⟩
  | .hbm, ⟨21, _⟩ => ⟨S1024x512, .f32⟩
  | .hbm, ⟨22, _⟩ => ⟨S1024x512, .bf16⟩
  | .hbm, ⟨23, _⟩ => ⟨S1024x512, .f32⟩
  | .hbm, ⟨24, _⟩ => ⟨S512x1024, .f32⟩
  | .hbm, ⟨25, _⟩ => ⟨S1024x8, .f32⟩
  | .hbm, ⟨26, _⟩ => ⟨S8x1024, .f32⟩
  | .hbm, ⟨27, _⟩ => ⟨S1024x4, .f32⟩
  | .hbm, ⟨28, _⟩ => ⟨S4x1024, .f32⟩
  | .hbm, ⟨29, _⟩ => ⟨S1024x4, .f32⟩
  | .hbm, ⟨30, _⟩ => ⟨S4x1024, .f32⟩
  | .hbm, ⟨31, _⟩ => ⟨S_, .i32⟩
  | .hbm, ⟨32, _⟩ => ⟨S_, .f32⟩
  | .hbm, ⟨33, _⟩ => ⟨S8x1024, .f32⟩
  | .hbm, ⟨34, _⟩ => ⟨S_, .i32⟩
  | .hbm, ⟨35, _⟩ => ⟨S_, .f32⟩
  | .hbm, ⟨36, _⟩ => ⟨S8x1024, .f32⟩
  | .hbm, ⟨37, _⟩ => ⟨S_, .i32⟩
  | .hbm, ⟨38, _⟩ => ⟨S_, .f32⟩
  | .hbm, ⟨39, _⟩ => ⟨S16x1024, .f32⟩
  | .hbm, ⟨40, _⟩ => ⟨S32x1024, .f32⟩
  | .hbm, ⟨41, _⟩ => ⟨S544x1024, .f32⟩
  | .hbm, ⟨42, _⟩ => ⟨S544x1024, .bf16⟩
  | .hbm, ⟨43, _⟩ => ⟨S8, .f32⟩
  | .hbm, ⟨44, _⟩ => ⟨S4, .f32⟩
  | .hbm, ⟨45, _⟩ => ⟨S4, .f32⟩
  | .hbm, ⟨46, _⟩ => ⟨S_, .i32⟩
  | .hbm, ⟨47, _⟩ => ⟨S_, .f32⟩
  | .hbm, ⟨48, _⟩ => ⟨S8, .f32⟩
  | .hbm, ⟨49, _⟩ => ⟨S_, .i32⟩
  | .hbm, ⟨50, _⟩ => ⟨S_, .f32⟩
  | .hbm, ⟨51, _⟩ => ⟨S8, .f32⟩
  | .hbm, ⟨52, _⟩ => ⟨S_, .i32⟩
  | .hbm, ⟨53, _⟩ => ⟨S_, .f32⟩
  | .hbm, ⟨54, _⟩ => ⟨S16, .f32⟩
  | .hbm, ⟨55, _⟩ => ⟨S32, .f32⟩
  | .hbm, ⟨56, _⟩ => ⟨S32x1, .f32⟩
  | .hbm, ⟨57, _⟩ => ⟨S32x512, .f32⟩
  | .hbm, ⟨58, _⟩ => ⟨S_, .bf16⟩
  | .hbm, ⟨59, _⟩ => ⟨S512x512, .bf16⟩
  | .hbm, ⟨60, _⟩ => ⟨S512x512, .i32⟩
  | .hbm, ⟨61, _⟩ => ⟨S_, .i32⟩
  | .hbm, ⟨62, _⟩ => ⟨S512x512, .i32⟩
  | .hbm, ⟨63, _⟩ => ⟨S512x512, .i32⟩
  | .hbm, ⟨64, _⟩ => ⟨S512x512, .i32⟩
  | .hbm, ⟨65, _⟩ => ⟨S512x512, .i1⟩
  | .hbm, ⟨66, _⟩ => ⟨S_, .bf16⟩
  | .hbm, ⟨67, _⟩ => ⟨S512x512, .bf16⟩
  | .hbm, ⟨68, _⟩ => ⟨S512x512, .bf16⟩
  | .hbm, ⟨69, _⟩ => ⟨S1024, .f32⟩
  | .hbm, ⟨70, _⟩ => ⟨S1x1024, .f32⟩
  | .hbm, ⟨71, _⟩ => ⟨S1024x5632, .f32⟩
  | .hbm, ⟨72, _⟩ => ⟨S1024x5632, .bf16⟩
  | .hbm, ⟨73, _⟩ => ⟨S2816x1024, .f32⟩
  | .hbm, ⟨74, _⟩ => ⟨S2816x1024, .bf16⟩
  | .hbm, ⟨75, _⟩ => ⟨S1024, .f32⟩
  | .hbm, ⟨76, _⟩ => ⟨S1x1024, .f32⟩
  | .hbm, ⟨77, _⟩ => ⟨S4x1024, .f32⟩
  | .hbm, ⟨78, _⟩ => ⟨S16x4096x1024, .f32⟩
  | .hbm, ⟨79, _⟩ => ⟨S16x512x4096, .bf16⟩
  | .hbm, ⟨80, _⟩ => ⟨S16x8x4096x128, .bf16⟩
  | .hbm, ⟨81, _⟩ => ⟨S16x16x512x256, .bf16⟩
  | .hbm, ⟨82, _⟩ => ⟨S16x24x4096, .f32⟩
  | .hbm, ⟨83, _⟩ => ⟨S16x4096x512, .bf16⟩
  | .hbm, ⟨84, _⟩ => ⟨S16x4096x512, .bf16⟩
  | .hbm, ⟨85, _⟩ => ⟨S16x512x4096, .bf16⟩
  | .hbm, ⟨86, _⟩ => ⟨S16x4096x512, .bf16⟩
  | .hbm, ⟨87, _⟩ => ⟨S16x3x8x4096, .f32⟩
  | .hbm, ⟨88, _⟩ => ⟨S16x4096x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S544x1024, .bf16⟩
  | .local _ .vmem, ⟨7, _⟩ => ⟨S1024x512, .bf16⟩
  | .local _ .vmem, ⟨8, _⟩ => ⟨S512x1024, .bf16⟩
  | .local _ .vmem, ⟨9, _⟩ => ⟨S1024x1024, .bf16⟩
  | .local _ .vmem, ⟨10, _⟩ => ⟨S512x1024, .bf16⟩
  | .local _ .vmem, ⟨11, _⟩ => ⟨S1024x512, .bf16⟩
  | .local _ .vmem, ⟨12, _⟩ => ⟨S32x512, .f32⟩
  | .local _ .vmem, ⟨13, _⟩ => ⟨S512x512, .bf16⟩
  | .local _ .vmem, ⟨14, _⟩ => ⟨S4x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x512, .bf16⟩
  | .local _ .vmem, ⟨18, _⟩ => ⟨S1x512x512, .bf16⟩
  | .local _ .vmem, ⟨19, _⟩ => ⟨S1x8x512x128, .bf16⟩
  | .local _ .vmem, ⟨20, _⟩ => ⟨S1x8x512x128, .bf16⟩
  | .local _ .vmem, ⟨21, _⟩ => ⟨S1x2x512x256, .bf16⟩
  | .local _ .vmem, ⟨22, _⟩ => ⟨S1x2x512x256, .bf16⟩
  | .local _ .vmem, ⟨23, _⟩ => ⟨S1x24x512, .f32⟩
  | .local _ .vmem, ⟨24, _⟩ => ⟨S1x24x512, .f32⟩
  | .local _ .vmem, ⟨25, _⟩ => ⟨S1x512x512, .bf16⟩
  | .local _ .vmem, ⟨26, _⟩ => ⟨S1x512x512, .bf16⟩
  | .local _ .vmem, ⟨27, _⟩ => ⟨S1x512x512, .bf16⟩
  | .local _ .vmem, ⟨28, _⟩ => ⟨S1x512x512, .bf16⟩
  | .local _ .vmem, ⟨29, _⟩ => ⟨S1x512x512, .bf16⟩
  | .local _ .vmem, ⟨30, _⟩ => ⟨S1x512x512, .bf16⟩
  | .local _ .vmem, ⟨31, _⟩ => ⟨S1x512x512, .bf16⟩
  | .local _ .vmem, ⟨32, _⟩ => ⟨S1x512x512, .bf16⟩
  | .local _ .vmem, ⟨33, _⟩ => ⟨S1x3x8x512, .f32⟩
  | .local _ .vmem, ⟨34, _⟩ => ⟨S1x3x8x512, .f32⟩
  | .local _ .vmem, ⟨35, _⟩ => ⟨S1x512x128, .f32⟩
  | .local _ .vmem, ⟨36, _⟩ => ⟨S1x512x128, .f32⟩
  | .local _ .vmem, ⟨37, _⟩ => ⟨S512x2816, .bf16⟩
  | .local _ .vmem, ⟨38, _⟩ => ⟨S520x1024, .f32⟩
  | .local _ .vmem, ⟨39, _⟩ => ⟨S24x128, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_call0_v0 : Ref sig .tc := ⟨.hbm, 32, rfl⟩
abbrev main_v21 : Ref sig .tc := ⟨.hbm, 33, rfl⟩
abbrev main_c_0 : Ref sig .tc := ⟨.hbm, 34, rfl⟩
abbrev main_call1_v0 : Ref sig .tc := ⟨.hbm, 35, rfl⟩
abbrev main_v22 : Ref sig .tc := ⟨.hbm, 36, rfl⟩
abbrev main_c_1 : Ref sig .tc := ⟨.hbm, 37, rfl⟩
abbrev main_call2_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_2 : Ref sig .tc := ⟨.hbm, 46, rfl⟩
abbrev main_call3_v0 : Ref sig .tc := ⟨.hbm, 47, rfl⟩
abbrev main_v30 : Ref sig .tc := ⟨.hbm, 48, rfl⟩
abbrev main_c_3 : Ref sig .tc := ⟨.hbm, 49, rfl⟩
abbrev main_call4_v0 : Ref sig .tc := ⟨.hbm, 50, rfl⟩
abbrev main_v31 : Ref sig .tc := ⟨.hbm, 51, rfl⟩
abbrev main_c_4 : Ref sig .tc := ⟨.hbm, 52, rfl⟩
abbrev main_call5_v0 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst : Ref sig .tc := ⟨.hbm, 58, rfl⟩
abbrev main_v36 : Ref sig .tc := ⟨.hbm, 59, rfl⟩
abbrev main_call6_v0 : Ref sig .tc := ⟨.hbm, 60, rfl⟩
abbrev main_call6_c : Ref sig .tc := ⟨.hbm, 61, rfl⟩
abbrev main_call6_v1 : Ref sig .tc := ⟨.hbm, 62, rfl⟩
abbrev main_call6_v2 : Ref sig .tc := ⟨.hbm, 63, rfl⟩
abbrev main_call6_v3 : Ref sig .tc := ⟨.hbm, 64, rfl⟩
abbrev main_call6_v4 : Ref sig .tc := ⟨.hbm, 65, rfl⟩
abbrev main_call6_cst : Ref sig .tc := ⟨.hbm, 66, rfl⟩
abbrev main_call6_v5 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47_0 : Ref sig .tc := ⟨.hbm, 78, rfl⟩
abbrev main_v47_1 : Ref sig .tc := ⟨.hbm, 79, rfl⟩
abbrev main_v47_2 : Ref sig .tc := ⟨.hbm, 80, rfl⟩
abbrev main_v47_3 : Ref sig .tc := ⟨.hbm, 81, rfl⟩
abbrev main_v47_4 : Ref sig .tc := ⟨.hbm, 82, rfl⟩
abbrev main_v47_5 : Ref sig .tc := ⟨.hbm, 83, rfl⟩
abbrev main_v47_6 : Ref sig .tc := ⟨.hbm, 84, rfl⟩
abbrev main_v47_7 : Ref sig .tc := ⟨.hbm, 85, rfl⟩
abbrev main_v47_8 : Ref sig .tc := ⟨.hbm, 86, rfl⟩
abbrev main_v47_9 : Ref sig .tc := ⟨.hbm, 87, rfl⟩
abbrev main_v47_10 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_stg22_0 : Ref sig .tc := ⟨.vmem, 31, rfl⟩
abbrev cc0_stg22_1 : Ref sig .tc := ⟨.vmem, 32, rfl⟩
abbrev cc0_stg23_0 : Ref sig .tc := ⟨.vmem, 33, rfl⟩
abbrev cc0_stg23_1 : Ref sig .tc := ⟨.vmem, 34, rfl⟩
abbrev cc0_stg24_0 : Ref sig .tc := ⟨.vmem, 35, rfl⟩
abbrev cc0_stg24_1 : Ref sig .tc := ⟨.vmem, 36, rfl⟩
abbrev cc0_scratch0 : Ref sig .tc := ⟨.vmem, 37, rfl⟩
abbrev cc0_scratch1 : Ref sig .tc := ⟨.vmem, 38, rfl⟩
abbrev cc0_scratch2 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30
abbrev cc0_sem22_0 : DmaSem sig := 31
abbrev cc0_sem22_1 : DmaSem sig := 32
abbrev cc0_sem23_0 : DmaSem sig := 33
abbrev cc0_sem23_1 : DmaSem sig := 34
abbrev cc0_sem24_0 : DmaSem sig := 35
abbrev cc0_sem24_1 : DmaSem sig := 36

abbrev nD : Nat := 1
abbrev τ : Topo := Topo.v7x

variable {F : FTy → Type} [FloatOps F]

abbrev grid0 : Pipeline.Grid := ⟨1, ![129], ![false]⟩

def k0_cond5 (i : grid0.Coords) : BitVec 1 :=
  let arg0 : BitVec 32 := BitVec.ofNat 32 (i 0).val
  let c128_i32_18 : BitVec 32 := 128#32
  let v34 : BitVec 1 := Scalar.cmpi .slt arg0 c128_i32_18
  let v35 : BitVec 32 := Scalar.extui v34
  let c0_i32_19 : BitVec 32 := 0#32
  let v36 : BitVec 1 := Scalar.cmpi .ne v35 c0_i32_19
  v36

def k0_cond4 (i : grid0.Coords) : BitVec 1 :=
  let arg0 : BitVec 32 := BitVec.ofNat 32 (i 0).val
  let c128_i32 : BitVec 32 := 128#32
  let v31 : BitVec 1 := Scalar.cmpi .eq arg0 c128_i32
  let v32 : BitVec 32 := Scalar.extui v31
  let c0_i32_17 : BitVec 32 := 0#32
  let v33 : BitVec 1 := Scalar.cmpi .ne v32 c0_i32_17
  v33

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c127_i32 : BitVec 32 := 127#32
  let v1 : BitVec 32 := Scalar.maxsi c0_i32_0 v0
  let v2 : BitVec 32 := Scalar.minsi c127_i32 v1
  let c8_i32 : BitVec 32 := 8#32
  let v3 : BitVec 32 := Scalar.divsi v2 c8_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c8_i32 c0_i32_3
  let v10 : BitVec 32 := Scalar.extui v9
  let c0_i32_4 : BitVec 32 := 0#32
  let v11 : BitVec 1 := Scalar.cmpi .slt c8_i32 c0_i32_4
  let v12 : BitVec 32 := Scalar.extui v11
  let v13 : BitVec 32 := Scalar.subi v10 v12
  let v14 : BitVec 1 := Scalar.cmpi .ne v8 v13
  let v15 : BitVec 32 := Scalar.remsi v2 c8_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c0_i32_6 : BitVec 32 := 0#32
  let v20 : BitVec 1 := Scalar.cmpi .eq c8_i32 c0_i32_6
  let c1_i32_7 : BitVec 32 := 1#32
  let v21 : BitVec 32 := Scalar.select v20 c1_i32_7 c8_i32
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let c0_i32_12 : BitVec 32 := 0#32
  ![v19.toNat, v29.toNat, c0_i32_11.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c127_i32 : BitVec 32 := 127#32
  let v1 : BitVec 32 := Scalar.maxsi c0_i32_0 v0
  let v2 : BitVec 32 := Scalar.minsi c127_i32 v1
  let c8_i32 : BitVec 32 := 8#32
  let v3 : BitVec 32 := Scalar.divsi v2 c8_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c8_i32 c0_i32_3
  let v10 : BitVec 32 := Scalar.extui v9
  let c0_i32_4 : BitVec 32 := 0#32
  let v11 : BitVec 1 := Scalar.cmpi .slt c8_i32 c0_i32_4
  let v12 : BitVec 32 := Scalar.extui v11
  let v13 : BitVec 32 := Scalar.subi v10 v12
  let v14 : BitVec 1 := Scalar.cmpi .ne v8 v13
  let v15 : BitVec 32 := Scalar.remsi v2 c8_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c0_i32_6 : BitVec 32 := 0#32
  let v20 : BitVec 1 := Scalar.cmpi .eq c8_i32 c0_i32_6
  let c1_i32_7 : BitVec 32 := 1#32
  let v21 : BitVec 32 := Scalar.select v20 c1_i32_7 c8_i32
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let c0_i32_12 : BitVec 32 := 0#32
  ![v19.toNat, v29.toNat, c0_i32_11.toNat]

def cc0_transform_15 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c127_i32 : BitVec 32 := 127#32
  let v1 : BitVec 32 := Scalar.maxsi c0_i32_0 v0
  let v2 : BitVec 32 := Scalar.minsi c127_i32 v1
  let c8_i32 : BitVec 32 := 8#32
  let v3 : BitVec 32 := Scalar.divsi v2 c8_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c8_i32 c0_i32_3
  let v10 : BitVec 32 := Scalar.extui v9
  let c0_i32_4 : BitVec 32 := 0#32
  let v11 : BitVec 1 := Scalar.cmpi .slt c8_i32 c0_i32_4
  let v12 : BitVec 32 := Scalar.extui v11
  let v13 : BitVec 32 := Scalar.subi v10 v12
  let v14 : BitVec 1 := Scalar.cmpi .ne v8 v13
  let v15 : BitVec 32 := Scalar.remsi v2 c8_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c0_i32_6 : BitVec 32 := 0#32
  let v20 : BitVec 1 := Scalar.cmpi .eq c8_i32 c0_i32_6
  let c1_i32_7 : BitVec 32 := 1#32
  let v21 : BitVec 32 := Scalar.select v20 c1_i32_7 c8_i32
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let v30 : BitVec 32 := Scalar.subi arg0 c0_i32_11
  let c0_i32_12 : BitVec 32 := 0#32
  let c127_i32_13 : BitVec 32 := 127#32
  let v31 : BitVec 32 := Scalar.maxsi c0_i32_12 v30
  let v32 : BitVec 32 := Scalar.minsi c127_i32_13 v31
  let c8_i32_14 : BitVec 32 := 8#32
  let v33 : BitVec 32 := Scalar.divsi v32 c8_i32_14
  let c0_i32_15 : BitVec 32 := 0#32
  let v34 : BitVec 1 := Scalar.cmpi .sgt v32 c0_i32_15
  let v35 : BitVec 32 := Scalar.extui v34
  let c0_i32_16 : BitVec 32 := 0#32
  let v36 : BitVec 1 := Scalar.cmpi .slt v32 c0_i32_16
  let v37 : BitVec 32 := Scalar.extui v36
  let v38 : BitVec 32 := Scalar.subi v35 v37
  let c0_i32_17 : BitVec 32 := 0#32
  let v39 : BitVec 1 := Scalar.cmpi .sgt c8_i32_14 c0_i32_17
  let v40 : BitVec 32 := Scalar.extui v39
  let c0_i32_18 : BitVec 32 := 0#32
  let v41 : BitVec 1 := Scalar.cmpi .slt c8_i32_14 c0_i32_18
  let v42 : BitVec 32 := Scalar.extui v41
  let v43 : BitVec 32 := Scalar.subi v40 v42
  let v44 : BitVec 1 := Scalar.cmpi .ne v38 v43
  let v45 : BitVec 32 := Scalar.remsi v32 c8_i32_14
  let c0_i32_19 : BitVec 32 := 0#32
  let v46 : BitVec 1 := Scalar.cmpi .ne v45 c0_i32_19
  let v47 : BitVec 1 := Scalar.andi v44 v46
  let c1_i32_20 : BitVec 32 := 1#32
  let v48 : BitVec 32 := Scalar.subi v33 c1_i32_20
  let v49 : BitVec 32 := Scalar.select v47 v48 v33
  let c0_i32_21 : BitVec 32 := 0#32
  let v50 : BitVec 1 := Scalar.cmpi .eq c8_i32_14 c0_i32_21
  let c1_i32_22 : BitVec 32 := 1#32
  let v51 : BitVec 32 := Scalar.select v50 c1_i32_22 c8_i32_14
  let v52 : BitVec 32 := Scalar.remsi v32 v51
  let c0_i32_23 : BitVec 32 := 0#32
  let v53 : BitVec 1 := Scalar.cmpi .ne v52 c0_i32_23
  let c0_i32_24 : BitVec 32 := 0#32
  let v54 : BitVec 1 := Scalar.cmpi .slt v52 c0_i32_24
  let c0_i32_25 : BitVec 32 := 0#32
  let v55 : BitVec 1 := Scalar.cmpi .slt v51 c0_i32_25
  let v56 : BitVec 1 := Scalar.xori v54 v55
  let v57 : BitVec 1 := Scalar.andi v56 v53
  let v58 : BitVec 32 := Scalar.addi v52 v51
  let v59 : BitVec 32 := Scalar.select v57 v58 v52
  let c0_i32_26 : BitVec 32 := 0#32
  let c0_i32_27 : BitVec 32 := 0#32
  ![v19.toNat, c0_i32_26.toNat, v59.toNat]

def cc0_transform_16 (i : grid0.Coords) : Fin 4 → Nat :=
  let arg0 : BitVec 32 := BitVec.ofNat 32 (i 0).val
  let c0_i32 : BitVec 32 := 0#32
  let v0 : BitVec 32 := Scalar.subi arg0 c0_i32
  let c0_i32_0 : BitVec 32 := 0#32
  let c127_i32 : BitVec 32 := 127#32
  let v1 : BitVec 32 := Scalar.maxsi c0_i32_0 v0
  let v2 : BitVec 32 := Scalar.minsi c127_i32 v1
  let c8_i32 : BitVec 32 := 8#32
  let v3 : BitVec 32 := Scalar.divsi v2 c8_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c8_i32 c0_i32_3
  let v10 : BitVec 32 := Scalar.extui v9
  let c0_i32_4 : BitVec 32 := 0#32
  let v11 : BitVec 1 := Scalar.cmpi .slt c8_i32 c0_i32_4
  let v12 : BitVec 32 := Scalar.extui v11
  let v13 : BitVec 32 := Scalar.subi v10 v12
  let v14 : BitVec 1 := Scalar.cmpi .ne v8 v13
  let v15 : BitVec 32 := Scalar.remsi v2 c8_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c0_i32_6 : BitVec 32 := 0#32
  let v20 : BitVec 1 := Scalar.cmpi .eq c8_i32 c0_i32_6
  let c1_i32_7 : BitVec 32 := 1#32
  let v21 : BitVec 32 := Scalar.select v20 c1_i32_7 c8_i32
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let v30 : BitVec 32 := Scalar.subi arg0 c0_i32_11
  let c0_i32_12 : BitVec 32 := 0#32
  let c127_i32_13 : BitVec 32 := 127#32
  let v31 : BitVec 32 := Scalar.maxsi c0_i32_12 v30
  let v32 : BitVec 32 := Scalar.minsi c127_i32_13 v31
  let c8_i32_14 : BitVec 32 := 8#32
  let v33 : BitVec 32 := Scalar.divsi v32 c8_i32_14
  let c0_i32_15 : BitVec 32 := 0#32
  let v34 : BitVec 1 := Scalar.cmpi .sgt v32 c0_i32_15
  let v35 : BitVec 32 := Scalar.extui v34
  let c0_i32_16 : BitVec 32 := 0#32
  let v36 : BitVec 1 := Scalar.cmpi .slt v32 c0_i32_16
  let v37 : BitVec 32 := Scalar.extui v36
  let v38 : BitVec 32 := Scalar.subi v35 v37
  let c0_i32_17 : BitVec 32 := 0#32
  let v39 : BitVec 1 := Scalar.cmpi .sgt c8_i32_14 c0_i32_17
  let v40 : BitVec 32 := Scalar.extui v39
  let c0_i32_18 : BitVec 32 := 0#32
  let v41 : BitVec 1 := Scalar.cmpi .slt c8_i32_14 c0_i32_18
  let v42 : BitVec 32 := Scalar.extui v41
  let v43 : BitVec 32 := Scalar.subi v40 v42
  let v44 : BitVec 1 := Scalar.cmpi .ne v38 v43
  let v45 : BitVec 32 := Scalar.remsi v32 c8_i32_14
  let c0_i32_19 : BitVec 32 := 0#32
  let v46 : BitVec 1 := Scalar.cmpi .ne v45 c0_i32_19
  let v47 : BitVec 1 := Scalar.andi v44 v46
  let c1_i32_20 : BitVec 32 := 1#32
  let v48 : BitVec 32 := Scalar.subi v33 c1_i32_20
  let v49 : BitVec 32 := Scalar.select v47 v48 v33
  let c0_i32_21 : BitVec 32 := 0#32
  let v50 : BitVec 1 := Scalar.cmpi .eq c8_i32_14 c0_i32_21
  let c1_i32_22 : BitVec 32 := 1#32
  let v51 : BitVec 32 := Scalar.select v50 c1_i32_22 c8_i32_14
  let v52 : BitVec 32 := Scalar.remsi v32 v51
  let c0_i32_23 : BitVec 32 := 0#32
  let v53 : BitVec 1 := Scalar.cmpi .ne v52 c0_i32_23
  let c0_i32_24 : BitVec 32 := 0#32
  let v54 : BitVec 1 := Scalar.cmpi .slt v52 c0_i32_24
  let c0_i32_25 : BitVec 32 := 0#32
  let v55 : BitVec 1 := Scalar.cmpi .slt v51 c0_i32_25
  let v56 : BitVec 1 := Scalar.xori v54 v55
  let v57 : BitVec 1 := Scalar.andi v56 v53
  let v58 : BitVec 32 := Scalar.addi v52 v51
  let v59 : BitVec 32 := Scalar.select v57 v58 v52
  let c0_i32_26 : BitVec 32 := 0#32
  let c0_i32_27 : BitVec 32 := 0#32
  let c0_i32_28 : BitVec 32 := 0#32
  ![v19.toNat, c0_i32_26.toNat, v59.toNat, c0_i32_27.toNat]

def cc0_transform_17 (i : grid0.Coords) : Fin 4 → Nat :=
  let arg0 : BitVec 32 := BitVec.ofNat 32 (i 0).val
  let c0_i32 : BitVec 32 := 0#32
  let v0 : BitVec 32 := Scalar.subi arg0 c0_i32
  let c0_i32_0 : BitVec 32 := 0#32
  let c127_i32 : BitVec 32 := 127#32
  let v1 : BitVec 32 := Scalar.maxsi c0_i32_0 v0
  let v2 : BitVec 32 := Scalar.minsi c127_i32 v1
  let c8_i32 : BitVec 32 := 8#32
  let v3 : BitVec 32 := Scalar.divsi v2 c8_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c8_i32 c0_i32_3
  let v10 : BitVec 32 := Scalar.extui v9
  let c0_i32_4 : BitVec 32 := 0#32
  let v11 : BitVec 1 := Scalar.cmpi .slt c8_i32 c0_i32_4
  let v12 : BitVec 32 := Scalar.extui v11
  let v13 : BitVec 32 := Scalar.subi v10 v12
  let v14 : BitVec 1 := Scalar.cmpi .ne v8 v13
  let v15 : BitVec 32 := Scalar.remsi v2 c8_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c0_i32_6 : BitVec 32 := 0#32
  let v20 : BitVec 1 := Scalar.cmpi .eq c8_i32 c0_i32_6
  let c1_i32_7 : BitVec 32 := 1#32
  let v21 : BitVec 32 := Scalar.select v20 c1_i32_7 c8_i32
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let c0_i32_12 : BitVec 32 := 0#32
  let c0_i32_13 : BitVec 32 := 0#32
  ![v19.toNat, v29.toNat, c0_i32_11.toNat, c0_i32_12.toNat]

def cc0_transform_18 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c127_i32 : BitVec 32 := 127#32
  let v1 : BitVec 32 := Scalar.maxsi c0_i32_0 v0
  let v2 : BitVec 32 := Scalar.minsi c127_i32 v1
  let c8_i32 : BitVec 32 := 8#32
  let v3 : BitVec 32 := Scalar.divsi v2 c8_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c8_i32 c0_i32_3
  let v10 : BitVec 32 := Scalar.extui v9
  let c0_i32_4 : BitVec 32 := 0#32
  let v11 : BitVec 1 := Scalar.cmpi .slt c8_i32 c0_i32_4
  let v12 : BitVec 32 := Scalar.extui v11
  let v13 : BitVec 32 := Scalar.subi v10 v12
  let v14 : BitVec 1 := Scalar.cmpi .ne v8 v13
  let v15 : BitVec 32 := Scalar.remsi v2 c8_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c0_i32_6 : BitVec 32 := 0#32
  let v20 : BitVec 1 := Scalar.cmpi .eq c8_i32 c0_i32_6
  let c1_i32_7 : BitVec 32 := 1#32
  let v21 : BitVec 32 := Scalar.select v20 c1_i32_7 c8_i32
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let v30 : BitVec 32 := Scalar.subi arg0 c0_i32_11
  let c0_i32_12 : BitVec 32 := 0#32
  let c127_i32_13 : BitVec 32 := 127#32
  let v31 : BitVec 32 := Scalar.maxsi c0_i32_12 v30
  let v32 : BitVec 32 := Scalar.minsi c127_i32_13 v31
  let c8_i32_14 : BitVec 32 := 8#32
  let v33 : BitVec 32 := Scalar.divsi v32 c8_i32_14
  let c0_i32_15 : BitVec 32 := 0#32
  let v34 : BitVec 1 := Scalar.cmpi .sgt v32 c0_i32_15
  let v35 : BitVec 32 := Scalar.extui v34
  let c0_i32_16 : BitVec 32 := 0#32
  let v36 : BitVec 1 := Scalar.cmpi .slt v32 c0_i32_16
  let v37 : BitVec 32 := Scalar.extui v36
  let v38 : BitVec 32 := Scalar.subi v35 v37
  let c0_i32_17 : BitVec 32 := 0#32
  let v39 : BitVec 1 := Scalar.cmpi .sgt c8_i32_14 c0_i32_17
  let v40 : BitVec 32 := Scalar.extui v39
  let c0_i32_18 : BitVec 32 := 0#32
  let v41 : BitVec 1 := Scalar.cmpi .slt c8_i32_14 c0_i32_18
  let v42 : BitVec 32 := Scalar.extui v41
  let v43 : BitVec 32 := Scalar.subi v40 v42
  let v44 : BitVec 1 := Scalar.cmpi .ne v38 v43
  let v45 : BitVec 32 := Scalar.remsi v32 c8_i32_14
  let c0_i32_19 : BitVec 32 := 0#32
  let v46 : BitVec 1 := Scalar.cmpi .ne v45 c0_i32_19
  let v47 : BitVec 1 := Scalar.andi v44 v46
  let c1_i32_20 : BitVec 32 := 1#32
  let v48 : BitVec 32 := Scalar.subi v33 c1_i32_20
  let v49 : BitVec 32 := Scalar.select v47 v48 v33
  let c0_i32_21 : BitVec 32 := 0#32
  let v50 : BitVec 1 := Scalar.cmpi .eq c8_i32_14 c0_i32_21
  let c1_i32_22 : BitVec 32 := 1#32
  let v51 : BitVec 32 := Scalar.select v50 c1_i32_22 c8_i32_14
  let v52 : BitVec 32 := Scalar.remsi v32 v51
  let c0_i32_23 : BitVec 32 := 0#32
  let v53 : BitVec 1 := Scalar.cmpi .ne v52 c0_i32_23
  let c0_i32_24 : BitVec 32 := 0#32
  let v54 : BitVec 1 := Scalar.cmpi .slt v52 c0_i32_24
  let c0_i32_25 : BitVec 32 := 0#32
  let v55 : BitVec 1 := Scalar.cmpi .slt v51 c0_i32_25
  let v56 : BitVec 1 := Scalar.xori v54 v55
  let v57 : BitVec 1 := Scalar.andi v56 v53
  let v58 : BitVec 32 := Scalar.addi v52 v51
  let v59 : BitVec 32 := Scalar.select v57 v58 v52
  let c0_i32_26 : BitVec 32 := 0#32
  let c0_i32_27 : BitVec 32 := 0#32
  ![v19.toNat, c0_i32_26.toNat, v59.toNat]

def cc0_transform_19 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let c127_i32 : BitVec 32 := 127#32
  let v1 : BitVec 32 := Scalar.maxsi c0_i32 v0
  let v2 : BitVec 32 := Scalar.minsi c127_i32 v1
  let c8_i32 : BitVec 32 := 8#32
  let v3 : BitVec 32 := Scalar.divsi v2 c8_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c8_i32 c0_i32_2
  let v10 : BitVec 32 := Scalar.extui v9
  let c0_i32_3 : BitVec 32 := 0#32
  let v11 : BitVec 1 := Scalar.cmpi .slt c8_i32 c0_i32_3
  let v12 : BitVec 32 := Scalar.extui v11
  let v13 : BitVec 32 := Scalar.subi v10 v12
  let v14 : BitVec 1 := Scalar.cmpi .ne v8 v13
  let v15 : BitVec 32 := Scalar.remsi v2 c8_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c0_i32_6 : BitVec 32 := 0#32
  let v20 : BitVec 1 := Scalar.cmpi .eq c8_i32 c0_i32_6
  let c1_i32_7 : BitVec 32 := 1#32
  let v21 : BitVec 32 := Scalar.select v20 c1_i32_7 c8_i32
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let c0_i32_12 : BitVec 32 := 0#32
  ![v19.toNat, v29.toNat, c0_i32_11.toNat]

def cc0_transform_20 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let c127_i32 : BitVec 32 := 127#32
  let v1 : BitVec 32 := Scalar.maxsi c0_i32 v0
  let v2 : BitVec 32 := Scalar.minsi c127_i32 v1
  let c8_i32 : BitVec 32 := 8#32
  let v3 : BitVec 32 := Scalar.divsi v2 c8_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c8_i32 c0_i32_2
  let v10 : BitVec 32 := Scalar.extui v9
  let c0_i32_3 : BitVec 32 := 0#32
  let v11 : BitVec 1 := Scalar.cmpi .slt c8_i32 c0_i32_3
  let v12 : BitVec 32 := Scalar.extui v11
  let v13 : BitVec 32 := Scalar.subi v10 v12
  let v14 : BitVec 1 := Scalar.cmpi .ne v8 v13
  let v15 : BitVec 32 := Scalar.remsi v2 c8_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c0_i32_6 : BitVec 32 := 0#32
  let v20 : BitVec 1 := Scalar.cmpi .eq c8_i32 c0_i32_6
  let c1_i32_7 : BitVec 32 := 1#32
  let v21 : BitVec 32 := Scalar.select v20 c1_i32_7 c8_i32
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let c0_i32_12 : BitVec 32 := 0#32
  ![v19.toNat, v29.toNat, c0_i32_11.toNat]

def cc0_transform_21 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c127_i32 : BitVec 32 := 127#32
  let v1 : BitVec 32 := Scalar.maxsi c0_i32_0 v0
  let v2 : BitVec 32 := Scalar.minsi c127_i32 v1
  let c8_i32 : BitVec 32 := 8#32
  let v3 : BitVec 32 := Scalar.divsi v2 c8_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c8_i32 c0_i32_3
  let v10 : BitVec 32 := Scalar.extui v9
  let c0_i32_4 : BitVec 32 := 0#32
  let v11 : BitVec 1 := Scalar.cmpi .slt c8_i32 c0_i32_4
  let v12 : BitVec 32 := Scalar.extui v11
  let v13 : BitVec 32 := Scalar.subi v10 v12
  let v14 : BitVec 1 := Scalar.cmpi .ne v8 v13
  let v15 : BitVec 32 := Scalar.remsi v2 c8_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c0_i32_6 : BitVec 32 := 0#32
  let v20 : BitVec 1 := Scalar.cmpi .eq c8_i32 c0_i32_6
  let c1_i32_7 : BitVec 32 := 1#32
  let v21 : BitVec 32 := Scalar.select v20 c1_i32_7 c8_i32
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let v30 : BitVec 32 := Scalar.subi arg0 c0_i32_11
  let c0_i32_12 : BitVec 32 := 0#32
  let c127_i32_13 : BitVec 32 := 127#32
  let v31 : BitVec 32 := Scalar.maxsi c0_i32_12 v30
  let v32 : BitVec 32 := Scalar.minsi c127_i32_13 v31
  let c8_i32_14 : BitVec 32 := 8#32
  let v33 : BitVec 32 := Scalar.divsi v32 c8_i32_14
  let c0_i32_15 : BitVec 32 := 0#32
  let v34 : BitVec 1 := Scalar.cmpi .sgt v32 c0_i32_15
  let v35 : BitVec 32 := Scalar.extui v34
  let c0_i32_16 : BitVec 32 := 0#32
  let v36 : BitVec 1 := Scalar.cmpi .slt v32 c0_i32_16
  let v37 : BitVec 32 := Scalar.extui v36
  let v38 : BitVec 32 := Scalar.subi v35 v37
  let c0_i32_17 : BitVec 32 := 0#32
  let v39 : BitVec 1 := Scalar.cmpi .sgt c8_i32_14 c0_i32_17
  let v40 : BitVec 32 := Scalar.extui v39
  let c0_i32_18 : BitVec 32 := 0#32
  let v41 : BitVec 1 := Scalar.cmpi .slt c8_i32_14 c0_i32_18
  let v42 : BitVec 32 := Scalar.extui v41
  let v43 : BitVec 32 := Scalar.subi v40 v42
  let v44 : BitVec 1 := Scalar.cmpi .ne v38 v43
  let v45 : BitVec 32 := Scalar.remsi v32 c8_i32_14
  let c0_i32_19 : BitVec 32 := 0#32
  let v46 : BitVec 1 := Scalar.cmpi .ne v45 c0_i32_19
  let v47 : BitVec 1 := Scalar.andi v44 v46
  let c1_i32_20 : BitVec 32 := 1#32
  let v48 : BitVec 32 := Scalar.subi v33 c1_i32_20
  let v49 : BitVec 32 := Scalar.select v47 v48 v33
  let c0_i32_21 : BitVec 32 := 0#32
  let v50 : BitVec 1 := Scalar.cmpi .eq c8_i32_14 c0_i32_21
  let c1_i32_22 : BitVec 32 := 1#32
  let v51 : BitVec 32 := Scalar.select v50 c1_i32_22 c8_i32_14
  let v52 : BitVec 32 := Scalar.remsi v32 v51
  let c0_i32_23 : BitVec 32 := 0#32
  let v53 : BitVec 1 := Scalar.cmpi .ne v52 c0_i32_23
  let c0_i32_24 : BitVec 32 := 0#32
  let v54 : BitVec 1 := Scalar.cmpi .slt v52 c0_i32_24
  let c0_i32_25 : BitVec 32 := 0#32
  let v55 : BitVec 1 := Scalar.cmpi .slt v51 c0_i32_25
  let v56 : BitVec 1 := Scalar.xori v54 v55
  let v57 : BitVec 1 := Scalar.andi v56 v53
  let v58 : BitVec 32 := Scalar.addi v52 v51
  let v59 : BitVec 32 := Scalar.select v57 v58 v52
  let c0_i32_26 : BitVec 32 := 0#32
  let c0_i32_27 : BitVec 32 := 0#32
  ![v19.toNat, c0_i32_26.toNat, v59.toNat]

def cc0_transform_22 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c127_i32 : BitVec 32 := 127#32
  let v1 : BitVec 32 := Scalar.maxsi c0_i32_0 v0
  let v2 : BitVec 32 := Scalar.minsi c127_i32 v1
  let c8_i32 : BitVec 32 := 8#32
  let v3 : BitVec 32 := Scalar.divsi v2 c8_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c8_i32 c0_i32_3
  let v10 : BitVec 32 := Scalar.extui v9
  let c0_i32_4 : BitVec 32 := 0#32
  let v11 : BitVec 1 := Scalar.cmpi .slt c8_i32 c0_i32_4
  let v12 : BitVec 32 := Scalar.extui v11
  let v13 : BitVec 32 := Scalar.subi v10 v12
  let v14 : BitVec 1 := Scalar.cmpi .ne v8 v13
  let v15 : BitVec 32 := Scalar.remsi v2 c8_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c0_i32_6 : BitVec 32 := 0#32
  let v20 : BitVec 1 := Scalar.cmpi .eq c8_i32 c0_i32_6
  let c1_i32_7 : BitVec 32 := 1#32
  let v21 : BitVec 32 := Scalar.select v20 c1_i32_7 c8_i32
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let c0_i32_12 : BitVec 32 := 0#32
  ![v19.toNat, v29.toNat, c0_i32_11.toNat]

def cc0_transform_23 (i : grid0.Coords) : Fin 4 → Nat :=
  let arg0 : BitVec 32 := BitVec.ofNat 32 (i 0).val
  let c0_i32 : BitVec 32 := 0#32
  let v0 : BitVec 32 := Scalar.subi arg0 c0_i32
  let c0_i32_0 : BitVec 32 := 0#32
  let c127_i32 : BitVec 32 := 127#32
  let v1 : BitVec 32 := Scalar.maxsi c0_i32_0 v0
  let v2 : BitVec 32 := Scalar.minsi c127_i32 v1
  let c8_i32 : BitVec 32 := 8#32
  let v3 : BitVec 32 := Scalar.divsi v2 c8_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c8_i32 c0_i32_3
  let v10 : BitVec 32 := Scalar.extui v9
  let c0_i32_4 : BitVec 32 := 0#32
  let v11 : BitVec 1 := Scalar.cmpi .slt c8_i32 c0_i32_4
  let v12 : BitVec 32 := Scalar.extui v11
  let v13 : BitVec 32 := Scalar.subi v10 v12
  let v14 : BitVec 1 := Scalar.cmpi .ne v8 v13
  let v15 : BitVec 32 := Scalar.remsi v2 c8_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c0_i32_6 : BitVec 32 := 0#32
  let v20 : BitVec 1 := Scalar.cmpi .eq c8_i32 c0_i32_6
  let c1_i32_7 : BitVec 32 := 1#32
  let v21 : BitVec 32 := Scalar.select v20 c1_i32_7 c8_i32
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let v30 : BitVec 32 := Scalar.subi arg0 c0_i32_11
  let c0_i32_12 : BitVec 32 := 0#32
  let c127_i32_13 : BitVec 32 := 127#32
  let v31 : BitVec 32 := Scalar.maxsi c0_i32_12 v30
  let v32 : BitVec 32 := Scalar.minsi c127_i32_13 v31
  let c8_i32_14 : BitVec 32 := 8#32
  let v33 : BitVec 32 := Scalar.divsi v32 c8_i32_14
  let c0_i32_15 : BitVec 32 := 0#32
  let v34 : BitVec 1 := Scalar.cmpi .sgt v32 c0_i32_15
  let v35 : BitVec 32 := Scalar.extui v34
  let c0_i32_16 : BitVec 32 := 0#32
  let v36 : BitVec 1 := Scalar.cmpi .slt v32 c0_i32_16
  let v37 : BitVec 32 := Scalar.extui v36
  let v38 : BitVec 32 := Scalar.subi v35 v37
  let c0_i32_17 : BitVec 32 := 0#32
  let v39 : BitVec 1 := Scalar.cmpi .sgt c8_i32_14 c0_i32_17
  let v40 : BitVec 32 := Scalar.extui v39
  let c0_i32_18 : BitVec 32 := 0#32
  let v41 : BitVec 1 := Scalar.cmpi .slt c8_i32_14 c0_i32_18
  let v42 : BitVec 32 := Scalar.extui v41
  let v43 : BitVec 32 := Scalar.subi v40 v42
  let v44 : BitVec 1 := Scalar.cmpi .ne v38 v43
  let v45 : BitVec 32 := Scalar.remsi v32 c8_i32_14
  let c0_i32_19 : BitVec 32 := 0#32
  let v46 : BitVec 1 := Scalar.cmpi .ne v45 c0_i32_19
  let v47 : BitVec 1 := Scalar.andi v44 v46
  let c1_i32_20 : BitVec 32 := 1#32
  let v48 : BitVec 32 := Scalar.subi v33 c1_i32_20
  let v49 : BitVec 32 := Scalar.select v47 v48 v33
  let c0_i32_21 : BitVec 32 := 0#32
  let v50 : BitVec 1 := Scalar.cmpi .eq c8_i32_14 c0_i32_21
  let c1_i32_22 : BitVec 32 := 1#32
  let v51 : BitVec 32 := Scalar.select v50 c1_i32_22 c8_i32_14
  let v52 : BitVec 32 := Scalar.remsi v32 v51
  let c0_i32_23 : BitVec 32 := 0#32
  let v53 : BitVec 1 := Scalar.cmpi .ne v52 c0_i32_23
  let c0_i32_24 : BitVec 32 := 0#32
  let v54 : BitVec 1 := Scalar.cmpi .slt v52 c0_i32_24
  let c0_i32_25 : BitVec 32 := 0#32
  let v55 : BitVec 1 := Scalar.cmpi .slt v51 c0_i32_25
  let v56 : BitVec 1 := Scalar.xori v54 v55
  let v57 : BitVec 1 := Scalar.andi v56 v53
  let v58 : BitVec 32 := Scalar.addi v52 v51
  let v59 : BitVec 32 := Scalar.select v57 v58 v52
  let c0_i32_26 : BitVec 32 := 0#32
  let c0_i32_27 : BitVec 32 := 0#32
  let c0_i32_28 : BitVec 32 := 0#32
  ![v19.toNat, c0_i32_26.toNat, c0_i32_27.toNat, v59.toNat]

def cc0_transform_24 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c127_i32 : BitVec 32 := 127#32
  let v1 : BitVec 32 := Scalar.maxsi c0_i32_0 v0
  let v2 : BitVec 32 := Scalar.minsi c127_i32 v1
  let c8_i32 : BitVec 32 := 8#32
  let v3 : BitVec 32 := Scalar.divsi v2 c8_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c8_i32 c0_i32_3
  let v10 : BitVec 32 := Scalar.extui v9
  let c0_i32_4 : BitVec 32 := 0#32
  let v11 : BitVec 1 := Scalar.cmpi .slt c8_i32 c0_i32_4
  let v12 : BitVec 32 := Scalar.extui v11
  let v13 : BitVec 32 := Scalar.subi v10 v12
  let v14 : BitVec 1 := Scalar.cmpi .ne v8 v13
  let v15 : BitVec 32 := Scalar.remsi v2 c8_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c0_i32_6 : BitVec 32 := 0#32
  let v20 : BitVec 1 := Scalar.cmpi .eq c8_i32 c0_i32_6
  let c1_i32_7 : BitVec 32 := 1#32
  let v21 : BitVec 32 := Scalar.select v20 c1_i32_7 c8_i32
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let c0_i32_12 : BitVec 32 := 0#32
  ![v19.toNat, v29.toNat, c0_i32_11.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S544x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x8x512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x2x512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x24x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x512x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x512x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x3x8x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x512x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== Reference3Ideal.lean ====
abbrev S16x4096x1024 : Shape := ⟨3, ![16, 4096, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x1024x3600 : Shape := ⟨3, ![1, 1024, 3600]⟩
abbrev S1x8 : Shape := ⟨2, ![1, 8]⟩
abbrev S1x4 : Shape := ⟨2, ![1, 4]⟩
abbrev S1x4x1024 : Shape := ⟨3, ![1, 4, 1024]⟩
abbrev S1024 : Shape := ⟨1, ![1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S1024x5632 : Shape := ⟨2, ![1024, 5632]⟩
abbrev S16x4096x5632 : Shape := ⟨3, ![16, 4096, 5632]⟩
abbrev S16x4096x2816 : Shape := ⟨3, ![16, 4096, 2816]⟩
abbrev S2816x1024 : Shape := ⟨2, ![2816, 1024]⟩
abbrev S1024x3600 : Shape := ⟨2, ![1024, 3600]⟩
abbrev S16x4096x3600 : Shape := ⟨3, ![16, 4096, 3600]⟩
abbrev S16x4096x512 : Shape := ⟨3, ![16, 4096, 512]⟩
abbrev S16x512x4096 : Shape := ⟨3, ![16, 512, 4096]⟩
abbrev S16x16x256x512 : Shape := ⟨4, ![16, 16, 256, 512]⟩
abbrev S16x16x512x256 : Shape := ⟨4, ![16, 16, 512, 256]⟩

abbrev nBuf : Space → Nat
  | .hbm => 89
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1x1024, .f32⟩
  | .hbm, ⟨5, _⟩ => ⟨S1x1024x3600, .f32⟩
  | .hbm, ⟨6, _⟩ => ⟨S1x8, .f32⟩
  | .hbm, ⟨7, _⟩ => ⟨S1x4, .f32⟩
  | .hbm, ⟨8, _⟩ => ⟨S1x4, .f32⟩
  | .hbm, ⟨9, _⟩ => ⟨S1x4x1024, .f32⟩
  | .hbm, ⟨10, _⟩ => ⟨S1024, .f32⟩
  | .hbm, ⟨11, _⟩ => ⟨S16x4096x1024, .f32⟩
  | .hbm, ⟨12, _⟩ => ⟨S_, .f32⟩
  | .hbm, ⟨13, _⟩ => ⟨S16x4096, .f32⟩
  | .hbm, ⟨14, _⟩ => ⟨S16x4096x1, .f32⟩
  | .hbm, ⟨15, _⟩ => ⟨S_, .f32⟩
  | .hbm, ⟨16, _⟩ => ⟨S16x4096x1, .f32⟩
  | .hbm, ⟨17, _⟩ => ⟨S16x4096x1, .f32⟩
  | .hbm, ⟨18, _⟩ => ⟨S_, .f32⟩
  | .hbm, ⟨19, _⟩ => ⟨S16x4096x1, .f32⟩
  | .hbm, ⟨20, _⟩ => ⟨S16x4096x1, .f32⟩
  | .hbm, ⟨21, _⟩ => ⟨S16x4096x1, .f32⟩
  | .hbm, ⟨22, _⟩ => ⟨S16x4096x1024, .f32⟩
  | .hbm, ⟨23, _⟩ => ⟨S16x4096x1024, .f32⟩
  | .hbm, ⟨24, _⟩ => ⟨S1x1x1024, .f32⟩
  | .hbm, ⟨25, _⟩ => ⟨S16x4096x1024, .f32⟩
  | .hbm, ⟨26, _⟩ => ⟨S16x4096x1024, .f32⟩
  | .hbm, ⟨27, _⟩ => ⟨S1024x5632, .f32⟩
  | .hbm, ⟨28, _⟩ => ⟨S16x4096x5632, .f32⟩
  | .hbm, ⟨29, _⟩ => ⟨S16x4096x2816, .f32⟩
  | .hbm, ⟨30, _⟩ => ⟨S16x4096x2816, .f32⟩
  | .hbm, ⟨31, _⟩ => ⟨S16x4096x2816, .f32⟩
  | .hbm, ⟨32, _⟩ => ⟨S16x4096x2816, .f32⟩
  | .hbm, ⟨33, _⟩ => ⟨S_, .f32⟩
  | .hbm, ⟨34, _⟩ => ⟨S16x4096x2816, .f32⟩
  | .hbm, ⟨35, _⟩ => ⟨S16x4096x2816, .f32⟩
  | .hbm, ⟨36, _⟩ => ⟨S_, .f32⟩
  | .hbm, ⟨37, _⟩ => ⟨S16x4096x2816, .f32⟩
  | .hbm, ⟨38, _⟩ => ⟨S16x4096x2816, .f32⟩
  | .hbm, ⟨39, _⟩ => ⟨S16x4096x2816, .f32⟩
  | .hbm, ⟨40, _⟩ => ⟨S16x4096x2816, .f32⟩
  | .hbm, ⟨41, _⟩ => ⟨S2816x1024, .f32⟩
  | .hbm, ⟨42, _⟩ => ⟨S16x4096x1024, .f32⟩
  | .hbm, ⟨43, _⟩ => ⟨S_, .f32⟩
  | .hbm, ⟨44, _⟩ => ⟨S16x4096x1024, .f32⟩
  | .hbm, ⟨45, _⟩ => ⟨S16x4096x1024, .f32⟩
  | .hbm, ⟨46, _⟩ => ⟨S16x4096x1024, .f32⟩
  | .hbm, ⟨47, _⟩ => ⟨S1024, .f32⟩
  | .hbm, ⟨48, _⟩ => ⟨S16x4096x1024, .f32⟩
  | .hbm, ⟨49, _⟩ => ⟨S_, .f32⟩
  | .hbm, ⟨50, _⟩ => ⟨S16x4096, .f32⟩
  | .hbm, ⟨51, _⟩ => ⟨S16x4096x1, .f32⟩
  | .hbm, ⟨52, _⟩ => ⟨S_, .f32⟩
  | .hbm, ⟨53, _⟩ => ⟨S16x4096x1, .f32⟩
  | .hbm, ⟨54, _⟩ => ⟨S16x4096x1, .f32⟩
  | .hbm, ⟨55, _⟩ => ⟨S_, .f32⟩
  | .hbm, ⟨56, _⟩ => ⟨S16x4096x1, .f32⟩
  | .hbm, ⟨57, _⟩ => ⟨S16x4096x1, .f32⟩
  | .hbm, ⟨58, _⟩ => ⟨S16x4096x1, .f32⟩
  | .hbm, ⟨59, _⟩ => ⟨S16x4096x1024, .f32⟩
  | .hbm, ⟨60, _⟩ => ⟨S16x4096x1024, .f32⟩
  | .hbm, ⟨61, _⟩ => ⟨S1x1x1024, .f32⟩
  | .hbm, ⟨62, _⟩ => ⟨S16x4096x1024, .f32⟩
  | .hbm, ⟨63, _⟩ => ⟨S16x4096x1024, .f32⟩
  | .hbm, ⟨64, _⟩ => ⟨S1024x3600, .f32⟩
  | .hbm, ⟨65, _⟩ => ⟨S16x4096x3600, .f32⟩
  | .hbm, ⟨66, _⟩ => ⟨S16x4096x512, .f32⟩
  | .hbm, ⟨67, _⟩ => ⟨S_, .f32⟩
  | .hbm, ⟨68, _⟩ => ⟨S16x4096x512, .f32⟩
  | .hbm, ⟨69, _⟩ => ⟨S16x4096x512, .f32⟩
  | .hbm, ⟨70, _⟩ => ⟨S16x4096x512, .f32⟩
  | .hbm, ⟨71, _⟩ => ⟨S16x4096x512, .f32⟩
  | .hbm, ⟨72, _⟩ => ⟨S16x4096x512, .f32⟩
  | .hbm, ⟨73, _⟩ => ⟨S16x4096x512, .f32⟩
  | .hbm, ⟨74, _⟩ => ⟨S16x4096x512, .f32⟩
  | .hbm, ⟨75, _⟩ => ⟨S_, .f32⟩
  | .hbm, ⟨76, _⟩ => ⟨S16x4096x512, .f32⟩
  | .hbm, ⟨77, _⟩ => ⟨S16x4096x512, .f32⟩
  | .hbm, ⟨78, _⟩ => ⟨S_, .f32⟩
  | .hbm, ⟨79, _⟩ => ⟨S16x4096x512, .f32⟩
  | .hbm, ⟨80, _⟩ => ⟨S16x4096x512, .f32⟩
  | .hbm, ⟨81, _⟩ => ⟨S16x512x4096, .f32⟩
  | .hbm, ⟨82, _⟩ => ⟨S16x512x4096, .bf16⟩
  | .hbm, ⟨83, _⟩ => ⟨S16x16x256x512, .f32⟩
  | .hbm, ⟨84, _⟩ => ⟨S16x16x512x256, .f32⟩
  | .hbm, ⟨85, _⟩ => ⟨S16x16x512x256, .bf16⟩
  | .hbm, ⟨86, _⟩ => ⟨S16x512x4096, .f32⟩
  | .hbm, ⟨87, _⟩ => ⟨S16x512x4096, .bf16⟩
  | .hbm, ⟨88, _⟩ => ⟨S16x4096x512, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_2 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_3 : Ref sig .tc := ⟨.hbm, 49, rfl⟩
abbrev main_v27 : Ref sig .tc := ⟨.hbm, 50, rfl⟩
abbrev main_v28 : Ref sig .tc := ⟨.hbm, 51, rfl⟩
abbrev main_cst_4 : Ref sig .tc := ⟨.hbm, 52, rfl⟩
abbrev main_v29 : Ref sig .tc := ⟨.hbm, 53, rfl⟩
abbrev main_v30 : Ref sig .tc := ⟨.hbm, 54, rfl⟩
abbrev main_cst_5 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_6 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_7 : Ref sig .tc := ⟨.hbm, 75, rfl⟩
abbrev main_v49 : Ref sig .tc := ⟨.hbm, 76, rfl⟩
abbrev main_v50 : Ref sig .tc := ⟨.hbm, 77, rfl⟩
abbrev main_cst_8 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩

abbrev nD : Nat := 1
abbrev τ : Topo := Topo.v7x

variable {F : FTy → Type} [FloatOps F]
-- ==== Proof.Mlstm.Vocab.lean ====
/-
  The words of the recurrence, head by head and chunk by chunk. One chunk is 256 tokens, one head 128 channels; a grid point holds four chunks of
  four heads. Each definition is one formula over the blocks a chunk loads, the same for every head and chunk.
-/
module

public import proofs.«01_k».proof.Proof.Gen.KernelIdeal.Frame
public import Idealize.ShloMosaic.Lib.Pipeline.ReadBack
public import Idealize.ShloMosaic.Lib.Pointwise

@[expose] public section

noncomputable section

namespace Cert.KernelIdeal.Mlstm

open Cert.KernelIdeal Cert.KernelIdeal.Gen Idealize.ShloMosaic

variable {F : FTy → Type} [FloatOps F]

/-! ## Where the blocks of a chunk and head lie -/

theorem inbAct : ∀ ci hd : Fin 4, ∀ a, (![0, 256 * ci.val, 128 * hd.val] : Fin 3 → ℕ) a + S1x256x128.size a ≤ S1x1024x512.size a := by decide
theorem inbVal : ∀ ci hd : Fin 4, ∀ a, (![0, 128 * hd.val, 256 * ci.val] : Fin 3 → ℕ) a + S1x128x256.size a ≤ S1x512x1024.size a := by decide
theorem inbStat : ∀ (r : Fin 3) (ci hd : Fin 4), ∀ a, (![0, r.val, hd.val, 256 * ci.val] : Fin 4 → ℕ) a + S1x1x1x256.size a ≤ S1x3x8x1024.size a := by
  decide
theorem inbTok : ∀ ci : Fin 4, ∀ a, (![0, 256 * ci.val, 0] : Fin 3 → ℕ) a + S1x256x128.size a ≤ S1x1024x128.size a := by decide
theorem inbGain : ∀ hd : Fin 4, ∀ a, (![128 * hd.val, 0] : Fin 2 → ℕ) a + S128x256.size a ≤ S512x256.size a := by decide
theorem inbState : ∀ hd : Fin 4, ∀ a, (![hd.val, 0, 0] : Fin 3 → ℕ) a + S1x144x128.size a ≤ S4x144x128.size a := by decide
theorem inbPrev : ∀ hd : Fin 4, ∀ a, (![hd.val, 0] : Fin 2 → ℕ) a + S1x1.size a ≤ S8x128.size a := by decide
theorem inbRow : ∀ hd : Fin 4, ∀ a, (![hd.val, 0] : Fin 2 → ℕ) a + S1x128.size a ≤ S8x128.size a := by decide
theorem slicesTok : ∀ hd : Fin 4, S256x128.Slices ![0, 24 + hd.val] S256x1 := by decide

/-- 256 tokens of one head's 128 channels, tokens down. -/
def act (x : Vec F S1x1024x512 .bf16) (ci hd : Fin 4) : Vec F S1x256x128 .bf16 := View.ld x (Rect.unit _ S1x256x128.size (inbAct ci hd))
/-- The same of the values, tokens across. -/
def val (x : Vec F S1x512x1024 .bf16) (ci hd : Fin 4) : Vec F S1x128x256 .bf16 := View.ld x (Rect.unit _ S1x128x256.size (inbVal ci hd))
/-- One of the three rows of gate statistics: the stabiliser, the gate, the denominator's floor. -/
def stat (x : Vec F S1x3x8x1024 .f32) (r : Fin 3) (ci hd : Fin 4) : Vec F S1x1x1x256 .f32 :=
  View.ld x (Rect.unit _ S1x1x1x256.size (inbStat r ci hd))
/-- The gates with the tokens down. -/
def tok (x : Vec F S1x1024x128 .f32) (ci : Fin 4) : Vec F S1x256x128 .f32 := View.ld x (Rect.unit _ S1x256x128.size (inbTok ci))
/-- One head's gains. -/
def gain (x : Vec F S512x256 .f32) (hd : Fin 4) : Vec F S128x256 .f32 := View.ld x (Rect.unit _ S128x256.size (inbGain hd))
/-- One head's state. -/
def state (x : Vec F S4x144x128 .f32) (hd : Fin 4) : Vec F S1x144x128 .f32 := View.ld x (Rect.unit _ S1x144x128.size (inbState hd))
/-- The stabiliser one head's state is kept at. -/
def prev (x : Vec F S8x128 .f32) (hd : Fin 4) : Vec F S1x1 .f32 := View.ld x (Rect.unit _ S1x1.size (inbPrev hd))

/-! ## One chunk of one head -/

/-- The values with a row of ones under them (and fifteen rows of zeros): the numerator's rows and the denominator's. -/
def aug (v : Vec F S1x128x256 .bf16) : FVec F S144x256 .bf16 :=
  concatenate S144x256 0 [⟨S128x256, shapeCast S128x256 v shapeCasts_S1x128x256_S128x256⟩, ⟨S16x256, k0_pay5⟩] concatenates_S128x256_S16x256_S144x256_d0

/-- A row of statistics. -/
def row (s : Vec F S1x1x1x256 .f32) : FVec F S1x256 .f32 := shapeCast S1x256 s shapeCasts_S1x1x1x256_S1x256

/-- Its last entry: the stabiliser at the chunk's end. -/
def last (s : Vec F S1x1x1x256 .f32) : FVec F S1x1 .f32 := extractStridedSlice S1x1 ![0, 255] (row s) slices_S1x256_o0_255_S1x1

/-- Queries or keys as a matrix. -/
def mat (x : Vec F S1x256x128 .bf16) : FVec F S256x128 .bf16 := shapeCast S256x128 x shapeCasts_S1x256x128_S256x128

/-- The state after a chunk. -/
def next (k : Vec F S1x256x128 .bf16) (v : Vec F S1x128x256 .bf16) (mr ar : Vec F S1x1x1x256 .f32) (mp : Vec F S1x1 .f32)
    (C : Vec F S1x144x128 .f32) : FVec F S1x144x128 .f32 :=
  let vw : FVec F S144x256 .bf16 := truncf .bf16 (mulf (extf .f32 (aug v) bitsLt_bf16_f32)
    (broadcastTo S144x256 (exp2 (subf (row ar) (broadcastTo S1x256 (last mr) broadcasts_S1x1_S1x256))) broadcasts_S1x256_S144x256)) bitsLt_bf16_f32
  shapeCast S1x144x128 (addf
    (mulf (broadcastTo S144x128 (exp2 (subf mp (last mr))) broadcasts_S1x1_S144x128) (shapeCast S144x128 C shapeCasts_S1x144x128_S144x128))
    (matmul dot_S144x256_S256x128_S144x128_1_0_0_1_n_n none vw (mat k) (constant S144x128 .f32 0x00000000#32))) shapeCasts_S144x128_S1x144x128

/-- The weights of a chunk's keys for its queries. -/
def weights (q k : Vec F S1x256x128 .bf16) (mr : Vec F S1x1x1x256 .f32) (t : Vec F S1x256x128 .f32) (hd : Fin 4) : FVec F S256x256 .bf16 :=
  truncf .bf16 (mulf (matmul dot_S256x128_S256x128_S256x256_1_1_0_0_n_n none (mat k) (mat q) (constant S256x256 .f32 0x00000000#32))
    (select k0_pay4 (exp2 (subf
      (broadcastTo S256x256 (extractStridedSlice S256x1 ![0, 24 + hd.val] (shapeCast S256x128 t shapeCasts_S1x256x128_S256x128) (slicesTok hd))
        broadcasts_S256x1_S256x256)
      (broadcastTo S256x256 (row mr) broadcasts_S1x256_S256x256)))
      (broadcast S256x256 (Scalar.ofBits .f32 0x00000000#32)))) bitsLt_bf16_f32

/-- Numerators and denominator of a chunk's queries: what the state gives, and what the chunk's own keys give. -/
def total (q k : Vec F S1x256x128 .bf16) (v : Vec F S1x128x256 .bf16) (mr : Vec F S1x1x1x256 .f32) (t : Vec F S1x256x128 .f32) (hd : Fin 4)
    (mp : Vec F S1x1 .f32) (C : Vec F S1x144x128 .f32) : FVec F S144x256 .f32 :=
  addf
    (mulf (broadcastTo S144x256 (exp2 (subf (broadcastTo S1x256 mp broadcasts_S1x1_S1x256) (row mr))) broadcasts_S1x256_S144x256)
      (matmul dot_S144x128_S256x128_S144x256_1_1_0_0_n_n none
        (truncf .bf16 (shapeCast S144x128 C shapeCasts_S1x144x128_S144x128) bitsLt_bf16_f32) (mat q) (constant S144x256 .f32 0x00000000#32)))
    (matmul dot_S144x256_S256x256_S144x256_1_0_0_1_n_n none (aug v) (weights q k mr t hd) (constant S144x256 .f32 0x00000000#32))

/-- The head's output before its norm. -/
def ratio (tot : FVec F S144x256 .f32) (fm : Vec F S1x1x1x256 .f32) : FVec F S128x256 .f32 :=
  mulf (extractStridedSlice S128x256 ![0, 0] tot slices_S144x256_o0_0_S128x256)
    (broadcastTo S128x256 (divf (broadcast S1x256 (Scalar.ofBits .f32 0x3F800000#32))
      (maximumf (absf (extractStridedSlice S1x256 ![128, 0] tot slices_S144x256_o128_0_S1x256))
        (exp2 (subf (broadcast S1x256 (Scalar.ofBits .f32 0x00000000#32)) (row fm))))) broadcasts_S1x256_S128x256)

/-- The norm over the head's channels, the gain and the output gate. -/
def output (h : FVec F S128x256 .f32) (g : Vec F S128x256 .f32) (o : Vec F S1x256x128 .bf16) : FVec F S1x256x128 .bf16 :=
  let scale : FVec F S1x256 .f32 := rsqrt (addf (divf (shapeCast S1x256
    (multiReduction .add [0] S256 (mulf h h) 0x00000000#32 reduces_S128x256_S256 (.inl rfl) rfl) shapeCasts_S256_S1x256)
    (broadcast S1x256 (Scalar.ofBits .f32 0x43000000#32))) (broadcast S1x256 (Scalar.ofBits .f32 0x358637BD#32)))
  shapeCast S1x256x128 (truncf .bf16 (mulf (extf .f32 (mat o) bitsLt_bf16_f32)
    (transpose S256x128 [1, 0] (mulf (mulf h (broadcastTo S128x256 scale broadcasts_S1x256_S128x256))
      (shapeCast S128x256 g shapeCasts_S128x256_S128x256)) transposes_S128x256_p1_0_S256x128)) bitsLt_bf16_f32) shapeCasts_S256x128_S1x256x128

/-! ## A grid point: four chunks of four heads -/

/-- The blocks of a grid point. -/
structure Blocks (F : FTy → Type) [FloatOps F] where
  q : Vec F S1x1024x512 .bf16
  k : Vec F S1x1024x512 .bf16
  v : Vec F S1x512x1024 .bf16
  o : Vec F S1x1024x512 .bf16
  s : Vec F S1x3x8x1024 .f32
  t : Vec F S1x1024x128 .f32
  g : Vec F S512x256 .f32

/-- The stabiliser a head's state is kept at before each chunk. -/
def before (b : Blocks F) (m : Fin 4 → Vec F S1x1 .f32) : ℕ → Fin 4 → Vec F S1x1 .f32
  | 0, hd => m hd
  | n + 1, hd => fun _ => last (stat b.s 0 (Fin.ofNat 4 n) hd) (ix2 0 0)

/-- A head's state before each chunk. -/
def states (b : Blocks F) (m : Fin 4 → Vec F S1x1 .f32) (C : Fin 4 → Vec F S1x144x128 .f32) : ℕ → Fin 4 → Vec F S1x144x128 .f32
  | 0, hd => C hd
  | n + 1, hd => next (act b.k (Fin.ofNat 4 n) hd) (val b.v (Fin.ofNat 4 n) hd) (stat b.s 0 (Fin.ofNat 4 n) hd) (stat b.s 1 (Fin.ofNat 4 n) hd)
      (before b m n hd) (states b m C n hd)

/-- The block a chunk writes for a head. -/
def written (b : Blocks F) (m : Fin 4 → Vec F S1x1 .f32) (C : Fin 4 → Vec F S1x144x128 .f32) (ci hd : Fin 4) : Vec F S1x256x128 .bf16 :=
  output (ratio (total (act b.q ci hd) (act b.k ci hd) (val b.v ci hd) (stat b.s 0 ci hd) (tok b.t ci) hd (before b m ci hd) (states b m C ci hd))
    (stat b.s 2 ci hd)) (gain b.g hd) (act b.o ci hd)

/-! ## Gluing the blocks -/

/-- The output block from what each chunk wrote for each head. -/
def glue (f : Fin 4 → Fin 4 → Vec F S1x256x128 .bf16) : Vec F S1x1024x512 .bf16 := fun i =>
  f (Fin.ofNat 4 ((i 1).val / 256)) (Fin.ofNat 4 ((i 2).val / 128))
    (ix3 0 ⟨(i 1).val % 256, Nat.mod_lt _ (by decide)⟩ ⟨(i 2).val % 128, Nat.mod_lt _ (by decide)⟩)

theorem glue_emb (f : Fin 4 → Fin 4 → Vec F S1x256x128 .bf16) (ci hd : Fin 4)
    (x : (Rect.unit (s := S1x1024x512) _ S1x256x128.size (inbAct ci hd)).shape.Idx) :
    glue f ((Rect.unit (s := S1x1024x512) _ S1x256x128.size (inbAct ci hd)).emb x) = f ci hd x := by
  have h1 : (x 1).val < 256 := (x 1).isLt
  have h2 : (x 2).val < 128 := (x 2).isLt
  have e1 : (((Rect.unit (s := S1x1024x512) _ S1x256x128.size (inbAct ci hd)).emb x) 1).val = 256 * ci.val + (x 1).val := by
    simp [Rect.emb, Rect.unit]
  have e2 : (((Rect.unit (s := S1x1024x512) _ S1x256x128.size (inbAct ci hd)).emb x) 2).val = 128 * hd.val + (x 2).val := by
    simp [Rect.emb, Rect.unit]
  have a : (256 * ci.val + (x 1).val) / 256 = ci.val := by omega
  have b : (128 * hd.val + (x 2).val) / 128 = hd.val := by omega
  unfold glue
  congr 1
  · exact Fin.ext (by rw [e1, a]; exact Nat.mod_eq_of_lt ci.isLt)
  · exact Fin.ext (by rw [e2, b]; exact Nat.mod_eq_of_lt hd.isLt)
  · funext d
    fin_cases d
    · exact Fin.ext (by have := (x 0).isLt; simp at this ⊢; omega)
    · exact Fin.ext (by simp only [ix3]; simp [e1]; omega)
    · exact Fin.ext (by simp only [ix3]; simp [e2]; omega)

/-- The state's array from each head's. -/
def stack (f : Fin 4 → Vec F S1x144x128 .f32) : Vec F S4x144x128 .f32 := fun i => f (i 0) (ix3 0 (i 1) (i 2))

theorem stack_emb (f : Fin 4 → Vec F S1x144x128 .f32) (hd : Fin 4)
    (x : (Rect.unit (s := S4x144x128) _ S1x144x128.size (inbState hd)).shape.Idx) :
    stack f ((Rect.unit (s := S4x144x128) _ S1x144x128.size (inbState hd)).emb x) = f hd x := by
  have h0 : (x 0).val = 0 := by have := (x 0).isLt; simp at this; omega
  have e0 : ((Rect.unit (s := S4x144x128) _ S1x144x128.size (inbState hd)).emb x) 0 = hd :=
    Fin.ext (by simp [Rect.emb, Rect.unit, h0])
  unfold stack
  rw [e0]
  congr 1
  funext d
  fin_cases d
  · exact Fin.ext (by simp [h0])
  · exact Fin.ext (by simp [ix3, Rect.emb, Rect.unit])
  · exact Fin.ext (by simp [ix3, Rect.emb, Rect.unit])

/-! ## The stabiliser stored along a row, read back at the row's first place -/

theorem prev_stored {κ : Kind} {sp : Space} (v : View sig κ sp S8x128 .f32) {o : ℕ} (inb) (inb') (w) (L) :
    v.readCov (Val := Elt F) (⟨Rect.unit (s := S8x128) ![o, 0] ![1, 128] inb, w⟩ :: L) (Rect.unit (s := S8x128) ![o, 0] ![1, 1] inb').toLoadRect
      = fun _ => w (ix2 0 0) := by
  rw [View.readCov_eq_canon']
  funext j
  have hj : (Rect.unit (s := S8x128) ![o, 0] ![1, 1] inb').toLoadRect.idx j
      = (Rect.unit (s := S8x128) ![o, 0] ![1, 128] inb).emb (ix2 0 0) := by
    funext d
    fin_cases d
    · exact Fin.ext (by have := (j 0).isLt; simp at this; simp [Rect.emb, Rect.unit, ix2, LoadRect.idx, this])
    · exact Fin.ext (by have := (j 1).isLt; simp at this; simp [Rect.emb, Rect.unit, ix2, LoadRect.idx, this])
  rw [hj, View.canon_cons_emb]

theorem spread_first (e : FVec F S1x1 .f32) :
    shapeCast S1x128 (broadcastTo S1x128 (shapeCast S1x1 e shapeCasts_S1x1_S1x1) broadcasts_S1x1_S1x128) shapeCasts_S1x128_S1x128
      (ix2 0 0) = e (ix2 0 0) := by
  pointwise

end Cert.KernelIdeal.Mlstm

end
-- ==== Proof.Mlstm.Chunk.lean ====
/-
  One chunk of one head over the reals: what the next state, the totals and the ratio are at an index when the chunk's blocks are real numbers.
-/
module

public import proofs.«01_k».proof.Proof.Mlstm.Vocab
public import Idealize.ShloMosaic.Lib.IdealHost
public import Idealize.ShloMosaic.Lib.WordCmp

@[expose] public section

noncomputable section

namespace Cert.KernelIdeal.Mlstm

open Cert.KernelIdeal Cert.KernelIdeal.Gen Idealize.ShloMosaic

/-! ## Powers of two and sums of reals -/

/-- `2 ^ x`. -/
def two (x : ℝ) : ℝ := Real.exp (x * Real.log 2)

theorem two_pos (x : ℝ) : 0 < two x := Real.exp_pos _
theorem two_add (x y : ℝ) : two (x + y) = two x * two y := by rw [two, add_mul, Real.exp_add]; rfl
theorem max_coe (x y : ℝ) : max (x : EReal) (y : EReal) = ((max x y : ℝ) : EReal) := (EReal.coe_strictMono.monotone.map_max).symm
theorem exp2_coe (x : ℝ) : Ideal.exp2 (x : EReal) = (two x : EReal) := by
  show ((Real.rpow 2 x : ℝ) : EReal) = _
  rw [two, mul_comm, ← Real.rpow_def_of_pos (by norm_num : (0 : ℝ) < 2)]
  rfl
theorem abs_coe (x : ℝ) : max (x : EReal) (-x) = ((|x| : ℝ) : EReal) := by
  rw [← EReal.coe_neg, max_coe]; rfl
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-! ## The rows under the values -/

/-- The values, a row of ones under them, zeros under that. -/
def augR (V : Fin 128 → ℝ) (r : Fin 144) : ℝ := if h : r.val < 128 then V ⟨r.val, h⟩ else if r.val = 128 then 1 else 0

theorem ones_apply (r : Fin 16) (x : Fin 256) : k0_pay5 (F := Ideal) (ix2 r x) = ((if r.val = 0 then 1 else 0 : ℝ) : EReal) := by
  unfold k0_pay5
  pointwise
  rw [WordCmp.cmpi_eq_ofNat (by omega) (by norm_num)]
  by_cases h : r.val = 0 <;> simp [h, Scalar.select]

theorem causal_apply (x t : Fin 256) {α : Type} (a b : α) : Scalar.select (k0_pay4 (ix2 x t)) a b = if x ≤ t then a else b := by
  unfold k0_pay4
  pointwise
  rw [WordCmp.cmpi_sle_ofNat (by omega) (by omega)]
  by_cases h : x ≤ t
  · simp [Scalar.select, h]
  · simp [Scalar.select, h]

theorem aug_coe {v : Vec Ideal S1x128x256 .bf16} {V : Fin 256 → Fin 128 → ℝ} (hv : ∀ e s, v (ix3 0 e s) = ((V s e : ℝ) : EReal)) (r : Fin 144) (s : Fin 256) :
    aug v (ix2 r s) = ((augR (V s) r : ℝ) : EReal) := by
  unfold aug
  pointwise
  unfold augR
  split
  · exact hv _ _
  · rw [ones_apply]
    congr 1
    exact if_congr (by simp; omega) rfl rfl

/-! ## The chunk -/

theorem next_coe {k : Vec Ideal S1x256x128 .bf16} {v : Vec Ideal S1x128x256 .bf16} {mr ar : Vec Ideal S1x1x1x256 .f32} {mp : Vec Ideal S1x1 .f32}
    {C : Vec Ideal S1x144x128 .f32} {K V : Fin 256 → Fin 128 → ℝ} {M A : Fin 256 → ℝ} {p : ℝ} {S : Fin 144 → Fin 128 → ℝ}
    (hk : ∀ s d, k (ix3 0 s d) = ((K s d : ℝ) : EReal)) (hv : ∀ e s, v (ix3 0 e s) = ((V s e : ℝ) : EReal))
    (hm : ∀ s, mr (ix4 0 0 0 s) = ((M s : ℝ) : EReal)) (ha : ∀ s, ar (ix4 0 0 0 s) = ((A s : ℝ) : EReal))
    (hp : mp (ix2 0 0) = ((p : ℝ) : EReal)) (hC : ∀ r d, C (ix3 0 r d) = ((two (-p) * S r d : ℝ) : EReal)) (r : Fin 144) (d : Fin 128) :
    next k v mr ar mp C (ix3 0 r d) = ((two (-M 255) * (S r d + ∑ s, augR (V s) r * two (A s) * K s d) : ℝ) : EReal) := by
  have e : next k v mr ar mp C (ix3 0 r d) = Ideal.exp2 (mp (ix2 0 0) - mr (ix4 0 0 0 255)) * C (ix3 0 r d)
      + ∑ x, aug v (ix2 r x) * Ideal.exp2 (ar (ix4 0 0 0 x) - mr (ix4 0 0 0 255)) * k (ix3 0 x d) := by
    unfold next
    pointwise [row, last, mat]
    rfl
  rw [e, hp, hm, hC, ← EReal.coe_sub, exp2_coe]
  simp only [aug_coe hv, ha, hk, ← EReal.coe_sub, exp2_coe, ← EReal.coe_mul, sum_coe, ← EReal.coe_add]
  congr 1
  rw [mul_add, Finset.mul_sum]
  congr 1
  · rw [← mul_assoc, ← two_add]; congr 2; ring
  · refine Finset.sum_congr rfl fun s _ => ?_
    rw [sub_eq_add_neg, two_add]; ring

theorem total_coe {q k : Vec Ideal S1x256x128 .bf16} {v : Vec Ideal S1x128x256 .bf16} {mr : Vec Ideal S1x1x1x256 .f32} {tk : Vec Ideal S1x256x128 .f32}
    {hd : Fin 4} {mp : Vec Ideal S1x1 .f32} {C : Vec Ideal S1x144x128 .f32} {Q K V : Fin 256 → Fin 128 → ℝ} {M A : Fin 256 → ℝ} {p : ℝ}
    {S : Fin 144 → Fin 128 → ℝ} (hq : ∀ s d, q (ix3 0 s d) = ((Q s d : ℝ) : EReal))
    (hk : ∀ s d, k (ix3 0 s d) = ((K s d : ℝ) : EReal)) (hv : ∀ e s, v (ix3 0 e s) = ((V s e : ℝ) : EReal))
    (hm : ∀ s, mr (ix4 0 0 0 s) = ((M s : ℝ) : EReal)) (ht : ∀ s, tk (ix3 0 s ⟨24 + hd.val, by omega⟩) = ((A s : ℝ) : EReal))
    (hp : mp (ix2 0 0) = ((p : ℝ) : EReal)) (hC : ∀ r d, C (ix3 0 r d) = ((two (-p) * S r d : ℝ) : EReal)) (r : Fin 144) (t : Fin 256) :
    total q k v mr tk hd mp C (ix2 r t) = ((two (-M t) * (∑ d, S r d * Q t d
      + ∑ s, if s ≤ t then augR (V s) r * two (A s) * ∑ d, K s d * Q t d else 0 : ℝ) : ℝ) : EReal) := by
  have e : total q k v mr tk hd mp C (ix2 r t) = Ideal.exp2 (mp (ix2 0 0) - mr (ix4 0 0 0 t)) * ∑ x, C (ix3 0 r x) * q (ix3 0 t x)
      + ∑ x, Scalar.select (k0_pay4 (ix2 x t)) (aug v (ix2 r x) * ((∑ d, k (ix3 0 x d) * q (ix3 0 t d))
        * Ideal.exp2 (tk (ix3 0 x ⟨24 + hd.val, by omega⟩) - mr (ix4 0 0 0 t)))) (0 : EReal) := by
    unfold total
    pointwise [row, mat, weights]
    rfl
  rw [e, hp, hm]
  simp only [aug_coe hv, ht, hk, hq, hC, causal_apply, ← EReal.coe_sub, exp2_coe, ← EReal.coe_mul, sum_coe, ← EReal.coe_add]
  have hs : ∀ (x : Fin 256) (y : ℝ), (if x ≤ t then (y : EReal) else 0) = ((if x ≤ t then y else 0 : ℝ) : EReal) := by
    intro x y; split <;> simp
  simp only [hs, ← EReal.coe_mul, sum_coe, ← EReal.coe_add]
  congr 1
  rw [mul_add, Finset.mul_sum, Finset.mul_sum, Finset.mul_sum]
  congr 1
  · refine Finset.sum_congr rfl fun d _ => ?_
    rw [sub_eq_add_neg, two_add, show two p * two (-M t) * (two (-p) * S r d * Q t d) = (two p * two (-p)) * (two (-M t) * (S r d * Q t d)) by ring,
      ← two_add]
    simp [two]
  · refine Finset.sum_congr rfl fun s _ => ?_
    split
    · rw [sub_eq_add_neg, two_add]; ring
    · ring

theorem ratio_coe {tot : FVec Ideal S144x256 .f32} {fm : Vec Ideal S1x1x1x256 .f32} {N : Fin 144 → ℝ} {f m : ℝ} {t : Fin 256}
    (hN : ∀ r, tot (ix2 r t) = ((two (-m) * N r : ℝ) : EReal)) (hf : fm (ix4 0 0 0 t) = ((f + m : ℝ) : EReal)) (e : Fin 128) :
    ratio tot fm (ix2 e t) = ((N ⟨e.val, by omega⟩ / max |N 128| (two (-f)) : ℝ) : EReal) := by
  have h : ratio tot fm (ix2 e t) = tot (ix2 ⟨e.val, by omega⟩ t) * Ideal.div 1 (max (max (tot (ix2 128 t)) (-tot (ix2 128 t))) (Ideal.exp2 (0 - fm (ix4 0 0 0 t)))) := by
    unfold ratio
    pointwise [row]
    rfl
  have hpos : 0 < max |two (-m) * N 128| (two (-(f + m))) := lt_max_of_lt_right (two_pos _)
  rw [h, hN, hN, hf, abs_coe, zero_sub, ← EReal.coe_neg, exp2_coe, max_coe, Ideal.div_coe hpos.ne', one_mul, ← EReal.coe_mul]
  congr 1
  have e2 : max |two (-m) * N 128| (two (-(f + m))) = two (-m) * max |N 128| (two (-f)) := by
    rw [abs_mul, abs_of_pos (two_pos _), show -(f + m) = -m + -f by ring, two_add, mul_max_of_nonneg _ _ (two_pos _).le]
  rw [e2]
  have := (two_pos (-m)).ne'
  have : max |N 128| (two (-f)) ≠ 0 := (lt_max_of_lt_right (two_pos _)).ne'
  field_simp

theorem output_apply (h g o) (e : Fin 128) (t : Fin 256) : output (F := Ideal) h g o (ix3 0 t e)
    = o (ix3 0 t e) * (h (ix2 e t) * Ideal.rsqrt (Ideal.div (∑ x, h (ix2 x t) * h (ix2 x t)) (Ideal.ofBits FTy.f32 0x43000000#32)
        + Ideal.ofBits FTy.f32 0x358637BD#32) * g (ix2 e t)) := by
  unfold output
  pointwise [mat]

end Cert.KernelIdeal.Mlstm

end
-- ==== Proof.Mlstm.Sequence.lean ====
/-
  A sequence of one head over the reals, and what a grid point computes of it: the state after n tokens is the sum over them, each chunk's
  output is the sum over the tokens up to each of its own.
-/
module

public import proofs.«01_k».proof.Proof.Mlstm.Chunk

@[expose] public section

noncomputable section

namespace Cert.KernelIdeal.Mlstm

open Cert.KernelIdeal Cert.KernelIdeal.Gen Idealize.ShloMosaic

/-- One head's tokens: queries, keys, values, the input gate less the running forget gate, the running forget gate and the stabiliser, the
    last three in powers of two. -/
structure Tokens where
  Q : ℕ → Fin 128 → ℝ
  K : ℕ → Fin 128 → ℝ
  V : ℕ → Fin 128 → ℝ
  A : ℕ → ℝ
  G : ℕ → ℝ
  M : ℕ → ℝ

/-- The memory of the first `n` tokens. -/
def Tokens.mem (h : Tokens) (n : ℕ) (r : Fin 144) (d : Fin 128) : ℝ := ∑ s ∈ Finset.range n, augR (h.V s) r * two (h.A s) * h.K s d

/-- What the query of token `T` reads: the weighted sum of the values up to it, and of ones. -/
def Tokens.read (h : Tokens) (T : ℕ) (r : Fin 144) : ℝ :=
  ∑ s ∈ Finset.range (T + 1), augR (h.V s) r * two (h.A s) * ∑ d, h.K s d * h.Q T d

/-- The head's output at token `T` before its norm. -/
def Tokens.out (h : Tokens) (T : ℕ) (e : Fin 128) : ℝ := h.read T ⟨e.val, by omega⟩ / max |h.read T 128| (two (-h.G T))

/-- The sum over `n + 256` tokens in two parts. -/
theorem sum_chunk (f : ℕ → ℝ) (n : ℕ) : ∑ s ∈ Finset.range (n + 256), f s = ∑ s ∈ Finset.range n, f s + ∑ x : Fin 256, f (n + x.val) := by
  rw [Finset.sum_range_add, Fin.sum_univ_eq_sum_range (fun x => f (n + x))]

/-- The sum up to a token of a chunk in two parts. -/
theorem sum_upto (f : ℕ → ℝ) (n : ℕ) (t : Fin 256) :
    ∑ s ∈ Finset.range (n + t.val + 1), f s = ∑ s ∈ Finset.range n, f s + ∑ x : Fin 256, if x ≤ t then f (n + x.val) else 0 := by
  rw [add_assoc, Finset.sum_range_add, ← Finset.sum_filter]
  congr 1
  refine Finset.sum_bij' (fun i _ => ⟨i % 256, by omega⟩) (fun x _ => x.val) ?_ ?_ ?_ ?_ ?_
  · intro i hi
    simp only [Finset.mem_range] at hi
    simp only [Finset.mem_filter, Finset.mem_univ, true_and, Fin.le_def]
    omega
  · intro x hx
    simp only [Finset.mem_filter, Finset.mem_univ, true_and, Fin.le_def] at hx
    simp only [Finset.mem_range]; omega
  · intro i hi
    simp only [Finset.mem_range] at hi
    show i % 256 = i
    omega
  · intro x _
    exact Fin.ext (Nat.mod_eq_of_lt x.isLt)
  · intro i hi
    simp only [Finset.mem_range] at hi
    show f (n + i) = f (n + i % 256)
    rw [Nat.mod_eq_of_lt (by omega)]

theorem Tokens.read_split (h : Tokens) (n : ℕ) (t : Fin 256) (r : Fin 144) :
    h.read (n + t.val) r = ∑ d, h.mem n r d * h.Q (n + t.val) d
      + ∑ x : Fin 256, if x ≤ t then augR (h.V (n + x.val)) r * two (h.A (n + x.val)) * ∑ d, h.K (n + x.val) d * h.Q (n + t.val) d else 0 := by
  rw [Tokens.read, sum_upto]
  congr 1
  simp only [Tokens.mem, Finset.sum_mul, Finset.mul_sum]
  rw [Finset.sum_comm]
  exact Finset.sum_congr rfl fun d _ => Finset.sum_congr rfl fun s _ => by ring

/-! ## A point's blocks hold a stretch of each head's tokens -/

/-- The blocks hold the 1024 tokens from `n` on of each head. -/
structure Fits (b : Blocks Ideal) (n : ℕ) (h : Fin 4 → Tokens) : Prop where
  q : ∀ (hd : Fin 4) (i : Fin 1024) (d : Fin 128), b.q (ix3 0 i ⟨128 * hd.val + d.val, by omega⟩) = (((h hd).Q (n + i.val) d : ℝ) : EReal)
  k : ∀ (hd : Fin 4) (i : Fin 1024) (d : Fin 128), b.k (ix3 0 i ⟨128 * hd.val + d.val, by omega⟩) = (((h hd).K (n + i.val) d : ℝ) : EReal)
  v : ∀ (hd : Fin 4) (i : Fin 1024) (d : Fin 128), b.v (ix3 0 ⟨128 * hd.val + d.val, by omega⟩ i) = (((h hd).V (n + i.val) d : ℝ) : EReal)
  m : ∀ (hd : Fin 4) (i : Fin 1024), b.s (ix4 0 0 ⟨hd.val, by omega⟩ i) = (((h hd).M (n + i.val) : ℝ) : EReal)
  a : ∀ (hd : Fin 4) (i : Fin 1024), b.s (ix4 0 1 ⟨hd.val, by omega⟩ i) = (((h hd).A (n + i.val) : ℝ) : EReal)
  f : ∀ (hd : Fin 4) (i : Fin 1024), b.s (ix4 0 2 ⟨hd.val, by omega⟩ i) = (((h hd).G (n + i.val) + (h hd).M (n + i.val) : ℝ) : EReal)
  t : ∀ (hd : Fin 4) (i : Fin 1024), b.t (ix3 0 i ⟨24 + hd.val, by omega⟩) = (((h hd).A (n + i.val) : ℝ) : EReal)

theorem act_apply {F : FTy → Type} [FloatOps F] (x : Vec F S1x1024x512 .bf16) (ci hd : Fin 4) (s : Fin 256) (d : Fin 128) :
    act x ci hd (ix3 0 s d) = x (ix3 0 ⟨256 * ci.val + s.val, by omega⟩ ⟨128 * hd.val + d.val, by omega⟩) := by
  unfold act View.ld
  congr 1
  funext a
  fin_cases a <;> exact Fin.ext (by simp [LoadRect.idx, Rect.unit, ix3])

theorem val_apply {F : FTy → Type} [FloatOps F] (x : Vec F S1x512x1024 .bf16) (ci hd : Fin 4) (e : Fin 128) (s : Fin 256) :
    val x ci hd (ix3 0 e s) = x (ix3 0 ⟨128 * hd.val + e.val, by omega⟩ ⟨256 * ci.val + s.val, by omega⟩) := by
  unfold val View.ld
  congr 1
  funext a
  fin_cases a <;> exact Fin.ext (by simp [LoadRect.idx, Rect.unit, ix3])

theorem stat_apply {F : FTy → Type} [FloatOps F] (x : Vec F S1x3x8x1024 .f32) (r : Fin 3) (ci hd : Fin 4) (s : Fin 256) :
    stat x r ci hd (ix4 0 0 0 s) = x (ix4 0 r ⟨hd.val, by omega⟩ ⟨256 * ci.val + s.val, by omega⟩) := by
  unfold stat View.ld
  congr 1
  funext a
  fin_cases a <;> exact Fin.ext (by simp [LoadRect.idx, Rect.unit, ix4])

theorem tok_apply {F : FTy → Type} [FloatOps F] (x : Vec F S1x1024x128 .f32) (ci : Fin 4) (s : Fin 256) (d : Fin 128) :
    tok x ci (ix3 0 s d) = x (ix3 0 ⟨256 * ci.val + s.val, by omega⟩ d) := by
  unfold tok View.ld
  congr 1
  funext a
  fin_cases a <;> exact Fin.ext (by simp [LoadRect.idx, Rect.unit, ix3])

theorem gain_apply {F : FTy → Type} [FloatOps F] (x : Vec F S512x256 .f32) (hd : Fin 4) (e : Fin 128) (t : Fin 256) :
    gain x hd (ix2 e t) = x (ix2 ⟨128 * hd.val + e.val, by omega⟩ t) := by
  unfold gain View.ld
  congr 1
  funext a
  fin_cases a <;> exact Fin.ext (by simp [LoadRect.idx, Rect.unit, ix2])

theorem state_stack {F : FTy → Type} [FloatOps F] (f : Fin 4 → Vec F S1x144x128 .f32) (hd : Fin 4) : state (stack f) hd = f hd :=
  funext fun x => stack_emb f hd x

/-! ## The state is the memory -/

/-- A state kept at a stabiliser is the memory of the first `n` tokens, scaled down by it. -/
def Keeps (h : Tokens) (n : ℕ) (mp : Vec Ideal S1x1 .f32) (C : Vec Ideal S1x144x128 .f32) : Prop :=
  ∃ p : ℝ, mp (ix2 0 0) = ((p : ℝ) : EReal) ∧ ∀ r d, C (ix3 0 r d) = ((two (-p) * h.mem n r d : ℝ) : EReal)

theorem keeps_start (h : Tokens) (hd : Fin 4) : Keeps h 0 (prev (F := Ideal) (k0_pay3 (F := Ideal)) hd) (state (F := Ideal) (k0_pay2 (F := Ideal)) hd) := by
  refine ⟨0, ?_, fun r d => ?_⟩
  · show k0_pay3 (F := Ideal) _ = _
    unfold k0_pay3
    exact Ideal.ofBits_zero_f32
  · have : state (F := Ideal) (k0_pay2 (F := Ideal)) hd (ix3 0 r d) = 0 := by
      show k0_pay2 (F := Ideal) _ = _
      unfold k0_pay2
      exact Ideal.ofBits_zero_f32
    rw [this]
    simp [Tokens.mem]

variable {b : Blocks Ideal} {n : ℕ} {h : Fin 4 → Tokens} (fit : Fits b n h) {m : Fin 4 → Vec Ideal S1x1 .f32} {C : Fin 4 → Vec Ideal S1x144x128 .f32}
include fit

theorem Fits.qs (ci hd : Fin 4) (s : Fin 256) (d : Fin 128) : act b.q ci hd (ix3 0 s d) = (((h hd).Q (n + 256 * ci.val + s.val) d : ℝ) : EReal) := by
  rw [act_apply, fit.q, ← add_assoc]
theorem Fits.ks (ci hd : Fin 4) (s : Fin 256) (d : Fin 128) : act b.k ci hd (ix3 0 s d) = (((h hd).K (n + 256 * ci.val + s.val) d : ℝ) : EReal) := by
  rw [act_apply, fit.k, ← add_assoc]
theorem Fits.vs (ci hd : Fin 4) (e : Fin 128) (s : Fin 256) : val b.v ci hd (ix3 0 e s) = (((h hd).V (n + 256 * ci.val + s.val) e : ℝ) : EReal) := by
  rw [val_apply, fit.v, ← add_assoc]
theorem Fits.ms (ci hd : Fin 4) (s : Fin 256) : stat b.s 0 ci hd (ix4 0 0 0 s) = (((h hd).M (n + 256 * ci.val + s.val) : ℝ) : EReal) := by
  rw [stat_apply, fit.m, ← add_assoc]
theorem Fits.as (ci hd : Fin 4) (s : Fin 256) : stat b.s 1 ci hd (ix4 0 0 0 s) = (((h hd).A (n + 256 * ci.val + s.val) : ℝ) : EReal) := by
  rw [stat_apply, fit.a, ← add_assoc]
theorem Fits.fs (ci hd : Fin 4) (s : Fin 256) : stat b.s 2 ci hd (ix4 0 0 0 s)
    = (((h hd).G (n + 256 * ci.val + s.val) + (h hd).M (n + 256 * ci.val + s.val) : ℝ) : EReal) := by
  rw [stat_apply, fit.f, ← add_assoc]
theorem Fits.ts (ci hd : Fin 4) (s : Fin 256) : tok b.t ci (ix3 0 s ⟨24 + hd.val, by omega⟩)
    = (((h hd).A (n + 256 * ci.val + s.val) : ℝ) : EReal) := by
  rw [tok_apply, fit.t, ← add_assoc]

/-- Before each of the point's chunks the state is the memory of the tokens before it. -/
theorem keeps_states (start : ∀ hd, Keeps (h hd) n (m hd) (C hd)) (hd : Fin 4) :
    ∀ i : ℕ, i ≤ 4 → Keeps (h hd) (n + 256 * i) (before b m i hd) (states b m C i hd) := by
  intro i
  induction i with
  | zero => exact fun _ => start hd
  | succ i ih =>
    intro hi
    obtain ⟨p, hp, hC⟩ := ih (by omega)
    have hci : (Fin.ofNat 4 i).val = i := Nat.mod_eq_of_lt (by omega)
    refine ⟨(h hd).M (n + 256 * i + 255), ?_, fun r d => ?_⟩
    · show last (stat b.s 0 (Fin.ofNat 4 i) hd) (ix2 0 0) = _
      have e : last (stat b.s 0 (Fin.ofNat 4 i) hd) (ix2 0 0) = stat b.s 0 (Fin.ofNat 4 i) hd (ix4 0 0 0 255) := by
        pointwise [last, row]
      rw [e, fit.ms, hci]
      rfl
    · have := next_coe (k := act b.k (Fin.ofNat 4 i) hd) (v := val b.v (Fin.ofNat 4 i) hd) (mr := stat b.s 0 (Fin.ofNat 4 i) hd)
        (ar := stat b.s 1 (Fin.ofNat 4 i) hd) (K := fun s => (h hd).K (n + 256 * i + s.val)) (V := fun s => (h hd).V (n + 256 * i + s.val))
        (M := fun s => (h hd).M (n + 256 * i + s.val)) (A := fun s => (h hd).A (n + 256 * i + s.val)) (S := (h hd).mem (n + 256 * i))
        (fun s d => by rw [fit.ks (Fin.ofNat 4 i), hci]) (fun e s => by rw [fit.vs (Fin.ofNat 4 i), hci])
        (fun s => by rw [fit.ms (Fin.ofNat 4 i), hci]) (fun s => by rw [fit.as (Fin.ofNat 4 i), hci]) hp hC r d
      refine this.trans ?_
      rw [show n + 256 * (i + 1) = n + 256 * i + 256 by ring]
      have e := sum_chunk (fun s => augR ((h hd).V s) r * two ((h hd).A s) * (h hd).K s d) (n + 256 * i)
      exact congrArg (fun x : ℝ => ((two (-(h hd).M (n + 256 * i + 255)) * x : ℝ) : EReal)) e.symm

/-- What a chunk writes for a head. -/
theorem written_apply (start : ∀ hd, Keeps (h hd) n (m hd) (C hd)) (ci hd : Fin 4) (t : Fin 256) (e : Fin 128) :
    written b m C ci hd (ix3 0 t e) = b.o (ix3 0 ⟨256 * ci.val + t.val, by omega⟩ ⟨128 * hd.val + e.val, by omega⟩)
      * ((((h hd).out (n + 256 * ci.val + t.val) e : ℝ) : EReal)
        * Ideal.rsqrt (Ideal.div (∑ x, (((h hd).out (n + 256 * ci.val + t.val) x : ℝ) : EReal) * (((h hd).out (n + 256 * ci.val + t.val) x : ℝ) : EReal))
            (Ideal.ofBits FTy.f32 0x43000000#32) + Ideal.ofBits FTy.f32 0x358637BD#32)
        * b.g (ix2 ⟨128 * hd.val + e.val, by omega⟩ t)) := by
  obtain ⟨p, hp, hC⟩ := keeps_states fit start hd ci.val (by omega)
  have ht : ∀ r, _ := fun r => total_coe (hd := hd) (fit.qs ci hd) (fit.ks ci hd) (fit.vs ci hd) (fit.ms ci hd) (fit.ts ci hd) hp hC r t
  simp only [← Tokens.read_split] at ht
  have hr : ∀ e : Fin 128, _ := ratio_coe ht (fit.fs ci hd t)
  unfold written
  rw [output_apply, act_apply, gain_apply]
  simp only [hr]
  rfl

end Cert.KernelIdeal.Mlstm

end
-- ==== Proof.Mlstm.Inputs.lean ====
/-
  The arguments over the reals: queries, keys, values and gates that are finite, the running sum of the forget gates and the running
  maximum of the input gates over them, which are finite too, and the sequence of tokens each head runs over.
-/
module

public import proofs.«01_k».proof.Proof.Mlstm.Sequence
public import Idealize.ShloMosaic.Lib.IdealHost

@[expose] public section

noncomputable section

namespace Cert.KernelIdeal.Mlstm

open Cert.KernelIdeal Cert.KernelIdeal.Gen Idealize.ShloMosaic

/-! ## Literals -/

theorem literal_two : Ideal.ofBits .f32 0x40000000#32 = ((2 : ℝ) : EReal) := by
  simp [Ideal.ofBits, Ideal.ieee, -EReal.coe_mul]; norm_num

theorem literal_bottom : Ideal.ofBits .f32 0xFF800000#32 = ⊥ := by simp [Ideal.ofBits, Ideal.ieee]

theorem literal_top : Ideal.ofBits .f32 0x7F800000#32 = ⊤ := by simp [Ideal.ofBits, Ideal.ieee]

/-- The scale of the queries. -/
def root : ℝ := (Ideal.ofBits .f32 0x3DB504F3#32).toReal

theorem root_coe : Ideal.ofBits .f32 0x3DB504F3#32 = ((root : ℝ) : EReal) := by
  have h : ∃ r : ℝ, Ideal.ofBits .f32 0x3DB504F3#32 = (r : EReal) := ⟨_, by simp [Ideal.ofBits, Ideal.ieee, -EReal.coe_mul]; rfl⟩
  obtain ⟨r, hr⟩ := h
  rw [root, hr, EReal.toReal_coe]

/-- The natural logarithm of two, as both programs have it. -/
theorem log_two : Ideal.log (Ideal.ofBits .f32 0x40000000#32) = ((Real.log 2 : ℝ) : EReal) := by
  rw [literal_two, Ideal.log_coe, if_neg (by norm_num)]

theorem log_two_ne : Real.log 2 ≠ 0 := (Real.log_pos (by norm_num)).ne'

/-- A number less in size than the infinity is real. -/
theorem real_of_lt {x : EReal} (h : max x (-x) < ⊤) : ∃ r : ℝ, x = (r : EReal) := by
  induction x with
  | bot => simp at h
  | top => simp at h
  | coe r => exact ⟨r, rfl⟩

/-! ## Running sums and maxima -/

/-- A fold keeps what each of its steps keeps. -/
theorem fold_keeps {ι α : Type} (P : α → Prop) (step : α → ι → α) (h : ∀ r n, P r → P (step r n)) (l : List ι) (v : α) (hv : P v) :
    P (l.foldl step v) := by
  induction l generalizing v with
  | nil => exact hv
  | cons n l ih => exact ih _ (h v n hv)

/-- The sum over a window of reals is real. -/
theorem sum_window {s t u : Shape} (window strides lo hi : Fin s.rank → ℕ) (x : FVec Ideal s .f32) (init : u.Idx → EReal)
    (h : s.ReduceWindows window strides lo hi t) (hu : 0 < u.numel) (hx : ∀ j, ∃ r : ℝ, x j = (r : EReal)) (h0 : init (Shape.Idx.first hu) = 0)
    (j : t.Idx) : ∃ r : ℝ, Host.reduceWindowAdd (F := Ideal) (φ := .f32) window strides lo hi x init h hu j = (r : EReal) := by
  show ∃ r : ℝ, Ideal.hostReduceWindowAdd window strides lo hi h x (init (Shape.Idx.first hu)) j = (r : EReal)
  rw [h0]
  refine fold_keeps (fun y : EReal => ∃ r : ℝ, y = (r : EReal)) _ ?_ _ _ ⟨0, rfl⟩
  rintro _ n ⟨r, rfl⟩
  dsimp only
  split
  · obtain ⟨r', e⟩ := hx _
    exact ⟨r + r', by rw [e, EReal.coe_add]⟩
  · exact ⟨r, by rw [add_zero]⟩

/-- The maximum of zero and of a window of reals is real. -/
theorem max_window {s t u : Shape} (window strides lo hi : Fin s.rank → ℕ) (x : FVec Ideal s .f32) (init : u.Idx → EReal)
    (h : s.ReduceWindows window strides lo hi t) (hu : 0 < u.numel) (hx : ∀ j, ∃ r : ℝ, x j = (r : EReal)) (h0 : init (Shape.Idx.first hu) = ⊥)
    (j : t.Idx) : ∃ r : ℝ, max (Host.reduceWindow (FloatOps.maximumf (F := Ideal) (φ := .f32)) window strides lo hi x init h hu j : EReal) 0 = (r : EReal) := by
  have key : (Host.reduceWindow (FloatOps.maximumf (F := Ideal) (φ := .f32)) window strides lo hi x init h hu j : EReal) ≠ ⊤ := by
    unfold Host.reduceWindow
    dsimp only
    rw [h0]
    refine fold_keeps (fun y : EReal => y ≠ ⊤) _ ?_ _ _ bot_ne_top
    intro y n hy
    show max y _ ≠ ⊤
    rw [ne_eq, max_eq_top, not_or]
    refine ⟨hy, ?_⟩
    split
    · obtain ⟨r', e⟩ := hx _
      rw [e]; exact EReal.coe_ne_top r'
    · exact bot_ne_top
  generalize (Host.reduceWindow (FloatOps.maximumf (F := Ideal) (φ := .f32)) window strides lo hi x init h hu j : EReal) = y at key
  induction y with
  | bot => exact ⟨0, by simp⟩
  | top => exact absurd rfl key
  | coe r => exact ⟨max r 0, by rw [← EReal.coe_zero, max_coe]⟩

/-- The running sum of the forget gates. -/
def running (f : FVec Ideal S16x4x4096 .f32) : FVec Ideal S16x4x4096 .f32 :=
  Host.reduceWindowAdd ![1, 1, 4096] ![1, 1, 1] ![0, 0, 4095] ![0, 0, 0] f (broadcastInDim S_ ![] bcast_S_S_ (constant S_ FTy.f32 0x00000000#32))
    reduceWindows_S16x4x4096_S16x4x4096_w1s1p0_0_w1s1p0_0_w4096s1p4095_0 h_S_

/-- The input gates less the running forget gates, in powers of two. -/
def entering (i f : FVec Ideal S16x4x4096 .f32) : FVec Ideal S16x4x4096 .f32 :=
  subf (Host.divf i (broadcastInDim S16x4x4096 ![] bcast_S_S16x4x4096 (Host.log (constant S_ FTy.f32 0x40000000#32))))
    (Host.divf (running f) (broadcastInDim S16x4x4096 ![] bcast_S_S16x4x4096 (Host.log (constant S_ FTy.f32 0x40000000#32))))

/-- The stabiliser: the running maximum of those and of zero. -/
def stabiliser (i f : FVec Ideal S16x4x4096 .f32) (j : S16x4x4096.Idx) : EReal :=
  max (Host.reduceWindow (FloatOps.maximumf (F := Ideal) (φ := .f32)) ![1, 1, 4096] ![1, 1, 1] ![0, 0, 4095] ![0, 0, 0] (entering i f)
    (broadcastInDim S_ ![] bcast_S_S_ (constant (F := Ideal) S_ FTy.f32 0xFF800000#32)) reduceWindows_S16x4x4096_S16x4x4096_w1s1p0_0_w1s1p0_0_w4096s1p4095_0 h_S_ j) 0

/-! ## The arguments -/

/-- Queries, keys and values by batch entry, token and channel; input gates, running forget gates and stabilisers by batch entry, head and
    token. -/
structure Data where
  q : Fin 16 → Fin 4096 → Fin 512 → ℝ
  k : Fin 16 → Fin 4096 → Fin 512 → ℝ
  v : Fin 16 → Fin 4096 → Fin 512 → ℝ
  i : Fin 16 → Fin 4 → Fin 4096 → ℝ
  f : Fin 16 → Fin 4 → Fin 4096 → ℝ
  s : Fin 16 → Fin 4 → Fin 4096 → ℝ

/-- The arrays hold the data. -/
structure Holds (aq ak av : FVec Ideal S16x4096x512 .f32) (ai af : FVec Ideal S16x4x4096 .f32) (D : Data) : Prop where
  q : ∀ b t x, aq (ix3 b t x) = ((D.q b t x : ℝ) : EReal)
  k : ∀ b t x, ak (ix3 b t x) = ((D.k b t x : ℝ) : EReal)
  v : ∀ b t x, av (ix3 b t x) = ((D.v b t x : ℝ) : EReal)
  i : ∀ b h t, ai (ix3 b h t) = ((D.i b h t : ℝ) : EReal)
  f : ∀ b h t, running af (ix3 b h t) = ((D.f b h t : ℝ) : EReal)
  s : ∀ b h t, stabiliser ai af (ix3 b h t) = ((D.s b h t : ℝ) : EReal)

theorem ix3_surj {a b c : ℕ} (j : (⟨3, ![a, b, c]⟩ : Shape).Idx) : ∃ x y z, j = ix3 x y z :=
  ⟨j 0, j 1, j 2, by funext d; match d with | ⟨0, _⟩ => rfl | ⟨1, _⟩ => rfl | ⟨2, _⟩ => rfl⟩

/-- A division by the logarithm of two. -/
theorem div_log (r : ℝ) : Ideal.div (r : EReal) (Ideal.log (Ideal.ofBits .f32 0x40000000#32)) = ((r / Real.log 2 : ℝ) : EReal) := by
  rw [log_two, Ideal.div_coe log_two_ne, ← EReal.coe_mul, mul_one_div]

theorem entering_real {i f : FVec Ideal S16x4x4096 .f32} {a F : ℝ} {j : S16x4x4096.Idx} (hi : i j = (a : EReal)) (hf : running f j = (F : EReal)) :
    entering i f j = ((a / Real.log 2 - F / Real.log 2 : ℝ) : EReal) := by
  show Ideal.div (i j) (Ideal.log (Ideal.ofBits .f32 0x40000000#32)) - Ideal.div (running f j) (Ideal.log (Ideal.ofBits .f32 0x40000000#32)) = _
  rw [hi, hf, div_log, div_log, ← EReal.coe_sub]

/-- Finite arrays hold some data. -/
theorem exists_holds {q k v : FVec Ideal S16x4096x512 .f32} {i f : FVec Ideal S16x4x4096 .f32} (hq : ∀ j, ∃ r : ℝ, q j = (r : EReal))
    (hk : ∀ j, ∃ r : ℝ, k j = (r : EReal)) (hv : ∀ j, ∃ r : ℝ, v j = (r : EReal)) (hi : ∀ j, ∃ r : ℝ, i j = (r : EReal))
    (hf : ∀ j, ∃ r : ℝ, f j = (r : EReal)) : ∃ D, Holds q k v i f D := by
  have hF : ∀ j, ∃ r : ℝ, running f j = (r : EReal) := sum_window _ _ _ _ f _ _ _ hf Ideal.ofBits_zero_f32
  have hE : ∀ j, ∃ r : ℝ, entering i f j = (r : EReal) := fun j => by
    obtain ⟨a, ha⟩ := hi j
    obtain ⟨F, hF⟩ := hF j
    exact ⟨_, entering_real ha hF⟩
  have hM : ∀ j, ∃ r : ℝ, stabiliser i f j = (r : EReal) := max_window _ _ _ _ (entering i f) _ _ _ hE literal_bottom
  choose q' hq using hq
  choose k' hk using hk
  choose v' hv using hv
  choose i' hi using hi
  choose F hF using hF
  choose M hM using hM
  exact ⟨⟨fun b t x => q' (ix3 b t x), fun b t x => k' (ix3 b t x), fun b t x => v' (ix3 b t x), fun b h t => i' (ix3 b h t),
    fun b h t => F (ix3 b h t), fun b h t => M (ix3 b h t)⟩, fun b t x => hq _, fun b t x => hk _, fun b t x => hv _, fun b h t => hi _,
    fun b h t => hF _, fun b h t => hM _⟩

/-- The tokens of a batch entry's head. -/
def Data.tokens (D : Data) (b : ℕ) (h : Fin 4) : Tokens where
  Q n d := D.q (Fin.ofNat 16 b) (Fin.ofNat 4096 n) ⟨128 * h.val + d.val, by omega⟩ * root
  K n d := D.k (Fin.ofNat 16 b) (Fin.ofNat 4096 n) ⟨128 * h.val + d.val, by omega⟩
  V n d := D.v (Fin.ofNat 16 b) (Fin.ofNat 4096 n) ⟨128 * h.val + d.val, by omega⟩
  A n := D.i (Fin.ofNat 16 b) h (Fin.ofNat 4096 n) / Real.log 2 - D.f (Fin.ofNat 16 b) h (Fin.ofNat 4096 n) / Real.log 2
  G n := D.f (Fin.ofNat 16 b) h (Fin.ofNat 4096 n) / Real.log 2
  M n := D.s (Fin.ofNat 16 b) h (Fin.ofNat 4096 n)

end Cert.KernelIdeal.Mlstm

end
-- ==== Proof.Mlstm.BodyA.lean ====
/-
  What the body does at a grid point that begins a sequence: its stores are the blocks of `Vocab.lean`, the state and the
  stabilisers starting from zeros, which the point stores first.
-/
module

public import proofs.«01_k».proof.Proof.Mlstm.Vocab
public import Idealize.ShloMosaic.Lib.Tactic

@[expose] public section

noncomputable section

namespace Cert.KernelIdeal.Mlstm

open Cert.KernelIdeal Cert.KernelIdeal.Gen Idealize.ShloMosaic

variable {F : FTy → Type} [FloatOps F]

set_option maxHeartbeats 40000000 in
/-- The output's blocks, each head's state and its stabiliser after the point's four chunks. -/
theorem bodyA (c : Dev nD) (i : grid0.Coords)
    (arg2 : Memref sig .tc .vmem S1x1024x512 .bf16) (harg2 : arg2.IsWhole)
    (arg3 : Memref sig .tc .vmem S1x1024x512 .bf16) (harg3 : arg3.IsWhole)
    (arg4 : Memref sig .tc .vmem S1x512x1024 .bf16) (harg4 : arg4.IsWhole)
    (arg5 : Memref sig .tc .vmem S1x1024x512 .bf16) (harg5 : arg5.IsWhole)
    (arg6 : Memref sig .tc .vmem S1x3x8x1024 .f32) (harg6 : arg6.IsWhole)
    (arg7 : Memref sig .tc .vmem S1x1024x128 .f32) (harg7 : arg7.IsWhole)
    (arg8 : Memref sig .tc .vmem S512x256 .f32) (harg8 : arg8.IsWhole)
    (arg9 : Memref sig .tc .vmem S1x1024x512 .bf16) (harg9 : arg9.IsWhole)
    (arg10 : Memref sig .tc .vmem S4x144x128 .f32) (harg10 : arg10.IsWhole)
    (arg11 : Memref sig .tc .vmem S8x128 .f32) (harg11 : arg11.IsWhole)
    (hc0 : cond0_0 i)
    (x0 : Vec F S1x1024x512 .bf16) (x1 : Vec F S1x1024x512 .bf16) (x2 : Vec F S1x512x1024 .bf16) (x3 : Vec F S1x1024x512 .bf16)
    (x4 : Vec F S1x3x8x1024 .f32) (x5 : Vec F S1x1024x128 .f32) (x6 : Vec F S512x256 .f32) :
    View.PiecesOf (glue (written ⟨x0, x1, x2, x3, x4, x5, x6⟩ (prev k0_pay3) (state k0_pay2))) (kernelRun0_A c i arg2 harg2 arg3 harg3 arg4 harg4 arg5 harg5 arg6 harg6 arg7 harg7 arg8 harg8 arg9 harg9 arg10 harg10 arg11 harg11
      hc0 x0 x1 x2 x3 x4 x5 x6).1
    ∧ (∀ y, View.canon (kernelRun0_A c i arg2 harg2 arg3 harg3 arg4 harg4 arg5 harg5 arg6 harg6 arg7 harg7 arg8 harg8 arg9 harg9 arg10 harg10 arg11 harg11
      hc0 x0 x1 x2 x3 x4 x5 x6).2.1 y = stack (states ⟨x0, x1, x2, x3, x4, x5, x6⟩ (prev k0_pay3) (state k0_pay2) 4) y)
    ∧ ∀ hd : Fin 4, arg11.view.readCov (kernelRun0_A c i arg2 harg2 arg3 harg3 arg4 harg4 arg5 harg5 arg6 harg6 arg7 harg7 arg8 harg8 arg9 harg9 arg10 harg10 arg11 harg11
      hc0 x0 x1 x2 x3 x4 x5 x6).2.2.1 (Rect.unit (s := S8x128) ![hd.val, 0] S1x1.size (inbPrev hd)).toLoadRect
      = before ⟨x0, x1, x2, x3, x4, x5, x6⟩ (prev k0_pay3) 4 hd := by
  have h0 := harg2.read_unread (Val := Elt F) x0
  have h1 := harg3.read_unread (Val := Elt F) x1
  have h2 := harg4.read_unread (Val := Elt F) x2
  have h3 := harg5.read_unread (Val := Elt F) x3
  have h4 := harg6.read_unread (Val := Elt F) x4
  have h5 := harg7.read_unread (Val := Elt F) x5
  have h6 := harg8.read_unread (Val := Elt F) x6
  unfold kernelRun0_A
  sl_unfold_run_names
  simp (disch := decide) only [↓ View.readCov_skip, ↓ View.readCov_cons_toLoadRect, ↓ View.readCov_fill, ↓ prev_stored]
  generalize harg2.unread x0 = f0 at *
  generalize harg3.unread x1 = f1 at *
  generalize harg4.unread x2 = f2 at *
  generalize harg5.unread x3 = f3 at *
  generalize harg6.unread x4 = f4 at *
  generalize harg7.unread x5 = f5 at *
  generalize harg8.unread x6 = f6 at *
  subst h0 h1 h2 h3 h4 h5 h6
  refine ⟨⟨fun x => (?_ : _ = glue _ ((Rect.unit (s := S1x1024x512) _ S1x256x128.size (inbAct 3 3)).emb x)), fun x => (?_ : _ = glue _ ((Rect.unit (s := S1x1024x512) _ S1x256x128.size (inbAct 3 2)).emb x)), fun x => (?_ : _ = glue _ ((Rect.unit (s := S1x1024x512) _ S1x256x128.size (inbAct 3 1)).emb x)), fun x => (?_ : _ = glue _ ((Rect.unit (s := S1x1024x512) _ S1x256x128.size (inbAct 3 0)).emb x)), fun x => (?_ : _ = glue _ ((Rect.unit (s := S1x1024x512) _ S1x256x128.size (inbAct 2 3)).emb x)), fun x => (?_ : _ = glue _ ((Rect.unit (s := S1x1024x512) _ S1x256x128.size (inbAct 2 2)).emb x)), fun x => (?_ : _ = glue _ ((Rect.unit (s := S1x1024x512) _ S1x256x128.size (inbAct 2 1)).emb x)), fun x => (?_ : _ = glue _ ((Rect.unit (s := S1x1024x512) _ S1x256x128.size (inbAct 2 0)).emb x)), fun x => (?_ : _ = glue _ ((Rect.unit (s := S1x1024x512) _ S1x256x128.size (inbAct 1 3)).emb x)), fun x => (?_ : _ = glue _ ((Rect.unit (s := S1x1024x512) _ S1x256x128.size (inbAct 1 2)).emb x)), fun x => (?_ : _ = glue _ ((Rect.unit (s := S1x1024x512) _ S1x256x128.size (inbAct 1 1)).emb x)), fun x => (?_ : _ = glue _ ((Rect.unit (s := S1x1024x512) _ S1x256x128.size (inbAct 1 0)).emb x)), fun x => (?_ : _ = glue _ ((Rect.unit (s := S1x1024x512) _ S1x256x128.size (inbAct 0 3)).emb x)), fun x => (?_ : _ = glue _ ((Rect.unit (s := S1x1024x512) _ S1x256x128.size (inbAct 0 2)).emb x)), fun x => (?_ : _ = glue _ ((Rect.unit (s := S1x1024x512) _ S1x256x128.size (inbAct 0 1)).emb x)), fun x => (?_ : _ = glue _ ((Rect.unit (s := S1x1024x512) _ S1x256x128.size (inbAct 0 0)).emb x)), trivial⟩, fun y => ?_, fun hd => ?_⟩
  pick_goal 17
  · refine View.canon_append_of_piecesOf (stack _) _ [_, _, _, _] ⟨fun x => (?_ : _ = stack _ ((Rect.unit (s := S4x144x128) _ S1x144x128.size (inbState 3)).emb x)),
      fun x => (?_ : _ = stack _ ((Rect.unit (s := S4x144x128) _ S1x144x128.size (inbState 2)).emb x)),
      fun x => (?_ : _ = stack _ ((Rect.unit (s := S4x144x128) _ S1x144x128.size (inbState 1)).emb x)),
      fun x => (?_ : _ = stack _ ((Rect.unit (s := S4x144x128) _ S1x144x128.size (inbState 0)).emb x)), trivial⟩ y
      (by exact View.cover_of_tiledL (s := S4x144x128) _ S1x144x128.size (by sl_kernel_rfl) y)
    all_goals
      rw [stack_emb]
      simp only [k0_pay50, k0_pay52, k0_pay56, k0_pay58, k0_pay59, k0_pay115, k0_pay117, k0_pay121, k0_pay123, k0_pay175, k0_pay177, k0_pay181,
      k0_pay183, k0_pay237, k0_pay238, k0_pay240, k0_pay243, k0_pay245, spread_first]
      exact congrFun rfl x
  pick_goal 17
  · revert hd
    refine Fin.forall_fin_succ.mpr ⟨(?_ : arg11.view.readCov _ (Rect.unit (s := S8x128) ![0, 0] ![1, 1] _).toLoadRect = _), ?_⟩
    · simp (disch := decide) only [↓ View.readCov_skip, ↓ prev_stored]
      simp only [k0_pay50, k0_pay52, k0_pay56, k0_pay58, k0_pay59, k0_pay115, k0_pay117, k0_pay121, k0_pay123, k0_pay175, k0_pay177, k0_pay181,
      k0_pay183, k0_pay237, k0_pay238, k0_pay240, k0_pay243, k0_pay245, spread_first]
      rfl
    refine Fin.forall_fin_succ.mpr ⟨(?_ : arg11.view.readCov _ (Rect.unit (s := S8x128) ![1, 0] ![1, 1] _).toLoadRect = _), ?_⟩
    · simp (disch := decide) only [↓ View.readCov_skip, ↓ prev_stored]
      simp only [k0_pay50, k0_pay52, k0_pay56, k0_pay58, k0_pay59, k0_pay115, k0_pay117, k0_pay121, k0_pay123, k0_pay175, k0_pay177, k0_pay181,
      k0_pay183, k0_pay237, k0_pay238, k0_pay240, k0_pay243, k0_pay245, spread_first]
      rfl
    refine Fin.forall_fin_two.mpr ⟨(?_ : arg11.view.readCov _ (Rect.unit (s := S8x128) ![2, 0] ![1, 1] _).toLoadRect = _),
      (?_ : arg11.view.readCov _ (Rect.unit (s := S8x128) ![3, 0] ![1, 1] _).toLoadRect = _)⟩
    all_goals
      simp (disch := decide) only [↓ View.readCov_skip, ↓ prev_stored]
      simp only [k0_pay50, k0_pay52, k0_pay56, k0_pay58, k0_pay59, k0_pay115, k0_pay117, k0_pay121, k0_pay123, k0_pay175, k0_pay177, k0_pay181,
      k0_pay183, k0_pay237, k0_pay238, k0_pay240, k0_pay243, k0_pay245, spread_first]
      rfl
  all_goals
    rw [glue_emb]
    simp only [k0_pay50, k0_pay52, k0_pay56, k0_pay58, k0_pay59, k0_pay115, k0_pay117, k0_pay121, k0_pay123, k0_pay175, k0_pay177, k0_pay181,
      k0_pay183, k0_pay237, k0_pay238, k0_pay240, k0_pay243, k0_pay245, spread_first]
    exact congrFun rfl x

end Cert.KernelIdeal.Mlstm

end
-- ==== Proof.Mlstm.BodyB.lean ====
/-
  What the body does at a grid point that goes on with a sequence: its stores are the blocks of `Vocab.lean`, the state and the
  stabilisers starting from what the point before left.
-/
module

public import proofs.«01_k».proof.Proof.Mlstm.Vocab
public import Idealize.ShloMosaic.Lib.Tactic

@[expose] public section

noncomputable section

namespace Cert.KernelIdeal.Mlstm

open Cert.KernelIdeal Cert.KernelIdeal.Gen Idealize.ShloMosaic

variable {F : FTy → Type} [FloatOps F]

set_option maxHeartbeats 40000000 in
/-- The output's blocks, each head's state and its stabiliser after the point's four chunks. -/
theorem bodyB (c : Dev nD) (i : grid0.Coords)
    (arg2 : Memref sig .tc .vmem S1x1024x512 .bf16) (harg2 : arg2.IsWhole)
    (arg3 : Memref sig .tc .vmem S1x1024x512 .bf16) (harg3 : arg3.IsWhole)
    (arg4 : Memref sig .tc .vmem S1x512x1024 .bf16) (harg4 : arg4.IsWhole)
    (arg5 : Memref sig .tc .vmem S1x1024x512 .bf16) (harg5 : arg5.IsWhole)
    (arg6 : Memref sig .tc .vmem S1x3x8x1024 .f32) (harg6 : arg6.IsWhole)
    (arg7 : Memref sig .tc .vmem S1x1024x128 .f32) (harg7 : arg7.IsWhole)
    (arg8 : Memref sig .tc .vmem S512x256 .f32) (harg8 : arg8.IsWhole)
    (arg9 : Memref sig .tc .vmem S1x1024x512 .bf16) (harg9 : arg9.IsWhole)
    (arg10 : Memref sig .tc .vmem S4x144x128 .f32) (harg10 : arg10.IsWhole)
    (arg11 : Memref sig .tc .vmem S8x128 .f32) (harg11 : arg11.IsWhole)
    (hc0 : ¬cond0_0 i)
    (x0 : Vec F S1x1024x512 .bf16) (x1 : Vec F S1x1024x512 .bf16) (x2 : Vec F S1x512x1024 .bf16) (x3 : Vec F S1x1024x512 .bf16)
    (x4 : Vec F S1x3x8x1024 .f32) (x5 : Vec F S1x1024x128 .f32) (x6 : Vec F S512x256 .f32) (xs0 : Vec F S4x144x128 .f32) (xs1 : Vec F S8x128 .f32) :
    View.PiecesOf (glue (written ⟨x0, x1, x2, x3, x4, x5, x6⟩ (prev xs1) (state xs0))) (kernelRun0_B c i arg2 harg2 arg3 harg3 arg4 harg4 arg5 harg5 arg6 harg6 arg7 harg7 arg8 harg8 arg9 harg9 arg10 harg10 arg11 harg11
      hc0 x0 x1 x2 x3 x4 x5 x6 xs0 xs1).1
    ∧ (∀ y, View.canon (kernelRun0_B c i arg2 harg2 arg3 harg3 arg4 harg4 arg5 harg5 arg6 harg6 arg7 harg7 arg8 harg8 arg9 harg9 arg10 harg10 arg11 harg11
      hc0 x0 x1 x2 x3 x4 x5 x6 xs0 xs1).2.1 y = stack (states ⟨x0, x1, x2, x3, x4, x5, x6⟩ (prev xs1) (state xs0) 4) y)
    ∧ ∀ hd : Fin 4, arg11.view.readCov (kernelRun0_B c i arg2 harg2 arg3 harg3 arg4 harg4 arg5 harg5 arg6 harg6 arg7 harg7 arg8 harg8 arg9 harg9 arg10 harg10 arg11 harg11
      hc0 x0 x1 x2 x3 x4 x5 x6 xs0 xs1).2.2.1 (Rect.unit (s := S8x128) ![hd.val, 0] S1x1.size (inbPrev hd)).toLoadRect
      = before ⟨x0, x1, x2, x3, x4, x5, x6⟩ (prev xs1) 4 hd := by
  have h0 := harg2.read_unread (Val := Elt F) x0
  have h1 := harg3.read_unread (Val := Elt F) x1
  have h2 := harg4.read_unread (Val := Elt F) x2
  have h3 := harg5.read_unread (Val := Elt F) x3
  have h4 := harg6.read_unread (Val := Elt F) x4
  have h5 := harg7.read_unread (Val := Elt F) x5
  have h6 := harg8.read_unread (Val := Elt F) x6
  have h7 := harg10.read_unread (Val := Elt F) xs0
  have h8 := harg11.read_unread (Val := Elt F) xs1
  unfold kernelRun0_B
  sl_unfold_run_names
  simp (disch := decide) only [↓ View.readCov_skip, ↓ View.readCov_cons_toLoadRect, ↓ View.readCov_fill, ↓ prev_stored]
  generalize harg2.unread x0 = f0 at *
  generalize harg3.unread x1 = f1 at *
  generalize harg4.unread x2 = f2 at *
  generalize harg5.unread x3 = f3 at *
  generalize harg6.unread x4 = f4 at *
  generalize harg7.unread x5 = f5 at *
  generalize harg8.unread x6 = f6 at *
  generalize harg10.unread xs0 = f7 at *
  generalize harg11.unread xs1 = f8 at *
  subst h0 h1 h2 h3 h4 h5 h6 h7 h8
  refine ⟨⟨fun x => (?_ : _ = glue _ ((Rect.unit (s := S1x1024x512) _ S1x256x128.size (inbAct 3 3)).emb x)), fun x => (?_ : _ = glue _ ((Rect.unit (s := S1x1024x512) _ S1x256x128.size (inbAct 3 2)).emb x)), fun x => (?_ : _ = glue _ ((Rect.unit (s := S1x1024x512) _ S1x256x128.size (inbAct 3 1)).emb x)), fun x => (?_ : _ = glue _ ((Rect.unit (s := S1x1024x512) _ S1x256x128.size (inbAct 3 0)).emb x)), fun x => (?_ : _ = glue _ ((Rect.unit (s := S1x1024x512) _ S1x256x128.size (inbAct 2 3)).emb x)), fun x => (?_ : _ = glue _ ((Rect.unit (s := S1x1024x512) _ S1x256x128.size (inbAct 2 2)).emb x)), fun x => (?_ : _ = glue _ ((Rect.unit (s := S1x1024x512) _ S1x256x128.size (inbAct 2 1)).emb x)), fun x => (?_ : _ = glue _ ((Rect.unit (s := S1x1024x512) _ S1x256x128.size (inbAct 2 0)).emb x)), fun x => (?_ : _ = glue _ ((Rect.unit (s := S1x1024x512) _ S1x256x128.size (inbAct 1 3)).emb x)), fun x => (?_ : _ = glue _ ((Rect.unit (s := S1x1024x512) _ S1x256x128.size (inbAct 1 2)).emb x)), fun x => (?_ : _ = glue _ ((Rect.unit (s := S1x1024x512) _ S1x256x128.size (inbAct 1 1)).emb x)), fun x => (?_ : _ = glue _ ((Rect.unit (s := S1x1024x512) _ S1x256x128.size (inbAct 1 0)).emb x)), fun x => (?_ : _ = glue _ ((Rect.unit (s := S1x1024x512) _ S1x256x128.size (inbAct 0 3)).emb x)), fun x => (?_ : _ = glue _ ((Rect.unit (s := S1x1024x512) _ S1x256x128.size (inbAct 0 2)).emb x)), fun x => (?_ : _ = glue _ ((Rect.unit (s := S1x1024x512) _ S1x256x128.size (inbAct 0 1)).emb x)), fun x => (?_ : _ = glue _ ((Rect.unit (s := S1x1024x512) _ S1x256x128.size (inbAct 0 0)).emb x)), trivial⟩, fun y => ?_, fun hd => ?_⟩
  pick_goal 17
  · refine View.canon_append_of_piecesOf (stack _) _ [_, _, _, _] ⟨fun x => (?_ : _ = stack _ ((Rect.unit (s := S4x144x128) _ S1x144x128.size (inbState 3)).emb x)),
      fun x => (?_ : _ = stack _ ((Rect.unit (s := S4x144x128) _ S1x144x128.size (inbState 2)).emb x)),
      fun x => (?_ : _ = stack _ ((Rect.unit (s := S4x144x128) _ S1x144x128.size (inbState 1)).emb x)),
      fun x => (?_ : _ = stack _ ((Rect.unit (s := S4x144x128) _ S1x144x128.size (inbState 0)).emb x)), trivial⟩ y
      (by exact View.cover_of_tiledL (s := S4x144x128) _ S1x144x128.size (by sl_kernel_rfl) y)
    all_goals
      rw [stack_emb]
      simp only [k0_pay50, k0_pay52, k0_pay56, k0_pay58, k0_pay59, k0_pay115, k0_pay117, k0_pay121, k0_pay123, k0_pay175, k0_pay177, k0_pay181,
      k0_pay183, k0_pay237, k0_pay238, k0_pay240, k0_pay243, k0_pay245, spread_first]
      exact congrFun rfl x
  pick_goal 17
  · revert hd
    refine Fin.forall_fin_succ.mpr ⟨(?_ : arg11.view.readCov _ (Rect.unit (s := S8x128) ![0, 0] ![1, 1] _).toLoadRect = _), ?_⟩
    · simp (disch := decide) only [↓ View.readCov_skip, ↓ prev_stored]
      simp only [k0_pay50, k0_pay52, k0_pay56, k0_pay58, k0_pay59, k0_pay115, k0_pay117, k0_pay121, k0_pay123, k0_pay175, k0_pay177, k0_pay181,
      k0_pay183, k0_pay237, k0_pay238, k0_pay240, k0_pay243, k0_pay245, spread_first]
      rfl
    refine Fin.forall_fin_succ.mpr ⟨(?_ : arg11.view.readCov _ (Rect.unit (s := S8x128) ![1, 0] ![1, 1] _).toLoadRect = _), ?_⟩
    · simp (disch := decide) only [↓ View.readCov_skip, ↓ prev_stored]
      simp only [k0_pay50, k0_pay52, k0_pay56, k0_pay58, k0_pay59, k0_pay115, k0_pay117, k0_pay121, k0_pay123, k0_pay175, k0_pay177, k0_pay181,
      k0_pay183, k0_pay237, k0_pay238, k0_pay240, k0_pay243, k0_pay245, spread_first]
      rfl
    refine Fin.forall_fin_two.mpr ⟨(?_ : arg11.view.readCov _ (Rect.unit (s := S8x128) ![2, 0] ![1, 1] _).toLoadRect = _),
      (?_ : arg11.view.readCov _ (Rect.unit (s := S8x128) ![3, 0] ![1, 1] _).toLoadRect = _)⟩
    all_goals
      simp (disch := decide) only [↓ View.readCov_skip, ↓ prev_stored]
      simp only [k0_pay50, k0_pay52, k0_pay56, k0_pay58, k0_pay59, k0_pay115, k0_pay117, k0_pay121, k0_pay123, k0_pay175, k0_pay177, k0_pay181,
      k0_pay183, k0_pay237, k0_pay238, k0_pay240, k0_pay243, k0_pay245, spread_first]
      rfl
  all_goals
    rw [glue_emb]
    simp only [k0_pay50, k0_pay52, k0_pay56, k0_pay58, k0_pay59, k0_pay115, k0_pay117, k0_pay121, k0_pay123, k0_pay175, k0_pay177, k0_pay181,
      k0_pay183, k0_pay237, k0_pay238, k0_pay240, k0_pay243, k0_pay245, spread_first]
    exact congrFun rfl x

end Cert.KernelIdeal.Mlstm

end
-- ==== Proof.Mlstm.Point.lean ====
/-
  What a grid point leaves: the output's block, the heads' states and the stabilisers they are kept at, as the blocks of `Vocab.lean`.
-/
module

public import proofs.«01_k».proof.Proof.Mlstm.BodyA
public import proofs.«01_k».proof.Proof.Mlstm.BodyB
public import Idealize.ShloMosaic.Lib.HeldBySlice

@[expose] public section

noncomputable section

namespace Cert.KernelIdeal.Mlstm

open Cert.KernelIdeal Cert.KernelIdeal.Gen Idealize.ShloMosaic

variable {F : FTy → Type} [FloatOps F]

/-- A list of row stores whose last four are the rows 3, 2, 1, 0 covers the first place of each of them. -/
theorem rows_cover {L : List (View.Piece (Elt F) S8x128 .f32)}
    (h : ∃ (i0 : ∀ a, (![0, 0] : Fin 2 → ℕ) a + (![1, 128] : Fin 2 → ℕ) a ≤ S8x128.size a) (i1 : ∀ a, (![1, 0] : Fin 2 → ℕ) a + (![1, 128] : Fin 2 → ℕ) a ≤ S8x128.size a) (i2 : ∀ a, (![2, 0] : Fin 2 → ℕ) a + (![1, 128] : Fin 2 → ℕ) a ≤ S8x128.size a) (i3 : ∀ a, (![3, 0] : Fin 2 → ℕ) a + (![1, 128] : Fin 2 → ℕ) a ≤ S8x128.size a)
      (w0 : (Rect.unit (s := S8x128) ![0, 0] ![1, 128] i0).shape.Idx → Elt F .f32) (w1 : (Rect.unit (s := S8x128) ![1, 0] ![1, 128] i1).shape.Idx → Elt F .f32) (w2 : (Rect.unit (s := S8x128) ![2, 0] ![1, 128] i2).shape.Idx → Elt F .f32) (w3 : (Rect.unit (s := S8x128) ![3, 0] ![1, 128] i3).shape.Idx → Elt F .f32) (M : List (View.Piece (Elt F) S8x128 .f32)),
      L = ⟨Rect.unit (s := S8x128) ![3, 0] ![1, 128] i3, w3⟩ :: ⟨Rect.unit (s := S8x128) ![2, 0] ![1, 128] i2, w2⟩
      :: ⟨Rect.unit (s := S8x128) ![1, 0] ![1, 128] i1, w1⟩ :: ⟨Rect.unit (s := S8x128) ![0, 0] ![1, 128] i0, w0⟩ :: M)
    (hd : Fin 4) (j : (Rect.unit (s := S8x128) ![hd.val, 0] S1x1.size (inbPrev hd)).toLoadRect.shape.Idx) :
    ∃ p ∈ L, (Rect.unit (s := S8x128) ![hd.val, 0] S1x1.size (inbPrev hd)).toLoadRect.idx j ∈ p.1.set := by
  obtain ⟨i0, i1, i2, i3, w0, w1, w2, w3, M, rfl⟩ := h
  have h0 : (j 0).val = 0 := by have := (j 0).isLt; simp at this; omega
  have h1 : (j 1).val = 0 := by have := (j 1).isLt; simp at this; omega
  have key : ∀ (o : ℕ) (inb), hd.val = o → (Rect.unit (s := S8x128) ![hd.val, 0] S1x1.size (inbPrev hd)).toLoadRect.idx j
      ∈ (Rect.unit (s := S8x128) ![o, 0] ![1, 128] inb).set := by
    rintro o inb rfl
    rw [Rect.mem_set_unit]
    intro a
    fin_cases a <;> simp [LoadRect.idx, h0, h1]
  match hd, key with
  | 0, key => exact ⟨_, .tail _ (.tail _ (.tail _ (.head _))), key _ i0 rfl⟩
  | 1, key => exact ⟨_, .tail _ (.tail _ (.head _)), key _ i1 rfl⟩
  | 2, key => exact ⟨_, .tail _ (.head _), key _ i2 rfl⟩
  | 3, key => exact ⟨_, .head _, key _ i3 rfl⟩

/-- The output's block. -/
theorem outA  (c : Dev nD) (i : grid0.Coords)
    (arg2 : Memref sig .tc .vmem S1x1024x512 .bf16) (harg2 : arg2.IsWhole)
    (arg3 : Memref sig .tc .vmem S1x1024x512 .bf16) (harg3 : arg3.IsWhole)
    (arg4 : Memref sig .tc .vmem S1x512x1024 .bf16) (harg4 : arg4.IsWhole)
    (arg5 : Memref sig .tc .vmem S1x1024x512 .bf16) (harg5 : arg5.IsWhole)
    (arg6 : Memref sig .tc .vmem S1x3x8x1024 .f32) (harg6 : arg6.IsWhole)
    (arg7 : Memref sig .tc .vmem S1x1024x128 .f32) (harg7 : arg7.IsWhole)
    (arg8 : Memref sig .tc .vmem S512x256 .f32) (harg8 : arg8.IsWhole)
    (arg9 : Memref sig .tc .vmem S1x1024x512 .bf16) (harg9 : arg9.IsWhole)
    (arg10 : Memref sig .tc .vmem S4x144x128 .f32) (harg10 : arg10.IsWhole)
    (arg11 : Memref sig .tc .vmem S8x128 .f32) (harg11 : arg11.IsWhole)
    (hc0 : cond0_0 i)
    (x0 : Vec F S1x1024x512 .bf16) (x1 : Vec F S1x1024x512 .bf16) (x2 : Vec F S1x512x1024 .bf16) (x3 : Vec F S1x1024x512 .bf16)
    (x4 : Vec F S1x3x8x1024 .f32) (x5 : Vec F S1x1024x128 .f32) (x6 : Vec F S512x256 .f32) :
    out0_A_7 c i arg2 harg2 arg3 harg3 arg4 harg4 arg5 harg5 arg6 harg6 arg7 harg7 arg8 harg8 arg9 harg9 arg10 harg10 arg11 harg11
      hc0 x0 x1 x2 x3 x4 x5 x6
      = glue (written ⟨x0, x1, x2, x3, x4, x5, x6⟩ (prev k0_pay3) (state k0_pay2)) := by
  funext y
  unfold out0_A_7
  rw [View.read_writes_junk_eq_canon]
  exact View.canon_apply_of_pieces _ _ (bodyA c i arg2 harg2 arg3 harg3 arg4 harg4 arg5 harg5 arg6 harg6 arg7 harg7 arg8 harg8 arg9 harg9 arg10 harg10 arg11 harg11
      hc0 x0 x1 x2 x3 x4 x5 x6).1.mem y (cover0_A_7 c i arg2 harg2 arg3 harg3 arg4 harg4 arg5 harg5 arg6 harg6 arg7 harg7 arg8 harg8 arg9 harg9 arg10 harg10 arg11 harg11
      hc0 x0 x1 x2 x3 x4 x5 x6 y)

/-- The states. -/
theorem stateA  (c : Dev nD) (i : grid0.Coords)
    (arg2 : Memref sig .tc .vmem S1x1024x512 .bf16) (harg2 : arg2.IsWhole)
    (arg3 : Memref sig .tc .vmem S1x1024x512 .bf16) (harg3 : arg3.IsWhole)
    (arg4 : Memref sig .tc .vmem S1x512x1024 .bf16) (harg4 : arg4.IsWhole)
    (arg5 : Memref sig .tc .vmem S1x1024x512 .bf16) (harg5 : arg5.IsWhole)
    (arg6 : Memref sig .tc .vmem S1x3x8x1024 .f32) (harg6 : arg6.IsWhole)
    (arg7 : Memref sig .tc .vmem S1x1024x128 .f32) (harg7 : arg7.IsWhole)
    (arg8 : Memref sig .tc .vmem S512x256 .f32) (harg8 : arg8.IsWhole)
    (arg9 : Memref sig .tc .vmem S1x1024x512 .bf16) (harg9 : arg9.IsWhole)
    (arg10 : Memref sig .tc .vmem S4x144x128 .f32) (harg10 : arg10.IsWhole)
    (arg11 : Memref sig .tc .vmem S8x128 .f32) (harg11 : arg11.IsWhole)
    (hc0 : cond0_0 i)
    (x0 : Vec F S1x1024x512 .bf16) (x1 : Vec F S1x1024x512 .bf16) (x2 : Vec F S1x512x1024 .bf16) (x3 : Vec F S1x1024x512 .bf16)
    (x4 : Vec F S1x3x8x1024 .f32) (x5 : Vec F S1x1024x128 .f32) (x6 : Vec F S512x256 .f32) :
    sout0_A_0 c i arg2 harg2 arg3 harg3 arg4 harg4 arg5 harg5 arg6 harg6 arg7 harg7 arg8 harg8 arg9 harg9 arg10 harg10 arg11 harg11
      hc0 x0 x1 x2 x3 x4 x5 x6
      = stack (states ⟨x0, x1, x2, x3, x4, x5, x6⟩ (prev k0_pay3) (state k0_pay2) 4) := by
  funext y
  unfold sout0_A_0
  rw [View.read_writes_junk_eq_canon]
  exact (bodyA c i arg2 harg2 arg3 harg3 arg4 harg4 arg5 harg5 arg6 harg6 arg7 harg7 arg8 harg8 arg9 harg9 arg10 harg10 arg11 harg11
      hc0 x0 x1 x2 x3 x4 x5 x6).2.1 y

/-- The output's block. -/
theorem outB  (c : Dev nD) (i : grid0.Coords)
    (arg2 : Memref sig .tc .vmem S1x1024x512 .bf16) (harg2 : arg2.IsWhole)
    (arg3 : Memref sig .tc .vmem S1x1024x512 .bf16) (harg3 : arg3.IsWhole)
    (arg4 : Memref sig .tc .vmem S1x512x1024 .bf16) (harg4 : arg4.IsWhole)
    (arg5 : Memref sig .tc .vmem S1x1024x512 .bf16) (harg5 : arg5.IsWhole)
    (arg6 : Memref sig .tc .vmem S1x3x8x1024 .f32) (harg6 : arg6.IsWhole)
    (arg7 : Memref sig .tc .vmem S1x1024x128 .f32) (harg7 : arg7.IsWhole)
    (arg8 : Memref sig .tc .vmem S512x256 .f32) (harg8 : arg8.IsWhole)
    (arg9 : Memref sig .tc .vmem S1x1024x512 .bf16) (harg9 : arg9.IsWhole)
    (arg10 : Memref sig .tc .vmem S4x144x128 .f32) (harg10 : arg10.IsWhole)
    (arg11 : Memref sig .tc .vmem S8x128 .f32) (harg11 : arg11.IsWhole)
    (hc0 : ¬cond0_0 i)
    (x0 : Vec F S1x1024x512 .bf16) (x1 : Vec F S1x1024x512 .bf16) (x2 : Vec F S1x512x1024 .bf16) (x3 : Vec F S1x1024x512 .bf16)
    (x4 : Vec F S1x3x8x1024 .f32) (x5 : Vec F S1x1024x128 .f32) (x6 : Vec F S512x256 .f32) (xs0 : Vec F S4x144x128 .f32) (xs1 : Vec F S8x128 .f32) :
    out0_B_7 c i arg2 harg2 arg3 harg3 arg4 harg4 arg5 harg5 arg6 harg6 arg7 harg7 arg8 harg8 arg9 harg9 arg10 harg10 arg11 harg11
      hc0 x0 x1 x2 x3 x4 x5 x6 xs0 xs1
      = glue (written ⟨x0, x1, x2, x3, x4, x5, x6⟩ (prev xs1) (state xs0)) := by
  funext y
  unfold out0_B_7
  rw [View.read_writes_junk_eq_canon]
  exact View.canon_apply_of_pieces _ _ (bodyB c i arg2 harg2 arg3 harg3 arg4 harg4 arg5 harg5 arg6 harg6 arg7 harg7 arg8 harg8 arg9 harg9 arg10 harg10 arg11 harg11
      hc0 x0 x1 x2 x3 x4 x5 x6 xs0 xs1).1.mem y (cover0_B_7 c i arg2 harg2 arg3 harg3 arg4 harg4 arg5 harg5 arg6 harg6 arg7 harg7 arg8 harg8 arg9 harg9 arg10 harg10 arg11 harg11
      hc0 x0 x1 x2 x3 x4 x5 x6 xs0 xs1 y)

/-- The states. -/
theorem stateB  (c : Dev nD) (i : grid0.Coords)
    (arg2 : Memref sig .tc .vmem S1x1024x512 .bf16) (harg2 : arg2.IsWhole)
    (arg3 : Memref sig .tc .vmem S1x1024x512 .bf16) (harg3 : arg3.IsWhole)
    (arg4 : Memref sig .tc .vmem S1x512x1024 .bf16) (harg4 : arg4.IsWhole)
    (arg5 : Memref sig .tc .vmem S1x1024x512 .bf16) (harg5 : arg5.IsWhole)
    (arg6 : Memref sig .tc .vmem S1x3x8x1024 .f32) (harg6 : arg6.IsWhole)
    (arg7 : Memref sig .tc .vmem S1x1024x128 .f32) (harg7 : arg7.IsWhole)
    (arg8 : Memref sig .tc .vmem S512x256 .f32) (harg8 : arg8.IsWhole)
    (arg9 : Memref sig .tc .vmem S1x1024x512 .bf16) (harg9 : arg9.IsWhole)
    (arg10 : Memref sig .tc .vmem S4x144x128 .f32) (harg10 : arg10.IsWhole)
    (arg11 : Memref sig .tc .vmem S8x128 .f32) (harg11 : arg11.IsWhole)
    (hc0 : ¬cond0_0 i)
    (x0 : Vec F S1x1024x512 .bf16) (x1 : Vec F S1x1024x512 .bf16) (x2 : Vec F S1x512x1024 .bf16) (x3 : Vec F S1x1024x512 .bf16)
    (x4 : Vec F S1x3x8x1024 .f32) (x5 : Vec F S1x1024x128 .f32) (x6 : Vec F S512x256 .f32) (xs0 : Vec F S4x144x128 .f32) (xs1 : Vec F S8x128 .f32) :
    sout0_B_0 c i arg2 harg2 arg3 harg3 arg4 harg4 arg5 harg5 arg6 harg6 arg7 harg7 arg8 harg8 arg9 harg9 arg10 harg10 arg11 harg11
      hc0 x0 x1 x2 x3 x4 x5 x6 xs0 xs1
      = stack (states ⟨x0, x1, x2, x3, x4, x5, x6⟩ (prev xs1) (state xs0) 4) := by
  funext y
  unfold sout0_B_0
  rw [View.read_writes_junk_eq_canon]
  exact (bodyB c i arg2 harg2 arg3 harg3 arg4 harg4 arg5 harg5 arg6 harg6 arg7 harg7 arg8 harg8 arg9 harg9 arg10 harg10 arg11 harg11
      hc0 x0 x1 x2 x3 x4 x5 x6 xs0 xs1).2.1 y

/-- The stabilisers, at a sequence's first point. -/
theorem prevA  (c : Dev nD) (i : grid0.Coords)
    (arg2 : Memref sig .tc .vmem S1x1024x512 .bf16) (harg2 : arg2.IsWhole)
    (arg3 : Memref sig .tc .vmem S1x1024x512 .bf16) (harg3 : arg3.IsWhole)
    (arg4 : Memref sig .tc .vmem S1x512x1024 .bf16) (harg4 : arg4.IsWhole)
    (arg5 : Memref sig .tc .vmem S1x1024x512 .bf16) (harg5 : arg5.IsWhole)
    (arg6 : Memref sig .tc .vmem S1x3x8x1024 .f32) (harg6 : arg6.IsWhole)
    (arg7 : Memref sig .tc .vmem S1x1024x128 .f32) (harg7 : arg7.IsWhole)
    (arg8 : Memref sig .tc .vmem S512x256 .f32) (harg8 : arg8.IsWhole)
    (arg9 : Memref sig .tc .vmem S1x1024x512 .bf16) (harg9 : arg9.IsWhole)
    (arg10 : Memref sig .tc .vmem S4x144x128 .f32) (harg10 : arg10.IsWhole)
    (arg11 : Memref sig .tc .vmem S8x128 .f32) (harg11 : arg11.IsWhole)
    (hc0 : cond0_0 i)
    (x0 : Vec F S1x1024x512 .bf16) (x1 : Vec F S1x1024x512 .bf16) (x2 : Vec F S1x512x1024 .bf16) (x3 : Vec F S1x1024x512 .bf16)
    (x4 : Vec F S1x3x8x1024 .f32) (x5 : Vec F S1x1024x128 .f32) (x6 : Vec F S512x256 .f32) (hd : Fin 4) :
    prev (sout0_A_1 c i arg2 harg2 arg3 harg3 arg4 harg4 arg5 harg5 arg6 harg6 arg7 harg7 arg8 harg8 arg9 harg9 arg10 harg10 arg11 harg11
      hc0 x0 x1 x2 x3 x4 x5 x6) hd
      = before ⟨x0, x1, x2, x3, x4, x5, x6⟩ (prev k0_pay3) 4 hd := by
  rw [← (bodyA c i arg2 harg2 arg3 harg3 arg4 harg4 arg5 harg5 arg6 harg6 arg7 harg7 arg8 harg8 arg9 harg9 arg10 harg10 arg11 harg11
      hc0 x0 x1 x2 x3 x4 x5 x6).2.2 hd]
  unfold sout0_A_1 prev
  rw [View.read_writes_junk_eq_canon, View.readCov_eq_canon']

set_option maxHeartbeats 4000000 in
/-- The stabilisers, at a later point. -/
theorem prevB  (c : Dev nD) (i : grid0.Coords)
    (arg2 : Memref sig .tc .vmem S1x1024x512 .bf16) (harg2 : arg2.IsWhole)
    (arg3 : Memref sig .tc .vmem S1x1024x512 .bf16) (harg3 : arg3.IsWhole)
    (arg4 : Memref sig .tc .vmem S1x512x1024 .bf16) (harg4 : arg4.IsWhole)
    (arg5 : Memref sig .tc .vmem S1x1024x512 .bf16) (harg5 : arg5.IsWhole)
    (arg6 : Memref sig .tc .vmem S1x3x8x1024 .f32) (harg6 : arg6.IsWhole)
    (arg7 : Memref sig .tc .vmem S1x1024x128 .f32) (harg7 : arg7.IsWhole)
    (arg8 : Memref sig .tc .vmem S512x256 .f32) (harg8 : arg8.IsWhole)
    (arg9 : Memref sig .tc .vmem S1x1024x512 .bf16) (harg9 : arg9.IsWhole)
    (arg10 : Memref sig .tc .vmem S4x144x128 .f32) (harg10 : arg10.IsWhole)
    (arg11 : Memref sig .tc .vmem S8x128 .f32) (harg11 : arg11.IsWhole)
    (hc0 : ¬cond0_0 i)
    (x0 : Vec F S1x1024x512 .bf16) (x1 : Vec F S1x1024x512 .bf16) (x2 : Vec F S1x512x1024 .bf16) (x3 : Vec F S1x1024x512 .bf16)
    (x4 : Vec F S1x3x8x1024 .f32) (x5 : Vec F S1x1024x128 .f32) (x6 : Vec F S512x256 .f32) (xs0 : Vec F S4x144x128 .f32) (xs1 : Vec F S8x128 .f32) (hd : Fin 4) :
    prev (sout0_B_1 c i arg2 harg2 arg3 harg3 arg4 harg4 arg5 harg5 arg6 harg6 arg7 harg7 arg8 harg8 arg9 harg9 arg10 harg10 arg11 harg11
      hc0 x0 x1 x2 x3 x4 x5 x6 xs0 xs1) hd
      = before ⟨x0, x1, x2, x3, x4, x5, x6⟩ (prev xs1) 4 hd := by
  rw [← (bodyB c i arg2 harg2 arg3 harg3 arg4 harg4 arg5 harg5 arg6 harg6 arg7 harg7 arg8 harg8 arg9 harg9 arg10 harg10 arg11 harg11
      hc0 x0 x1 x2 x3 x4 x5 x6 xs0 xs1).2.2 hd]
  unfold sout0_B_1 prev
  have hcov : ∀ j, ∃ p ∈ (kernelRun0_B c i arg2 harg2 arg3 harg3 arg4 harg4 arg5 harg5 arg6 harg6 arg7 harg7 arg8 harg8 arg9 harg9 arg10 harg10 arg11 harg11
      hc0 x0 x1 x2 x3 x4 x5 x6 xs0 xs1).2.2.1,
      (Rect.unit (s := S8x128) ![hd.val, 0] S1x1.size (inbPrev hd)).toLoadRect.idx j ∈ p.1.set := by
    refine rows_cover ?_ hd
    unfold kernelRun0_B
    sl_unfold_run_names
    exact ⟨_, _, _, _, _, _, _, _, _, rfl⟩
  exact View.readAt_writes_eq_of_cover (Val := Elt F) arg11.view (harg11.unread xs1) arg11.view.junk _ _ hcov

end Cert.KernelIdeal.Mlstm

end
-- ==== Proof.Mlstm.Sweep.lean ====
/-
  The whole grid. The points of a batch entry run one after the other over its tokens, each starting from the state the one before left:
  the output's array at a token is that token's output, read from the entry's memory of every token up to it.
-/
module

public import proofs.«01_k».proof.Proof.Mlstm.Point
public import proofs.«01_k».proof.Proof.Mlstm.Sequence
public import proofs.«01_k».proof.Proof.Gen.KernelIdeal.Value

@[expose] public section

noncomputable section

namespace Cert.KernelIdeal.Mlstm

open Cert.KernelIdeal Cert.KernelIdeal.Gen Idealize.ShloMosaic

/-! ## Where a point's blocks lie -/

section Windows

variable {F : FTy → Type} [FloatOps F] (m : (ℓ : Loc nD τ sig) → Buf (Elt F) ℓ) (c : Dev nD)

/-- The blocks of point `t`. -/
def blocks (t : Fin cfg0.N) : Blocks F := ⟨iblk m c 0 t, iblk m c 1 t, iblk m c 2 t, iblk m c 3 t, iblk m c 4 t, iblk m c 5 t, iblk m c 6 t⟩

theorem points (t : Fin cfg0.N) : t.val < 64 := lt_of_lt_of_eq t.isLt N_0

theorem index_0 : ∀ t : Fin cfg0.N, win0_0.index t = ![t.val / 4, t.val % 4, 0] := (by decide +kernel : ∀ t : Fin grid0.N, _)
theorem index_1 : ∀ t : Fin cfg0.N, win0_1.index t = ![t.val / 4, t.val % 4, 0] := (by decide +kernel : ∀ t : Fin grid0.N, _)
theorem index_2 : ∀ t : Fin cfg0.N, win0_2.index t = ![t.val / 4, 0, t.val % 4] := (by decide +kernel : ∀ t : Fin grid0.N, _)
theorem index_3 : ∀ t : Fin cfg0.N, win0_3.index t = ![t.val / 4, t.val % 4, 0] := (by decide +kernel : ∀ t : Fin grid0.N, _)
theorem index_4 : ∀ t : Fin cfg0.N, win0_4.index t = ![t.val / 4, 0, 0, t.val % 4] := (by decide +kernel : ∀ t : Fin grid0.N, _)
theorem index_5 : ∀ t : Fin cfg0.N, win0_5.index t = ![t.val / 4, t.val % 4, 0] := (by decide +kernel : ∀ t : Fin grid0.N, _)
theorem index_6 : ∀ t : Fin cfg0.N, win0_6.index t = ![0, 0] := (by decide +kernel : ∀ t : Fin grid0.N, _)

theorem block_q (t : Fin cfg0.N) (i : Fin 1024) (x : Fin 512) : (blocks m c t).q (ix3 0 i x)
    = V m c main_v2 (ix3 ⟨t.val / 4, by have := points t; omega⟩ ⟨1024 * (t.val % 4) + i.val, by omega⟩ x) := by
  show V m c main_v2 (((cfg0.win 0).blk t).view.emb (ix3 0 i x)) = _
  congr 1
  funext a
  apply Fin.ext
  match a with
  | ⟨0, _⟩ => show win0_0.index t 0 * 1 + 1 * 0 = t.val / 4; rw [index_0]; simp
  | ⟨1, _⟩ => show win0_0.index t 1 * 1024 + 1 * i.val = 1024 * (t.val % 4) + i.val; rw [index_0]; simp; ring
  | ⟨2, _⟩ => show win0_0.index t 2 * 512 + 1 * x.val = x.val; rw [index_0]; simp

theorem block_k (t : Fin cfg0.N) (i : Fin 1024) (x : Fin 512) : (blocks m c t).k (ix3 0 i x)
    = V m c main_v3 (ix3 ⟨t.val / 4, by have := points t; omega⟩ ⟨1024 * (t.val % 4) + i.val, by omega⟩ x) := by
  show V m c main_v3 (((cfg0.win 1).blk t).view.emb (ix3 0 i x)) = _
  congr 1
  funext a
  apply Fin.ext
  match a with
  | ⟨0, _⟩ => show win0_1.index t 0 * 1 + 1 * 0 = t.val / 4; rw [index_1]; simp
  | ⟨1, _⟩ => show win0_1.index t 1 * 1024 + 1 * i.val = 1024 * (t.val % 4) + i.val; rw [index_1]; simp; ring
  | ⟨2, _⟩ => show win0_1.index t 2 * 512 + 1 * x.val = x.val; rw [index_1]; simp

theorem block_v (t : Fin cfg0.N) (x : Fin 512) (i : Fin 1024) : (blocks m c t).v (ix3 0 x i)
    = V m c main_v5 (ix3 ⟨t.val / 4, by have := points t; omega⟩ x ⟨1024 * (t.val % 4) + i.val, by omega⟩) := by
  show V m c main_v5 (((cfg0.win 2).blk t).view.emb (ix3 0 x i)) = _
  congr 1
  funext a
  apply Fin.ext
  match a with
  | ⟨0, _⟩ => show win0_2.index t 0 * 1 + 1 * 0 = t.val / 4; rw [index_2]; simp
  | ⟨1, _⟩ => show win0_2.index t 1 * 512 + 1 * x.val = x.val; rw [index_2]; simp
  | ⟨2, _⟩ => show win0_2.index t 2 * 1024 + 1 * i.val = 1024 * (t.val % 4) + i.val; rw [index_2]; simp; ring

theorem block_o (t : Fin cfg0.N) (i : Fin 1024) (x : Fin 512) : (blocks m c t).o (ix3 0 i x)
    = V m c main_v12 (ix3 ⟨t.val / 4, by have := points t; omega⟩ ⟨1024 * (t.val % 4) + i.val, by omega⟩ x) := by
  show V m c main_v12 (((cfg0.win 3).blk t).view.emb (ix3 0 i x)) = _
  congr 1
  funext a
  apply Fin.ext
  match a with
  | ⟨0, _⟩ => show win0_3.index t 0 * 1 + 1 * 0 = t.val / 4; rw [index_3]; simp
  | ⟨1, _⟩ => show win0_3.index t 1 * 1024 + 1 * i.val = 1024 * (t.val % 4) + i.val; rw [index_3]; simp; ring
  | ⟨2, _⟩ => show win0_3.index t 2 * 512 + 1 * x.val = x.val; rw [index_3]; simp

theorem block_s (t : Fin cfg0.N) (r : Fin 3) (h : Fin 8) (i : Fin 1024) : (blocks m c t).s (ix4 0 r h i)
    = V m c main_v28 (ix4 ⟨t.val / 4, by have := points t; omega⟩ r h ⟨1024 * (t.val % 4) + i.val, by omega⟩) := by
  show V m c main_v28 (((cfg0.win 4).blk t).view.emb (ix4 0 r h i)) = _
  congr 1
  funext a
  apply Fin.ext
  match a with
  | ⟨0, _⟩ => show win0_4.index t 0 * 1 + 1 * 0 = t.val / 4; rw [index_4]; simp
  | ⟨1, _⟩ => show win0_4.index t 1 * 3 + 1 * r.val = r.val; rw [index_4]; simp
  | ⟨2, _⟩ => show win0_4.index t 2 * 8 + 1 * h.val = h.val; rw [index_4]; simp
  | ⟨3, _⟩ => show win0_4.index t 3 * 1024 + 1 * i.val = 1024 * (t.val % 4) + i.val; rw [index_4]; simp; ring

theorem block_t (t : Fin cfg0.N) (i : Fin 1024) (x : Fin 128) : (blocks m c t).t (ix3 0 i x)
    = V m c main_v30 (ix3 ⟨t.val / 4, by have := points t; omega⟩ ⟨1024 * (t.val % 4) + i.val, by omega⟩ x) := by
  show V m c main_v30 (((cfg0.win 5).blk t).view.emb (ix3 0 i x)) = _
  congr 1
  funext a
  apply Fin.ext
  match a with
  | ⟨0, _⟩ => show win0_5.index t 0 * 1 + 1 * 0 = t.val / 4; rw [index_5]; simp
  | ⟨1, _⟩ => show win0_5.index t 1 * 1024 + 1 * i.val = 1024 * (t.val % 4) + i.val; rw [index_5]; simp; ring
  | ⟨2, _⟩ => show win0_5.index t 2 * 128 + 1 * x.val = x.val; rw [index_5]; simp

theorem block_g (t : Fin cfg0.N) (x : Fin 512) (i : Fin 256) : (blocks m c t).g (ix2 x i) = V m c main_v32 (ix2 x i) := by
  show V m c main_v32 (((cfg0.win 6).blk t).view.emb (ix2 x i)) = _
  congr 1
  funext a
  apply Fin.ext
  match a with
  | ⟨0, _⟩ => show win0_6.index t 0 * 512 + 1 * x.val = x.val; rw [index_6]; simp
  | ⟨1, _⟩ => show win0_6.index t 1 * 256 + 1 * i.val = i.val; rw [index_6]; simp

/-! ## One point after another -/

/-- What a point leaves, from the stabilisers and states it starts from. -/
theorem point (t : Fin cfg0.N) : ∃ (mp : Fin 4 → Vec F S1x1 .f32) (C : Fin 4 → Vec F S1x144x128 .f32),
    (t.val % 4 = 0 → mp = prev (k0_pay3 (F := F)) ∧ C = state (k0_pay2 (F := F)))
    ∧ (¬t.val % 4 = 0 → mp = prev (outsAt0 m c (t.val - 1) (Nat.lt_of_le_of_lt (Nat.sub_le _ _) t.isLt)).2.2
        ∧ C = state (outsAt0 m c (t.val - 1) (Nat.lt_of_le_of_lt (Nat.sub_le _ _) t.isLt)).2.1)
    ∧ (outsAt0 m c t.val t.isLt).1 = glue (written (blocks m c t) mp C)
    ∧ (outsAt0 m c t.val t.isLt).2.1 = stack (states (blocks m c t) mp C 4)
    ∧ ∀ hd, prev (outsAt0 m c t.val t.isLt).2.2 hd = before (blocks m c t) mp 4 hd := by
  by_cases h0 : t.val % 4 = 0
  · rw [outsAt0_A m c t h0]
    dsimp only
    exact ⟨_, _, fun _ => ⟨rfl, rfl⟩, fun h => absurd h0 h, (outA ..), (stateA ..), fun hd => prevA (hd := hd) ..⟩
  · rw [outsAt0_B m c t h0]
    dsimp only
    exact ⟨_, _, fun h => absurd h h0, fun _ => ⟨rfl, rfl⟩, (outB ..), (stateB ..), fun hd => prevB (hd := hd) ..⟩

end Windows

/-! ## The array -/

variable (m : (ℓ : Loc nD τ sig) → Buf (Elt Ideal) ℓ) (c : Dev nD)

/-- The output gate of a token's channel. -/
def gate (b : Fin 16) (i : Fin 4096) (x : Fin 512) : EReal := V m c main_v12 (ix3 b i x)
/-- The gain of a channel, as one of its 256 copies. -/
def scale (x : Fin 512) (i : Fin 256) : EReal := V m c main_v32 (ix2 x i)

variable (seq : ℕ → Fin 4 → Tokens) (fits : ∀ t : Fin cfg0.N, Fits (blocks m c t) (1024 * (t.val % 4)) (seq (t.val / 4)))
include fits

/-- A point starts from the memory of its entry's tokens before it, and leaves that of the tokens up to its end. -/
theorem kept (n : ℕ) (hn : n < cfg0.N) : ∃ (mp : Fin 4 → Vec Ideal S1x1 .f32) (C : Fin 4 → Vec Ideal S1x144x128 .f32),
    (∀ hd, Keeps (seq (n / 4) hd) (1024 * (n % 4)) (mp hd) (C hd))
    ∧ (outsAt0 m c n hn).1 = glue (written (blocks m c ⟨n, hn⟩) mp C)
    ∧ ∀ hd, Keeps (seq (n / 4) hd) (1024 * (n % 4) + 1024) (prev (outsAt0 m c n hn).2.2 hd) (state (outsAt0 m c n hn).2.1 hd) := by
  induction n with
  | zero =>
    obtain ⟨mp, C, hs, -, ho, hC, hp⟩ := point m c ⟨0, hn⟩
    obtain ⟨rfl, rfl⟩ := hs rfl
    have start : ∀ hd, Keeps (seq 0 hd) (1024 * (0 % 4)) (prev (F := Ideal) (k0_pay3 (F := Ideal)) hd) (state (F := Ideal) (k0_pay2 (F := Ideal)) hd) :=
      fun hd => keeps_start _ hd
    refine ⟨_, _, start, ho, fun hd => ?_⟩
    have := keeps_states (fits ⟨0, hn⟩) start hd 4 le_rfl
    rw [hp, hC, state_stack]
    exact this
  | succ n ih =>
    obtain ⟨mp, C, hs, hs', ho, hC, hp⟩ := point m c ⟨n + 1, hn⟩
    obtain ⟨-, -, -, -, last⟩ := ih (Nat.lt_of_succ_lt hn)
    have start : ∀ hd, Keeps (seq ((n + 1) / 4) hd) (1024 * ((n + 1) % 4)) (mp hd) (C hd) := by
      intro hd
      by_cases h0 : (n + 1) % 4 = 0
      · obtain ⟨rfl, rfl⟩ := hs h0
        rw [h0]
        exact keeps_start _ hd
      · obtain ⟨rfl, rfl⟩ := hs' h0
        have e1 : (n + 1) / 4 = n / 4 := by omega
        have e2 : 1024 * ((n + 1) % 4) = 1024 * (n % 4) + 1024 := by omega
        rw [e1, e2]
        exact last hd
    refine ⟨_, _, start, ho, fun hd => ?_⟩
    have := keeps_states (fits ⟨n + 1, hn⟩) start hd 4 le_rfl
    rw [hp, hC, state_stack]
    exact this

/-- The output's array at a token and a channel. -/
theorem value_at (b : Fin 16) (j ci hd : Fin 4) (s : Fin 256) (e : Fin 128) :
    Value.G7 m c (ix3 b ⟨1024 * j.val + 256 * ci.val + s.val, by omega⟩ ⟨128 * hd.val + e.val, by omega⟩)
      = gate m c b ⟨1024 * j.val + 256 * ci.val + s.val, by omega⟩ ⟨128 * hd.val + e.val, by omega⟩
        * ((((seq b hd).out (1024 * j.val + 256 * ci.val + s.val) e : ℝ) : EReal)
          * Ideal.rsqrt (Ideal.div (∑ x, (((seq b hd).out (1024 * j.val + 256 * ci.val + s.val) x : ℝ) : EReal)
            * (((seq b hd).out (1024 * j.val + 256 * ci.val + s.val) x : ℝ) : EReal)) (Ideal.ofBits .f32 0x43000000#32) + Ideal.ofBits .f32 0x358637BD#32)
          * scale m c ⟨128 * hd.val + e.val, by omega⟩ s) := by
  have hN : 4 * b.val + j.val < cfg0.N := lt_of_lt_of_eq (by omega) N_0.symm
  have hpt : Value.pt7Of (ix3 b ⟨1024 * j.val + 256 * ci.val + s.val, by omega⟩ ⟨128 * hd.val + e.val, by omega⟩) = 4 * b.val + j.val := by
    show 4 * (b.val / 1 - 0) + 1 * ((1024 * j.val + 256 * ci.val + s.val) / 1024 - 0) + 1 * ((128 * hd.val + e.val) / 512 - 0) = _
    omega
  have hloc : Value.loc7Of (ix3 b ⟨1024 * j.val + 256 * ci.val + s.val, by omega⟩ ⟨128 * hd.val + e.val, by omega⟩)
      = ix3 0 ⟨256 * ci.val + s.val, by omega⟩ ⟨128 * hd.val + e.val, by omega⟩ := by
    funext a
    apply Fin.ext
    match a with
    | ⟨0, _⟩ => show b.val % 1 = 0; omega
    | ⟨1, _⟩ => show (1024 * j.val + 256 * ci.val + s.val) % 1024 = 256 * ci.val + s.val; omega
    | ⟨2, _⟩ => show (128 * hd.val + e.val) % 512 = 128 * hd.val + e.val; omega
  obtain ⟨mp, C, start, ho, last⟩ := kept m c seq fits (4 * b.val + j.val) hN
  have hb : (4 * b.val + j.val) / 4 = b.val := by omega
  have hj : (4 * b.val + j.val) % 4 = j.val := by omega
  unfold Value.G7
  rw [dif_pos (by rw [hpt]; exact hN), hloc, Value.fold0_congr m c _ _ (4 * b.val + j.val) (by omega) hpt, ← Value.outsAt0_sweep m c _ hN, ho]
  unfold glue
  have e1 : Fin.ofNat 4 ((256 * ci.val + s.val) / 256) = ci := Fin.ext (by simp; omega)
  have e2 : Fin.ofNat 4 ((128 * hd.val + e.val) / 128) = hd := Fin.ext (by simp; omega)
  have e3 : (256 * ci.val + s.val) % 256 = s.val := by omega
  have e4 : (128 * hd.val + e.val) % 128 = e.val := by omega
  simp only [ix3, e1, e2, e3, e4]
  have w := written_apply (fits ⟨4 * b.val + j.val, hN⟩) start ci hd s e
  have o := block_o m c ⟨4 * b.val + j.val, hN⟩ ⟨256 * ci.val + s.val, by omega⟩ ⟨128 * hd.val + e.val, by omega⟩
  have g := block_g m c ⟨4 * b.val + j.val, hN⟩ ⟨128 * hd.val + e.val, by omega⟩ s
  rw [o, g] at w
  simp only [hb, hj, ← add_assoc] at w
  exact w

end Cert.KernelIdeal.Mlstm

end
-- ==== Proof.Mlstm.Host.lean ====
/-
  The arrays the kernel's host code prepares, at an index, and the blocks they give each grid point: the tokens of `Inputs.lean`.
-/
module

public import proofs.«01_k».proof.Proof.Mlstm.Inputs
public import proofs.«01_k».proof.Proof.Mlstm.Sweep
public import Idealize.ShloMosaic.Lib.StableHlo.ReadAt

@[expose] public section

noncomputable section

namespace Cert.KernelIdeal.Mlstm

open Cert.KernelIdeal Cert.KernelIdeal.Gen Idealize.ShloMosaic

variable (m : (ℓ : Loc nD τ sig) → Buf (Elt Ideal) ℓ) (c : Dev nD)

/-- The logistic function as the host has it. -/
def logistic (x : EReal) : EReal := Ideal.div (Ideal.ofBits .f32 0x3F800000#32) (Ideal.ofBits .f32 0x3F800000#32 + Ideal.exp (-x))

theorem gate_apply (b : Fin 16) (t : Fin 4096) (x : Fin 512) : gate m c b t x = logistic (m (c.tc.loc main_arg3) (ix3 b t x)) := by
  unfold gate V logistic
  after_reads_at

theorem scale_apply (x : Fin 512) (i : Fin 256) : scale m c x i = m (c.tc.loc main_arg6) (ix1 x) := by
  unfold scale V
  after_reads_at

variable {m c} {D : Data} (H : Holds (m (c.tc.loc main_arg0)) (m (c.tc.loc main_arg1)) (m (c.tc.loc main_arg2)) (m (c.tc.loc main_arg4)) (m (c.tc.loc main_arg5)) D)
include H

theorem host_q (b : Fin 16) (t : Fin 4096) (x : Fin 512) : V m c main_v2 (ix3 b t x) = ((D.q b t x * root : ℝ) : EReal) := by
  rw [EReal.coe_mul, ← root_coe, ← H.q]
  unfold V
  after_reads_at

theorem host_k (b : Fin 16) (t : Fin 4096) (x : Fin 512) : V m c main_v3 (ix3 b t x) = ((D.k b t x : ℝ) : EReal) := by
  rw [← H.k]
  unfold V
  after_reads_at

theorem host_v (b : Fin 16) (x : Fin 512) (t : Fin 4096) : V m c main_v5 (ix3 b x t) = ((D.v b t x : ℝ) : EReal) := by
  rw [← H.v]
  unfold V
  after_reads_at

theorem host_m (b : Fin 16) (h : Fin 4) (t : Fin 4096) : V m c main_v28 (ix4 b 0 ⟨h.val, by omega⟩ t) = ((D.s b h t : ℝ) : EReal) := by
  rw [← H.s, stabiliser, ← Ideal.ofBits_zero_f32]
  unfold V
  after_reads_at
  after_reads_at
  rfl

theorem host_a (b : Fin 16) (h : Fin 4) (t : Fin 4096) :
    V m c main_v28 (ix4 b 1 ⟨h.val, by omega⟩ t) = ((D.i b h t / Real.log 2 - D.f b h t / Real.log 2 : ℝ) : EReal) := by
  rw [← entering_real (H.i b h t) (H.f b h t)]
  unfold V
  after_reads_at
  after_reads_at
  rfl

theorem host_f (b : Fin 16) (h : Fin 4) (t : Fin 4096) :
    V m c main_v28 (ix4 b 2 ⟨h.val, by omega⟩ t) = ((D.f b h t / Real.log 2 + D.s b h t : ℝ) : EReal) := by
  rw [EReal.coe_add, ← H.s, stabiliser, ← div_log, ← H.f, ← Ideal.ofBits_zero_f32]
  unfold V
  after_reads_at
  after_reads_at
  rfl

theorem host_t (b : Fin 16) (t : Fin 4096) (h : Fin 4) :
    V m c main_v30 (ix3 b t ⟨24 + h.val, by omega⟩) = ((D.i b h t / Real.log 2 - D.f b h t / Real.log 2 : ℝ) : EReal) := by
  rw [← entering_real (H.i b h t) (H.f b h t)]
  unfold V
  after_reads_at
  rfl

/-- Each point's blocks hold the stretch of its batch entry's tokens. -/
theorem fits (t : Fin cfg0.N) : Fits (blocks m c t) (1024 * (t.val % 4)) (D.tokens (t.val / 4)) := by
  have hb : Fin.ofNat 16 (t.val / 4) = ⟨t.val / 4, by have := points t; omega⟩ := Fin.ext (by have := points t; simp; omega)
  have hi : ∀ i : Fin 1024, Fin.ofNat 4096 (1024 * (t.val % 4) + i.val) = ⟨1024 * (t.val % 4) + i.val, by omega⟩ := fun i => Fin.ext (by simp; omega)
  constructor
  · intro hd i d; rw [block_q, host_q H, ← hb, ← hi]; rfl
  · intro hd i d; rw [block_k, host_k H, ← hb, ← hi]; rfl
  · intro hd i d; rw [block_v, host_v H, ← hb, ← hi]; rfl
  · intro hd i; rw [block_s, host_m H, ← hb, ← hi]; rfl
  · intro hd i; rw [block_s, host_a H, ← hb, ← hi]; rfl
  · intro hd i; rw [block_s, host_f H, ← hb, ← hi]; rfl
  · intro hd i; rw [block_t, host_t H, ← hb, ← hi]; rfl

end Cert.KernelIdeal.Mlstm

end
-- ==== Proof.Mlstm.Plain.lean ====
/-
  The reference, at an index: the attention-like form of the same sequence. Token T weighs every token up to it at once, over the greatest of
  the weights; the quotient is the sequence's output.
-/
module

public import proofs.«01_k».proof.Proof.Mlstm.Inputs
public import proofs.«01_k».proof.Proof.Gen.ReferenceIdeal.Run

@[expose] public section

noncomputable section

namespace Cert.ReferenceIdeal.Mlstm

open Cert.ReferenceIdeal Cert.ReferenceIdeal.Gen Idealize.ShloMosaic
open Cert.KernelIdeal.Mlstm (Data Holds Tokens two augR)

variable {F : FTy → Type} [FloatOps F]

/-! ## The reference in stages -/

/-- The running sum of the forget gates. -/
def sums (f : FVec F S16x4x4096 .f32) : FVec F S16x4x4096 .f32 :=
  Host.reduceWindowAdd ![1, 1, 4096] ![1, 1, 1] ![0, 0, 4095] ![0, 0, 0] f (broadcastInDim S_ ![] bcast_S_S_ (constant S_ .f32 0x00000000#32))
    reduceWindows_S16x4x4096_S16x4x4096_w1s1p0_0_w1s1p0_0_w4096s1p4095_0 h_S_

/-- The logarithms of the weights of each pair of tokens. -/
def exponents (i f : FVec F S16x4x4096 .f32) : FVec F S16x4x4096x4096 .f32 :=
  select (broadcastInDim S16x4x4096x4096 ![2, 3] bcast_S4096x4096_S16x4x4096x4096_2_3 (cmpi .sle (iotaInDim S4096x4096 32 1) (iotaInDim S4096x4096 32 0)))
    (addf (subf (broadcastInDim S16x4x4096x4096 ![0, 1, 2, 3] bcast_S16x4x4096x1_S16x4x4096x4096_0_1_2_3
          (broadcastInDim S16x4x4096x1 ![0, 1, 2] bcast_S16x4x4096_S16x4x4096x1_0_1_2 (sums f)))
        (broadcastInDim S16x4x4096x4096 ![0, 1, 2, 3] bcast_S16x4x1x4096_S16x4x4096x4096_0_1_2_3
          (broadcastInDim S16x4x1x4096 ![0, 1, 3] bcast_S16x4x4096_S16x4x1x4096_0_1_3 (sums f))))
      (broadcastInDim S16x4x4096x4096 ![0, 1, 2, 3] bcast_S16x4x1x4096_S16x4x4096x4096_0_1_2_3
        (broadcastInDim S16x4x1x4096 ![0, 1, 3] bcast_S16x4x4096_S16x4x1x4096_0_1_3 i)))
    (broadcastInDim S16x4x4096x4096 ![] bcast_S_S16x4x4096x4096 (id (constant S_ .f32 0xFF800000#32)))

/-- The greatest of them, and of the running forget gate. -/
def greatest (f : FVec F S16x4x4096 .f32) (w : FVec F S16x4x4096x4096 .f32) : FVec F S16x4x4096 .f32 :=
  maximumf (sums f) (Host.reduce FloatOps.maximumf w (constant S_ .f32 0xFF800000#32) reducesTo_S16x4x4096x4096_S16x4x4096_d3 h_S_)

/-- One array's heads. -/
def heads (x : FVec F S16x4096x512 .f32) : FVec F S16x4x4096x128 .f32 :=
  transpose S16x4x4096x128 [0, 2, 1, 3] (shapeCast S16x4096x4x128 x shapeCasts_S16x4096x512_S16x4096x4x128) transposes_S16x4096x4x128_S16x4x4096x128_0_2_1_3

/-- The weighted products of queries and keys. -/
def products (q k : FVec F S16x4096x512 .f32) (w : FVec F S16x4x4096x4096 .f32) (g : FVec F S16x4x4096 .f32) : FVec F S16x4x4096x4096 .f32 :=
  mulf (Host.dotGeneral dot_S16x4x4096x128_S16x4x4096x128_S16x4x4096x4096_3_3_2_2_01_01 none
      (mulf (heads q) (broadcastInDim S16x4x4096x128 ![] bcast_S_S16x4x4096x128 (constant S_ .f32 0x3DB504F3#32))) (heads k))
    (Host.exp (subf w (broadcastInDim S16x4x4096x4096 ![0, 1, 2, 3] bcast_S16x4x4096x1_S16x4x4096x4096_0_1_2_3
      (broadcastInDim S16x4x4096x1 ![0, 1, 2] bcast_S16x4x4096_S16x4x4096x1_0_1_2 g))))

/-- The weighted mean of the values. -/
def quotient (p : FVec F S16x4x4096x4096 .f32) (v : FVec F S16x4096x512 .f32) (g : FVec F S16x4x4096 .f32) : FVec F S16x4x4096x128 .f32 :=
  Host.divf (Host.dotGeneral dot_S16x4x4096x4096_S16x4x4096x128_S16x4x4096x128_3_2_2_3_01_01 none p (heads v))
    (broadcastInDim S16x4x4096x128 ![0, 1, 2, 3] bcast_S16x4x4096x1_S16x4x4096x128_0_1_2_3
      (broadcastInDim S16x4x4096x1 ![0, 1, 2] bcast_S16x4x4096_S16x4x4096x1_0_1_2
        (maximumf (Host.absf (Host.reduceAdd p (constant S_ .f32 0x00000000#32) reducesTo_S16x4x4096x4096_S16x4x4096_d3 h_S_)) (Host.exp (Host.negf g)))))

/-- The norm over a head's channels, the gain and the output gate. -/
def finished (h : FVec F S16x4x4096x128 .f32) (o : FVec F S16x4096x512 .f32) (w : FVec F S512 .f32) : FVec F S16x4096x512 .bf16 :=
  truncf .bf16 (mulf (Host.divf (broadcastInDim S16x4096x512 ![] bcast_S_S16x4096x512 (constant S_ .f32 0x3F800000#32))
      (addf (broadcastInDim S16x4096x512 ![] bcast_S_S16x4096x512 (constant S_ .f32 0x3F800000#32)) (Host.exp (Host.negf o))))
    (shapeCast S16x4096x512 (transpose S16x4096x4x128 [0, 2, 1, 3]
      (mulf (mulf h (broadcastInDim S16x4x4096x128 ![0, 1, 2, 3] bcast_S16x4x4096x1_S16x4x4096x128_0_1_2_3
          (Host.rsqrt (addf (Host.divf (broadcastInDim S16x4x4096x1 ![0, 1, 2] bcast_S16x4x4096_S16x4x4096x1_0_1_2
              (Host.reduceAdd (mulf h h) (constant S_ .f32 0x00000000#32) reducesTo_S16x4x4096x128_S16x4x4096_d3 h_S_))
            (broadcastInDim S16x4x4096x1 ![] bcast_S_S16x4x4096x1 (constant S_ .f32 0x43000000#32)))
            (broadcastInDim S16x4x4096x1 ![] bcast_S_S16x4x4096x1 (constant S_ .f32 0x358637BD#32))))))
        (broadcastInDim S16x4x4096x128 ![0, 1, 2, 3] bcast_S1x4x1x128_S16x4x4096x128_0_1_2_3
          (broadcastInDim S1x4x1x128 ![1, 2, 3] bcast_S4x1x128_S1x4x1x128_1_2_3 (shapeCast S4x1x128 w shapeCasts_S512_S4x1x128))))
      transposes_S16x4x4096x128_S16x4096x4x128_0_2_1_3) shapeCasts_S16x4096x4x128_S16x4096x512)) bitsLt_bf16_f32

theorem result_stages (m : (ℓ : Loc nD τ sig) → Buf (Elt F) ℓ) (c : Dev nD) :
    Value.res_main_v61 m c = finished (quotient (products (m (c.tc.loc main_arg0)) (m (c.tc.loc main_arg1))
        (exponents (m (c.tc.loc main_arg4)) (m (c.tc.loc main_arg5))) (greatest (m (c.tc.loc main_arg5)) (exponents (m (c.tc.loc main_arg4)) (m (c.tc.loc main_arg5)))))
      (m (c.tc.loc main_arg2)) (greatest (m (c.tc.loc main_arg5)) (exponents (m (c.tc.loc main_arg4)) (m (c.tc.loc main_arg5)))))
      (m (c.tc.loc main_arg3)) (m (c.tc.loc main_arg6)) := rfl

/-! ## Each stage at an index -/

theorem heads_apply (x : FVec F S16x4096x512 .f32) (b : Fin 16) (h : Fin 4) (t : Fin 4096) (d : Fin 128) :
    heads x (ix4 b h t d) = x (ix3 b t ⟨128 * h.val + d.val, by omega⟩) := by
  pointwise [heads]
  simp only [Nat.mul_comm]

theorem exponents_apply (i f : FVec Ideal S16x4x4096 .f32) (b : Fin 16) (h : Fin 4) (t s : Fin 4096) :
    exponents i f (ix4 b h t s) = if s ≤ t then sums f (ix3 b h t) - sums f (ix3 b h s) + i (ix3 b h s) else ⊥ := by
  pointwise [exponents]
  rw [WordCmp.cmpi_sle_ofNat (by omega) (by omega)]
  by_cases hs : s ≤ t
  · simp [Scalar.select, hs]
  · simp only [Scalar.select, if_neg hs, show ¬s.val ≤ t.val from hs, decide_false]
    exact Cert.KernelIdeal.Mlstm.literal_bottom

theorem products_apply (q k : FVec Ideal S16x4096x512 .f32) (w : FVec Ideal S16x4x4096x4096 .f32) (g : FVec Ideal S16x4x4096 .f32)
    (b : Fin 16) (h : Fin 4) (t s : Fin 4096) : products q k w g (ix4 b h t s)
      = (∑ d : Fin 128, heads q (ix4 b h t d) * Ideal.ofBits .f32 0x3DB504F3#32 * heads k (ix4 b h s d)) * Ideal.exp (w (ix4 b h t s) - g (ix3 b h t)) := by
  pointwise [products]

theorem quotient_apply (p : FVec Ideal S16x4x4096x4096 .f32) (v : FVec Ideal S16x4096x512 .f32) (g : FVec Ideal S16x4x4096 .f32)
    (b : Fin 16) (h : Fin 4) (t : Fin 4096) (e : Fin 128) : quotient p v g (ix4 b h t e)
      = Ideal.div (∑ s : Fin 4096, p (ix4 b h t s) * heads v (ix4 b h s e))
        (max (max (∑ s : Fin 4096, p (ix4 b h t s)) (-∑ s : Fin 4096, p (ix4 b h t s))) (Ideal.exp (-g (ix3 b h t)))) := by
  pointwise [quotient]
  rfl

theorem finished_apply (x : FVec Ideal S16x4x4096x128 .f32) (o : FVec Ideal S16x4096x512 .f32) (w : FVec Ideal S512 .f32)
    (b : Fin 16) (h : Fin 4) (t : Fin 4096) (e : Fin 128) : finished x o w (ix3 b t ⟨128 * h.val + e.val, by omega⟩)
      = Ideal.div (Ideal.ofBits .f32 0x3F800000#32) (Ideal.ofBits .f32 0x3F800000#32 + Ideal.exp (-o (ix3 b t ⟨128 * h.val + e.val, by omega⟩)))
        * (x (ix4 b h t e) * Ideal.rsqrt (Ideal.div (∑ d : Fin 128, x (ix4 b h t d) * x (ix4 b h t d)) (Ideal.ofBits .f32 0x43000000#32)
            + Ideal.ofBits .f32 0x358637BD#32) * w (ix1 ⟨128 * h.val + e.val, by omega⟩)) := by
  pointwise [finished]
  simp only [Nat.mul_comm]

/-! ## Over the reals -/

/-- A power of two of a quotient by the logarithm of two. -/
theorem two_div (x : ℝ) : two (x / Real.log 2) = Real.exp x := by
  rw [two, div_mul_cancel₀ _ Cert.KernelIdeal.Mlstm.log_two_ne]

/-- A sum over every token that stops at `t`. -/
theorem sum_to (x : ℕ → ℝ) (t : Fin 4096) : ∑ s : Fin 4096, (if s ≤ t then x s else 0) = ∑ s ∈ Finset.range (t.val + 1), x s := by
  rw [← Finset.sum_filter]
  refine Finset.sum_bij (fun s _ => s.val) ?_ ?_ ?_ ?_
  · intro s hs; simp only [Finset.mem_filter, Finset.mem_univ, true_and, Fin.le_def] at hs; simp; omega
  · intro s _ s' _ e; exact Fin.ext e
  · intro n hn
    simp only [Finset.mem_range] at hn
    exact ⟨⟨n, by omega⟩, Finset.mem_filter.2 ⟨Finset.mem_univ _, Nat.lt_succ_iff.1 hn⟩, rfl⟩
  · intro s _; rfl

theorem ix4_surj {a b c d : ℕ} (j : (⟨4, ![a, b, c, d]⟩ : Shape).Idx) : ∃ x y z w, j = ix4 x y z w :=
  ⟨j 0, j 1, j 2, j 3, by funext d; match d with | ⟨0, _⟩ => rfl | ⟨1, _⟩ => rfl | ⟨2, _⟩ => rfl | ⟨3, _⟩ => rfl⟩

/-- A maximum over numbers short of the infinity falls short of it. -/
theorem reduce_ne_top {s t u : Shape} {axes : List (Fin s.rank)} (x : s.Idx → EReal) (init : u.Idx → EReal) (h : s.ReducesTo axes t) (hu : 0 < u.numel)
    (j : t.Idx) (hx : ∀ n, x n ≠ ⊤) (h0 : ∀ n, init n ≠ ⊤) : Host.reduce (FloatOps.maximumf (F := Ideal) (φ := .f32)) x init h hu j ≠ (⊤ : EReal) := by
  rw [Host.reduce_eq_foldl]
  refine Cert.KernelIdeal.Mlstm.fold_keeps (fun y : EReal => y ≠ ⊤) _ ?_ _ _ (h0 _)
  intro y n hy
  show max y (x n) ≠ ⊤
  rw [ne_eq, max_eq_top, not_or]
  exact ⟨hy, hx n⟩

/-- The greater of a real and of a number short of the infinity is real. -/
theorem greater_real {s : Shape} {a b : FVec Ideal s .f32} {j : s.Idx} (r : ℝ) (ha : a j = (r : EReal)) (hb : b j ≠ (⊤ : EReal)) :
    ∃ g : ℝ, maximumf a b j = (g : EReal) := by
  obtain ⟨y, hy⟩ : ∃ y : EReal, b j = y := ⟨b j, rfl⟩
  have e : maximumf a b j = max (r : EReal) y := by rw [← ha, ← hy]; rfl
  rw [hy] at hb
  rw [e]
  induction y with
  | bot => exact ⟨r, by simp⟩
  | top => exact absurd rfl hb
  | coe x => exact ⟨max r x, Cert.KernelIdeal.Mlstm.max_coe _ _⟩

variable {q k v : FVec Ideal S16x4096x512 .f32} {i f : FVec Ideal S16x4x4096 .f32} {D : Data} (H : Holds q k v i f D)
include H

theorem sums_real (b : Fin 16) (h : Fin 4) (t : Fin 4096) : sums f (ix3 b h t) = ((D.f b h t : ℝ) : EReal) := H.f b h t

theorem exponents_real (b : Fin 16) (h : Fin 4) (t s : Fin 4096) :
    exponents i f (ix4 b h t s) = if s ≤ t then ((D.f b h t - D.f b h s + D.i b h s : ℝ) : EReal) else ⊥ := by
  rw [exponents_apply, sums_real H, sums_real H, H.i, ← EReal.coe_sub, ← EReal.coe_add]

theorem greatest_real (b : Fin 16) (h : Fin 4) (t : Fin 4096) : ∃ g : ℝ, greatest f (exponents i f) (ix3 b h t) = (g : EReal) := by
  refine greater_real (D.f b h t) (sums_real H b h t) (reduce_ne_top _ _ _ _ _ (fun n => ?_) fun _ => ?_)
  · obtain ⟨b', h', t', s', rfl⟩ := ix4_surj n
    rw [exponents_real H]
    split
    · exact EReal.coe_ne_top _
    · exact bot_ne_top
  · exact Cert.KernelIdeal.Mlstm.literal_bottom.trans_ne bot_ne_top

theorem token_q (b : Fin 16) (h : Fin 4) (t : Fin 4096) (d : Fin 128) :
    heads q (ix4 b h t d) * Ideal.ofBits .f32 0x3DB504F3#32 = (((D.tokens b h).Q t d : ℝ) : EReal) := by
  rw [heads_apply, H.q, Cert.KernelIdeal.Mlstm.root_coe, ← EReal.coe_mul]
  simp [Data.tokens, Fin.ofNat_val_eq_self]

theorem token_k (b : Fin 16) (h : Fin 4) (t : Fin 4096) (d : Fin 128) : heads k (ix4 b h t d) = (((D.tokens b h).K t d : ℝ) : EReal) := by
  rw [heads_apply, H.k]
  simp [Data.tokens, Fin.ofNat_val_eq_self]

theorem token_v (b : Fin 16) (h : Fin 4) (t : Fin 4096) (d : Fin 128) : heads v (ix4 b h t d) = (((D.tokens b h).V t d : ℝ) : EReal) := by
  rw [heads_apply, H.v]
  simp [Data.tokens, Fin.ofNat_val_eq_self]

/-- The weights, over the greatest of them. -/
theorem products_real (b : Fin 16) (h : Fin 4) (t s : Fin 4096) {g : ℝ} (hg : greatest f (exponents i f) (ix3 b h t) = (g : EReal)) :
    products q k (exponents i f) (greatest f (exponents i f)) (ix4 b h t s)
      = ((Real.exp (D.f b h t - g) * (if s ≤ t then two ((D.tokens b h).A s) * ∑ d, (D.tokens b h).K s d * (D.tokens b h).Q t d else 0) : ℝ) : EReal) := by
  have e : ∑ d : Fin 128, heads q (ix4 b h t d) * Ideal.ofBits .f32 0x3DB504F3#32 * heads k (ix4 b h s d)
      = ((∑ d, (D.tokens b h).K s d * (D.tokens b h).Q t d : ℝ) : EReal) := by
    rw [← Cert.KernelIdeal.Mlstm.sum_coe]
    exact Finset.sum_congr rfl fun d _ => by rw [token_q H, token_k H, mul_comm, EReal.coe_mul]
  rw [products_apply, e, exponents_real H, hg]
  split
  · rw [← EReal.coe_sub, Ideal.exp_coe, ← EReal.coe_mul]
    have a : (D.tokens b h).A s = (D.i b h s - D.f b h s) / Real.log 2 := by simp [Data.tokens, sub_div]
    refine congrArg (fun r : ℝ => (r : EReal)) ?_
    rw [a, two_div, show D.f b h t - D.f b h s + D.i b h s - g = (D.f b h t - g) + (D.i b h s - D.f b h s) by ring, Real.exp_add]
    ring
  · have : Ideal.exp ((⊥ : EReal) - (g : EReal)) = 0 := by simp
    rw [this, mul_zero, mul_zero, EReal.coe_zero]

/-- The quotient is the sequence's output. -/
theorem quotient_real (b : Fin 16) (h : Fin 4) (t : Fin 4096) (e : Fin 128) :
    quotient (products q k (exponents i f) (greatest f (exponents i f))) v (greatest f (exponents i f)) (ix4 b h t e)
      = (((D.tokens b h).out t e : ℝ) : EReal) := by
  obtain ⟨g, hg⟩ := greatest_real H b h t
  have num : ∑ s : Fin 4096, products q k (exponents i f) (greatest f (exponents i f)) (ix4 b h t s) * heads v (ix4 b h s e)
      = ((Real.exp (D.f b h t - g) * (D.tokens b h).read t ⟨e.val, by omega⟩ : ℝ) : EReal) := by
    rw [Tokens.read, ← sum_to, Finset.mul_sum, ← Cert.KernelIdeal.Mlstm.sum_coe]
    refine Finset.sum_congr rfl fun s _ => ?_
    rw [products_real H b h t s hg, token_v H, ← EReal.coe_mul]
    refine congrArg (fun r : ℝ => (r : EReal)) ?_
    have : augR ((D.tokens b h).V s) ⟨e.val, by omega⟩ = (D.tokens b h).V s e := by simp [augR]
    split
    · rw [this]; ring
    · ring
  have den : ∑ s : Fin 4096, products q k (exponents i f) (greatest f (exponents i f)) (ix4 b h t s)
      = ((Real.exp (D.f b h t - g) * (D.tokens b h).read t 128 : ℝ) : EReal) := by
    rw [Tokens.read, ← sum_to, Finset.mul_sum, ← Cert.KernelIdeal.Mlstm.sum_coe]
    refine Finset.sum_congr rfl fun s _ => ?_
    rw [products_real H b h t s hg]
    refine congrArg (fun r : ℝ => (r : EReal)) ?_
    have : augR ((D.tokens b h).V s) 128 = 1 := by simp [augR]
    split
    · rw [this, one_mul]
    · rfl
  have low : Real.exp (-g) = Real.exp (D.f b h t - g) * two (-(D.tokens b h).G t) := by
    have : (D.tokens b h).G t = D.f b h t / Real.log 2 := by simp [Data.tokens]
    rw [this, ← neg_div, two_div, ← Real.exp_add]
    exact congrArg Real.exp (by ring)
  have E : 0 < Real.exp (D.f b h t - g) := Real.exp_pos _
  rw [quotient_apply, num, den, hg, Cert.KernelIdeal.Mlstm.abs_coe, ← EReal.coe_neg, Ideal.exp_coe, Cert.KernelIdeal.Mlstm.max_coe, low, abs_mul,
    abs_of_pos E, ← mul_max_of_nonneg _ _ E.le]
  have P : 0 < max |(D.tokens b h).read t 128| (two (-(D.tokens b h).G t)) := lt_max_of_lt_right (Cert.KernelIdeal.Mlstm.two_pos _)
  rw [Ideal.div_coe (mul_pos E P).ne', ← EReal.coe_mul, Tokens.out]
  refine congrArg (fun r : ℝ => (r : EReal)) ?_
  rw [mul_one_div, mul_div_mul_left _ _ E.ne']

/-- The reference at a token and a channel. -/
theorem result_real (o : FVec Ideal S16x4096x512 .f32) (w : FVec Ideal S512 .f32) (b : Fin 16) (h : Fin 4) (t : Fin 4096) (e : Fin 128) :
    finished (quotient (products q k (exponents i f) (greatest f (exponents i f))) v (greatest f (exponents i f))) o w (ix3 b t ⟨128 * h.val + e.val, by omega⟩)
      = Ideal.div (Ideal.ofBits .f32 0x3F800000#32) (Ideal.ofBits .f32 0x3F800000#32 + Ideal.exp (-o (ix3 b t ⟨128 * h.val + e.val, by omega⟩)))
        * ((((D.tokens b h).out t e : ℝ) : EReal) * Ideal.rsqrt (Ideal.div (∑ d : Fin 128, (((D.tokens b h).out t d : ℝ) : EReal) * (((D.tokens b h).out t d : ℝ) : EReal))
            (Ideal.ofBits .f32 0x43000000#32) + Ideal.ofBits .f32 0x358637BD#32) * w (ix1 ⟨128 * h.val + e.val, by omega⟩)) := by
  rw [finished_apply]
  simp only [quotient_real H]

end Cert.ReferenceIdeal.Mlstm

end
-- ==== Proof.Mlstm.Finite.lean ====
/-
  The precondition, over the reals: every query, key, value and gate is a real.
-/
module

public import proofs.«01_k».proof.Proof.Mlstm.Inputs
public import proofs.«01_k».proof.Proof.Gen.Pre_finite
public import Idealize.ShloMosaic.Lib.ReduceAll

@[expose] public section

noncomputable section

namespace Cert.Pre_finite.Mlstm

open Cert.Pre_finite Cert.Pre_finite.Gen Idealize.ShloMosaic
open Cert.KernelIdeal.Mlstm (Data Holds)

instance : Subsingleton S_.Idx := ⟨fun a b => by funext d; exact d.elim0⟩

/-- An array whose sizes all fall short of the infinity is an array of reals. -/
theorem reals {s u : Shape} {axes : List (Fin s.rank)} (x : FVec Ideal s .f32) (h : s.ReducesTo axes S_) (hu : 0 < u.numel) (init : u.Idx → BitVec 1)
    (hb : S_.BroadcastsInDim s (![] : Fin 0 → Fin s.rank)) (j : S_.Idx)
    (e : Host.reduce IntOp.andi (cmpf .olt (Host.absf x) (broadcastInDim s ![] hb (constant (F := Ideal) S_ .f32 0x7F800000#32))) init h hu j = 1#1)
    (n : s.Idx) : ∃ r : ℝ, x n = (r : EReal) := by
  have a := Host.reduce_andi_all _ _ _ _ _ e n
  have b : BitVec.ofBool (decide (max (x n : EReal) (-(x n : EReal)) < Ideal.ofBits .f32 0x7F800000#32)) = 1#1 := a
  rw [Cert.KernelIdeal.Mlstm.literal_top] at b
  refine Cert.KernelIdeal.Mlstm.real_of_lt ?_
  by_contra hc
  rw [decide_eq_false hc] at b
  exact absurd b (by decide)

/-- Arguments that meet the precondition hold real data. -/
theorem holds (q k v o : FVec Ideal S16x4096x512 .f32) (i f : FVec Ideal S16x4x4096 .f32) (w : FVec Ideal S512 .f32) (j : S_.Idx)
    (e : fn (F := Ideal) q k v o i f w j = 1#1) : ∃ D : Data, Holds q k v i f D := by
  obtain ⟨e, hf⟩ := IntOp.andi_eq_one.1 (show IntOp.andi _ _ = 1#1 from e)
  obtain ⟨e, hi⟩ := IntOp.andi_eq_one.1 (show IntOp.andi _ _ = 1#1 from e)
  obtain ⟨e, hv⟩ := IntOp.andi_eq_one.1 (show IntOp.andi _ _ = 1#1 from e)
  obtain ⟨hq, hk⟩ := IntOp.andi_eq_one.1 (show IntOp.andi _ _ = 1#1 from e)
  exact Cert.KernelIdeal.Mlstm.exists_holds (reals q _ _ _ _ j hq) (reals k _ _ _ _ j hk) (reals v _ _ _ _ j hv) (reals i _ _ _ _ j hi) (reals f _ _ _ _ j hf)

end Cert.Pre_finite.Mlstm

end
-- ==== Proof.Mlstm.Equal.lean ====
/-
  The two results are one array: at every token and channel the kernel's result and the reference's are the same gate, output, norm and gain.
-/
module

public import proofs.«01_k».proof.Proof.Mlstm.Host
public import proofs.«01_k».proof.Proof.Mlstm.Plain
public import proofs.«01_k».proof.Proof.Mlstm.Finite

@[expose] public section

noncomputable section

namespace Cert.KernelIdeal.Mlstm

open Cert.KernelIdeal Cert.KernelIdeal.Gen Idealize.ShloMosaic
open Cert.ReferenceIdeal.Mlstm (finished quotient products exponents greatest)

/-- A token and a channel, by blocks, chunks and heads. -/
theorem at_chunk (n : S16x4096x512.Idx) : ∃ (b : Fin 16) (j ci hd : Fin 4) (s : Fin 256) (e : Fin 128),
    n = ix3 b ⟨1024 * j.val + 256 * ci.val + s.val, by omega⟩ ⟨128 * hd.val + e.val, by omega⟩ := by
  obtain ⟨b, t, x, rfl⟩ := ix3_surj n
  refine ⟨b, ⟨t.val / 1024, by omega⟩, ⟨t.val % 1024 / 256, by omega⟩, ⟨x.val / 128, by omega⟩, ⟨t.val % 256, by omega⟩, ⟨x.val % 128, by omega⟩, ?_⟩
  congr 1 <;> apply Fin.ext <;> dsimp only <;> omega

/-- The reference's result, of its arguments. -/
def plain (q k v o : FVec Ideal S16x4096x512 .f32) (i f : FVec Ideal S16x4x4096 .f32) (w : FVec Ideal S512 .f32) : FVec Ideal S16x4096x512 .bf16 :=
  finished (quotient (products q k (exponents i f) (greatest f (exponents i f))) v (greatest f (exponents i f))) o w

variable {m : (ℓ : Loc nD τ sig) → Buf (Elt Ideal) ℓ} {c : Dev nD} {D : Data}
  (H : Holds (m (c.tc.loc main_arg0)) (m (c.tc.loc main_arg1)) (m (c.tc.loc main_arg2)) (m (c.tc.loc main_arg4)) (m (c.tc.loc main_arg5)) D)
include H

/-- The kernel's result is the reference's, of the same arguments. -/
theorem equal (n : S16x4096x512.Idx) : (Value.G7 m c n : EReal) = plain (m (c.tc.loc main_arg0)) (m (c.tc.loc main_arg1)) (m (c.tc.loc main_arg2))
    (m (c.tc.loc main_arg3)) (m (c.tc.loc main_arg4)) (m (c.tc.loc main_arg5)) (m (c.tc.loc main_arg6)) n := by
  obtain ⟨b, j, ci, hd, s, e, rfl⟩ := at_chunk n
  have R := Cert.ReferenceIdeal.Mlstm.result_real H (m (c.tc.loc main_arg3)) (m (c.tc.loc main_arg6)) b hd ⟨1024 * j.val + 256 * ci.val + s.val, by omega⟩ e
  have K := value_at m c (fun b h => D.tokens b h) (fits H) b j ci hd s e
  rw [gate_apply, scale_apply] at K
  exact K.trans R.symm

end Cert.KernelIdeal.Mlstm

end
-- ==== Proof.Back.Body.lean ====
/-
  What the back call's body does at a grid point: 512 tokens' rows through the output projection, the norm, the gated feed-forward whose
  hidden activations it keeps in scratch, eleven blocks of 256 channels, and the last norm.
-/
module

public import proofs.«01_k».proof.Proof.Gen.Kernel2Ideal.Value
public import Idealize.ShloMosaic.Lib.VecWindow
public import Idealize.ShloMosaic.Lib.Pipeline.ReadBack
public import Idealize.ShloMosaic.Lib.Pointwise
public import Idealize.ShloMosaic.Lib.Tactic

@[expose] public section

noncomputable section

namespace Cert.Kernel2Ideal.Back

open Cert.Kernel2Ideal Cert.Kernel2Ideal.Gen Idealize.ShloMosaic

variable {F : FTy → Type} [FloatOps F]

theorem inbRows : ∀ j : Fin 2, ∀ a, (![512 * j.val, 0] : Fin 2 → ℕ) a + S512x1024.size a ≤ S1024x1024.size a := by decide
theorem inbCols : ∀ j : Fin 22, ∀ a, (![0, 256 * j.val] : Fin 2 → ℕ) a + S1024x256.size a ≤ S1024x5632.size a := by decide
theorem inbAct : ∀ j : Fin 11, ∀ a, (![0, 256 * j.val] : Fin 2 → ℕ) a + S512x256.size a ≤ S512x2816.size a := by decide

/-- Half of the output projection's rows: one head group's. -/
def rows (w : Vec F S1024x1024 .bf16) (j : Fin 2) : Vec F S512x1024 .bf16 := View.ld w (Rect.unit _ S512x1024.size (inbRows j))
/-- 256 columns of the gate's and the value's weights. -/
def cols (w : Vec F S1024x5632 .bf16) (j : Fin 22) : Vec F S1024x256 .bf16 := View.ld w (Rect.unit _ S1024x256.size (inbCols j))

/-- The blocks of a grid point. -/
structure Blocks (F : FTy → Type) [FloatOps F] where
  x : Vec F S1x512x1024 .f32
  a : Vec F S1x512x512 .bf16
  b : Vec F S1x512x512 .bf16
  o : Vec F S1024x1024 .bf16
  g : Vec F S1x1024 .f32
  u : Vec F S1024x5632 .bf16
  d : Vec F S2816x1024 .bf16
  l : Vec F S1x1024 .f32

/-- The tokens after the mixer. -/
def mixed (k : Blocks F) : FVec F S512x1024 .f32 := k0_pay2 k.a (rows k.o 0) k.b (rows k.o 1) k.x
/-- Their norm. -/
def normed (k : Blocks F) : FVec F S512x1024 .bf16 := k0_pay3 k.a (rows k.o 0) k.b (rows k.o 1) k.x k.g
/-- 256 channels of the hidden activations. -/
def piece (k : Blocks F) (j : Fin 11) : FVec F S512x256 .bf16 := k0_pay6 (normed k) (cols k.u (Fin.ofNat 22 j.val)) (cols k.u (Fin.ofNat 22 (11 + j.val)))
/-- The hidden activations. -/
def hidden (k : Blocks F) : Vec F S512x2816 .bf16 := fun i =>
  piece k (Fin.ofNat 11 ((i 1).val / 256)) (ix2 ⟨(i 0).val, (i 0).isLt⟩ ⟨(i 1).val % 256, Nat.mod_lt _ (by decide)⟩)
/-- The point's result. -/
def result (k : Blocks F) : FVec F S1x512x1024 .f32 := k0_pay1 (k0_pay18 (mixed k) (hidden k) k.d) (k0_pay19 k.l) (k0_pay20 (mixed k) (hidden k) k.d)

theorem hidden_emb (k : Blocks F) (j : Fin 11) (x : (Rect.unit (s := S512x2816) _ S512x256.size (inbAct j)).shape.Idx) :
    hidden k ((Rect.unit (s := S512x2816) _ S512x256.size (inbAct j)).emb x) = piece k j x := by
  have h0 : (x 0).val < 512 := (x 0).isLt
  have h1 : (x 1).val < 256 := (x 1).isLt
  have e0 : (((Rect.unit (s := S512x2816) _ S512x256.size (inbAct j)).emb x) 0).val = (x 0).val := by simp [Rect.emb, Rect.unit]
  have e1 : (((Rect.unit (s := S512x2816) _ S512x256.size (inbAct j)).emb x) 1).val = 256 * j.val + (x 1).val := by simp [Rect.emb, Rect.unit]
  have ej : Fin.ofNat 11 ((256 * j.val + (x 1).val) / 256) = j := Fin.ext (by simp; omega)
  unfold hidden
  simp only [e0, e1, ej]
  congr 1
  funext a
  match a with
  | ⟨0, _⟩ => rfl
  | ⟨1, _⟩ => apply Fin.ext; show (256 * j.val + (x 1).val) % 256 = (x 1).val; omega

theorem hidden_read (k : Blocks F) (v : View sig .tc .vmem S512x2816 .bf16) (L : List (View.Piece (Elt F) S512x2816 .bf16))
    (inb : ∀ a, (![0, 0] : Fin 2 → ℕ) a + S512x2816.size a ≤ S512x2816.size a) (hL : View.PiecesOf (hidden k) L) (hc : ∀ y, ∃ p ∈ L, y ∈ p.1.set) :
    v.readCov L (Rect.unit (s := S512x2816) ![0, 0] S512x2816.size inb).toLoadRect = hidden k := by
  rw [View.readCov_eq_canon']
  funext y
  exact (View.canon_apply_of_pieces _ _ hL.mem _ (hc _)).trans (congrArg (hidden k) (Rect.emb_unit_full inb y))

theorem body (c : Dev nD) (i : grid0.Coords) (arg2 : Memref sig .tc .vmem S1x512x1024 .f32) (harg2 : arg2.IsWhole) (arg3 : Memref sig .tc .vmem S1x512x512 .bf16) (harg3 : arg3.IsWhole)
    (arg4 : Memref sig .tc .vmem S1x512x512 .bf16) (harg4 : arg4.IsWhole) (arg5 : Memref sig .tc .vmem S1024x1024 .bf16) (harg5 : arg5.IsWhole)
    (arg6 : Memref sig .tc .vmem S1x1024 .f32) (harg6 : arg6.IsWhole) (arg7 : Memref sig .tc .vmem S1024x5632 .bf16) (harg7 : arg7.IsWhole)
    (arg8 : Memref sig .tc .vmem S2816x1024 .bf16) (harg8 : arg8.IsWhole) (arg9 : Memref sig .tc .vmem S1x1024 .f32) (harg9 : arg9.IsWhole)
    (arg10 : Memref sig .tc .vmem S1x512x1024 .f32) (harg10 : arg10.IsWhole) (arg11 : Memref sig .tc .vmem S512x2816 .bf16) (harg11 : arg11.IsWhole)
    (x0 : Vec F S1x512x1024 .f32) (x1 : Vec F S1x512x512 .bf16) (x2 : Vec F S1x512x512 .bf16) (x3 : Vec F S1024x1024 .bf16) (x4 : Vec F S1x1024 .f32)
    (x5 : Vec F S1024x5632 .bf16) (x6 : Vec F S2816x1024 .bf16) (x7 : Vec F S1x1024 .f32) :
    out0_A_8 c i arg2 harg2 arg3 harg3 arg4 harg4 arg5 harg5 arg6 harg6 arg7 harg7 arg8 harg8 arg9 harg9 arg10 harg10 arg11 harg11 x0 x1 x2 x3 x4 x5 x6 x7
      = result ⟨x0, x1, x2, x3, x4, x5, x6, x7⟩ := by
  have z3 : (![0, 0, 0] : Fin 3 → ℕ) = fun _ => 0 := by funext a; fin_cases a <;> rfl
  have z2 : (![0, 0] : Fin 2 → ℕ) = fun _ => 0 := by funext a; fin_cases a <;> rfl
  have l0 : arg2.view.readAt (Elt F) (Rect.unit ![0, 0, 0] ![1, 512, 1024] inb_S1x512x1024_S1x512x1024_0_0_0).toLoadRect (harg2.unread x0) = x0 :=
    (congrArg (View.ld · _) (harg2.read_unread (Val := Elt F) x0)).trans (View.ld_unit_zero z3 inb_S1x512x1024_S1x512x1024_0_0_0 x0)
  have l1 : arg3.view.readAt (Elt F) (Rect.unit ![0, 0, 0] ![1, 512, 512] inb_S1x512x512_S1x512x512_0_0_0).toLoadRect (harg3.unread x1) = x1 :=
    (congrArg (View.ld · _) (harg3.read_unread (Val := Elt F) x1)).trans (View.ld_unit_zero z3 inb_S1x512x512_S1x512x512_0_0_0 x1)
  have l2 : arg4.view.readAt (Elt F) (Rect.unit ![0, 0, 0] ![1, 512, 512] inb_S1x512x512_S1x512x512_0_0_0).toLoadRect (harg4.unread x2) = x2 :=
    (congrArg (View.ld · _) (harg4.read_unread (Val := Elt F) x2)).trans (View.ld_unit_zero z3 inb_S1x512x512_S1x512x512_0_0_0 x2)
  have l4 : arg6.view.readAt (Elt F) (Rect.unit ![0, 0] ![1, 1024] inb_S1x1024_S1x1024_0_0).toLoadRect (harg6.unread x4) = x4 :=
    (congrArg (View.ld · _) (harg6.read_unread (Val := Elt F) x4)).trans (View.ld_unit_zero z2 inb_S1x1024_S1x1024_0_0 x4)
  have l6 : arg8.view.readAt (Elt F) (Rect.unit ![0, 0] ![2816, 1024] inb_S2816x1024_S2816x1024_0_0).toLoadRect (harg8.unread x6) = x6 :=
    (congrArg (View.ld · _) (harg8.read_unread (Val := Elt F) x6)).trans (View.ld_unit_zero z2 inb_S2816x1024_S2816x1024_0_0 x6)
  have l7 : arg9.view.readAt (Elt F) (Rect.unit ![0, 0] ![1, 1024] inb_S1x1024_S1x1024_0_0).toLoadRect (harg9.unread x7) = x7 :=
    (congrArg (View.ld · _) (harg9.read_unread (Val := Elt F) x7)).trans (View.ld_unit_zero z2 inb_S1x1024_S1x1024_0_0 x7)
  have h3 := harg5.read_unread (Val := Elt F) x3
  have h5 := harg7.read_unread (Val := Elt F) x5
  unfold out0_A_8
  rw [View.read_writes_junk_eq_canon]
  unfold kernelRun0_A
  sl_unfold_run_names
  simp only [l0, l1, l2, l4, l6, l7]
  clear l0 l1 l2 l4 l6 l7
  generalize harg5.unread x3 = f3 at *
  generalize harg7.unread x5 = f5 at *
  subst h3 h5
  refine (View.canon_unit_zero z3 inb_S1x512x1024_S1x512x1024_0_0_0 _).trans ?_
  rw [hidden_read ⟨x0, x1, x2, arg5.view.read (Elt F) f3, x4, arg7.view.read (Elt F) f5, x6, x7⟩ arg11.view _ _ ?_ ?_]
  · rfl
  · refine ⟨fun x => (?_ : _ = hidden _ ((Rect.unit (s := S512x2816) _ S512x256.size (inbAct 10)).emb x)), fun x => (?_ : _ = hidden _ ((Rect.unit (s := S512x2816) _ S512x256.size (inbAct 9)).emb x)),
      fun x => (?_ : _ = hidden _ ((Rect.unit (s := S512x2816) _ S512x256.size (inbAct 8)).emb x)), fun x => (?_ : _ = hidden _ ((Rect.unit (s := S512x2816) _ S512x256.size (inbAct 7)).emb x)),
      fun x => (?_ : _ = hidden _ ((Rect.unit (s := S512x2816) _ S512x256.size (inbAct 6)).emb x)), fun x => (?_ : _ = hidden _ ((Rect.unit (s := S512x2816) _ S512x256.size (inbAct 5)).emb x)),
      fun x => (?_ : _ = hidden _ ((Rect.unit (s := S512x2816) _ S512x256.size (inbAct 4)).emb x)), fun x => (?_ : _ = hidden _ ((Rect.unit (s := S512x2816) _ S512x256.size (inbAct 3)).emb x)),
      fun x => (?_ : _ = hidden _ ((Rect.unit (s := S512x2816) _ S512x256.size (inbAct 2)).emb x)), fun x => (?_ : _ = hidden _ ((Rect.unit (s := S512x2816) _ S512x256.size (inbAct 1)).emb x)),
      fun x => (?_ : _ = hidden _ ((Rect.unit (s := S512x2816) _ S512x256.size (inbAct 0)).emb x)), trivial⟩
    all_goals
      rw [hidden_emb]
      exact congrFun rfl x
  · exact fun y => View.cover_of_tiledL (s := S512x2816) _ S512x256.size (by sl_kernel_rfl) y

end Cert.Kernel2Ideal.Back

end
-- ==== Proof.Back.Row.lean ====
/-
  One token's row through the second half of the layer, as formulas over the extended reals: the output projection of the two head groups, the
  norm, the gated feed-forward at half weight, and the norm again.
-/
module

public import Idealize.ShloMosaic.Lib.Pointwise
public import Idealize.ShloMosaic.Lib.IdealHost

@[expose] public section

noncomputable section

namespace Cert.Row

open Idealize.ShloMosaic

/-- The norm of a row of 1024 channels, with its gains. -/
def norm (x g : Fin 1024 → EReal) (j : Fin 1024) : EReal :=
  x j * Ideal.rsqrt (Ideal.div (∑ k, x k * x k) (Ideal.ofBits .f32 0x44800000#32) + Ideal.ofBits .f32 0x358637BD#32) * g j

/-- The gate's activation times the value. -/
def gated (x y : EReal) : EReal := x * Ideal.div (Ideal.ofBits .f32 0x3F800000#32) (Ideal.ofBits .f32 0x3F800000#32 + Ideal.exp (-x)) * y

/-- The feed-forward's hidden channels of a normed row: the gate's columns come first, the value's after them. -/
def hidden (h : Fin 1024 → EReal) (u : Fin 1024 → Fin 5632 → EReal) (k : Fin 2816) : EReal :=
  gated (∑ i, h i * u i ⟨k.val, by omega⟩) (∑ i, h i * u i ⟨2816 + k.val, by omega⟩)

/-- A row plus half its feed-forward. -/
def fed (x g : Fin 1024 → EReal) (u : Fin 1024 → Fin 5632 → EReal) (d : Fin 2816 → Fin 1024 → EReal) (j : Fin 1024) : EReal :=
  x j + Ideal.ofBits .f32 0x3F000000#32 * ∑ k, hidden (norm x g) u k * d k j

/-- A row plus the projection of the two head groups' outputs. -/
def mixed (x : Fin 1024 → EReal) (a b : Fin 512 → EReal) (w : Fin 1024 → Fin 1024 → EReal) (j : Fin 1024) : EReal :=
  x j + (∑ i, a i * w ⟨i.val, by omega⟩ j + ∑ i, b i * w ⟨512 + i.val, by omega⟩ j)

/-- The whole of it. -/
def back (x : Fin 1024 → EReal) (a b : Fin 512 → EReal) (w : Fin 1024 → Fin 1024 → EReal) (g : Fin 1024 → EReal) (u : Fin 1024 → Fin 5632 → EReal)
    (d : Fin 2816 → Fin 1024 → EReal) (l : Fin 1024 → EReal) : Fin 1024 → EReal :=
  norm (fed (mixed x a b w) g u d) l

theorem back_congr {x x' : Fin 1024 → EReal} {a a' b b' : Fin 512 → EReal} {w w' : Fin 1024 → Fin 1024 → EReal} {g g' : Fin 1024 → EReal}
    {u u' : Fin 1024 → Fin 5632 → EReal} {d d' : Fin 2816 → Fin 1024 → EReal} {l l' : Fin 1024 → EReal} (hx : ∀ j, x j = x' j) (ha : ∀ i, a i = a' i)
    (hb : ∀ i, b i = b' i) (hw : ∀ i j, w i j = w' i j) (hg : ∀ j, g j = g' j) (hu : ∀ i k, u i k = u' i k) (hd : ∀ k j, d k j = d' k j) (hl : ∀ j, l j = l' j)
    (j : Fin 1024) : back x a b w g u d l j = back x' a' b' w' g' u' d' l' j := by
  rw [funext hx, funext ha, funext hb, funext fun i => funext (hw i), funext hg, funext fun i => funext (hu i), funext fun k => funext (hd k), funext hl]

/-- The kernel writes the negation in the activation as a difference from zero. -/
theorem gated_of_sub (x y : EReal) : x * Ideal.div (Ideal.ofBits .f32 0x3F800000#32)
    (Ideal.ofBits .f32 0x3F800000#32 + Ideal.exp (Ideal.ofBits .f32 0x00000000#32 - x)) * y = gated x y := by
  rw [Ideal.ofBits_zero_f32, zero_sub]
  rfl

/-- A sum over 1024 channels is the sums over its halves. -/
theorem sum_halves (f : Fin 1024 → EReal) : ∑ i, f i = ∑ i : Fin 512, f ⟨i.val, by omega⟩ + ∑ i : Fin 512, f ⟨512 + i.val, by omega⟩ :=
  Fin.sum_univ_add (a := 512) (b := 512) f

end Cert.Row

end
-- ==== Proof.Back.Tile.lean ====
/-
  A grid point's result at an index: each of its 512 rows is one token's row of `Row.lean`.
-/
module

public import proofs.«01_k».proof.Proof.Back.Body
public import proofs.«01_k».proof.Proof.Back.Row

@[expose] public section

noncomputable section

namespace Cert.Kernel2Ideal.Back

open Cert.Kernel2Ideal Cert.Kernel2Ideal.Gen Idealize.ShloMosaic

theorem rows_apply (w : Vec Ideal S1024x1024 .bf16) (j : Fin 2) (i : Fin 512) (x : Fin 1024) :
    rows w j (ix2 i x) = w (ix2 ⟨512 * j.val + i.val, by omega⟩ x) := by
  unfold rows
  pointwise

theorem cols_apply (w : Vec Ideal S1024x5632 .bf16) (j : Fin 22) (i : Fin 1024) (x : Fin 256) :
    cols w j (ix2 i x) = w (ix2 i ⟨256 * j.val + x.val, by omega⟩) := by
  unfold cols
  pointwise

theorem mixed_apply (k : Blocks Ideal) (r : Fin 512) (x : Fin 1024) : mixed k (ix2 r x)
    = Row.mixed (fun x => k.x (ix3 0 r x)) (fun i => k.a (ix3 0 r i)) (fun i => k.b (ix3 0 r i)) (fun i x => k.o (ix2 i x)) x := by
  pointwise [mixed, k0_pay2]
  simp only [rows_apply]
  unfold Row.mixed
  simp

theorem normed_apply (k : Blocks Ideal) (r : Fin 512) (x : Fin 1024) : normed k (ix2 r x)
    = Row.norm (fun x => mixed k (ix2 r x)) (fun x => k.g (ix2 0 x)) x := by
  unfold normed k0_pay3
  change (_ : EReal) = Row.norm (fun x => k0_pay2 k.a (rows k.o 0) k.b (rows k.o 1) k.x (ix2 r x)) (fun x => k.g (ix2 0 x)) x
  generalize k0_pay2 k.a (rows k.o 0) k.b (rows k.o 1) k.x = z
  unfold Row.norm
  pointwise

theorem piece_apply (k : Blocks Ideal) (j : Fin 11) (r : Fin 512) (x : Fin 256) : piece k j (ix2 r x)
    = Row.hidden (fun x => normed k (ix2 r x)) (fun i x => k.u (ix2 i x)) ⟨256 * j.val + x.val, by omega⟩ := by
  unfold Row.hidden
  rw [← Row.gated_of_sub]
  unfold piece
  generalize normed k = h
  pointwise [k0_pay6]
  have e1 : (Fin.ofNat 22 j.val).val = j.val := Nat.mod_eq_of_lt (by omega)
  have e2 : (Fin.ofNat 22 (11 + j.val)).val = 11 + j.val := Nat.mod_eq_of_lt (by omega)
  have e3 : ∀ x : ℕ, 256 * (11 + j.val) + x = 2816 + (256 * j.val + x) := fun x => by omega
  simp only [cols_apply, e1, e2, e3]

theorem fed_apply (z : FVec Ideal S512x1024 .f32) (h : Vec Ideal S512x2816 .bf16) (d : Vec Ideal S2816x1024 .bf16) (r : Fin 512) (x : Fin 1024) :
    k0_pay18 z h d (ix2 r x) = z (ix2 r x) + Ideal.ofBits .f32 0x3F000000#32 * ∑ k : Fin 2816, h (ix2 r k) * d (ix2 k x) := by
  pointwise [k0_pay18]

theorem last_apply (z : FVec Ideal S512x1024 .f32) (h : Vec Ideal S512x2816 .bf16) (d : Vec Ideal S2816x1024 .bf16) (l : Vec Ideal S1x1024 .f32) (r : Fin 512) (x : Fin 1024) :
    k0_pay1 (k0_pay18 z h d) (k0_pay19 l) (k0_pay20 z h d) (ix3 0 r x) = Row.norm (fun x => k0_pay18 z h d (ix2 r x)) (fun x => l (ix2 0 x)) x := by
  unfold k0_pay20
  generalize k0_pay18 z h d = y
  unfold Row.norm
  pointwise [k0_pay1, k0_pay19]

theorem hidden_apply (k : Blocks Ideal) (r : Fin 512) (x : Fin 2816) : hidden k (ix2 r x)
    = Row.hidden (fun x => normed k (ix2 r x)) (fun i x => k.u (ix2 i x)) x := by
  have e1 : (Fin.ofNat 11 (x.val / 256)).val = x.val / 256 := Nat.mod_eq_of_lt (by omega)
  have e2 : 256 * (x.val / 256) + x.val % 256 = x.val := Nat.div_add_mod _ _
  refine (piece_apply k (Fin.ofNat 11 (x.val / 256)) r ⟨x.val % 256, Nat.mod_lt _ (by decide)⟩).trans ?_
  congr 1
  exact Fin.ext ((congrArg (fun n => 256 * n + x.val % 256) e1).trans e2)

/-- The point's result, row by row. -/
theorem result_apply (k : Blocks Ideal) (r : Fin 512) (x : Fin 1024) : result k (ix3 0 r x)
    = Row.back (fun x => k.x (ix3 0 r x)) (fun i => k.a (ix3 0 r i)) (fun i => k.b (ix3 0 r i)) (fun i x => k.o (ix2 i x)) (fun x => k.g (ix2 0 x))
      (fun i x => k.u (ix2 i x)) (fun i x => k.d (ix2 i x)) (fun x => k.l (ix2 0 x)) x := by
  unfold result
  rw [last_apply]
  simp only [fed_apply, hidden_apply, normed_apply, mixed_apply]
  rfl

end Cert.Kernel2Ideal.Back

end
-- ==== Proof.Back.Whole.lean ====
/-
  The whole grid: sixteen batch entries of eight tiles of 512 tokens. The output's array at a token is that token's row, of the arrays the host
  code prepares.
-/
module

public import proofs.«01_k».proof.Proof.Back.Tile
public import Idealize.ShloMosaic.Lib.StableHlo.ReadAt

@[expose] public section

noncomputable section

namespace Cert.Kernel2Ideal.Back

open Cert.Kernel2Ideal Cert.Kernel2Ideal.Gen Idealize.ShloMosaic

section Windows

variable {F : FTy → Type} [FloatOps F] (m : (ℓ : Loc nD τ sig) → Buf (Elt F) ℓ) (c : Dev nD)

/-- The blocks of point `t`. -/
def blocks (t : Fin cfg0.N) : Blocks F :=
  ⟨iblk m c 0 t, iblk m c 1 t, iblk m c 2 t, iblk m c 3 t, iblk m c 4 t, iblk m c 5 t, iblk m c 6 t, iblk m c 7 t⟩

theorem points (t : Fin cfg0.N) : t.val < 128 := lt_of_lt_of_eq t.isLt N_0

theorem index_0 : ∀ t : Fin cfg0.N, win0_0.index t = ![t.val / 8, t.val % 8, 0] := (by decide +kernel : ∀ t : Fin grid0.N, _)
theorem index_1 : ∀ t : Fin cfg0.N, win0_1.index t = ![t.val / 8, t.val % 8, 0] := (by decide +kernel : ∀ t : Fin grid0.N, _)
theorem index_2 : ∀ t : Fin cfg0.N, win0_2.index t = ![t.val / 8, t.val % 8, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![0, 0] := (by decide +kernel : ∀ t : Fin grid0.N, _)
theorem index_7 : ∀ t : Fin cfg0.N, win0_7.index t = ![0, 0] := (by decide +kernel : ∀ t : Fin grid0.N, _)
theorem index_8 : ∀ t : Fin cfg0.N, win0_8.index t = ![t.val / 8, t.val % 8, 0] := (by decide +kernel : ∀ t : Fin grid0.N, _)

theorem block_x (t : Fin cfg0.N) (i : Fin 512) (x : Fin 1024) : (blocks m c t).x (ix3 0 i x)
    = V m c main_arg0 (ix3 ⟨t.val / 8, by have := points t; omega⟩ ⟨512 * (t.val % 8) + i.val, by omega⟩ x) := by
  show V m c main_arg0 (((cfg0.win 0).blk t).view.emb (ix3 0 i x)) = _
  congr 1
  funext a
  apply Fin.ext
  match a with
  | ⟨0, _⟩ => show win0_0.index t 0 * 1 + 1 * 0 = t.val / 8; rw [index_0]; simp
  | ⟨1, _⟩ => show win0_0.index t 1 * 512 + 1 * i.val = 512 * (t.val % 8) + i.val; rw [index_0]; simp; ring
  | ⟨2, _⟩ => show win0_0.index t 2 * 1024 + 1 * x.val = x.val; rw [index_0]; simp

theorem block_a (t : Fin cfg0.N) (i : Fin 512) (x : Fin 512) : (blocks m c t).a (ix3 0 i x)
    = V m c main_arg1 (ix3 ⟨t.val / 8, by have := points t; omega⟩ ⟨512 * (t.val % 8) + i.val, by omega⟩ x) := by
  show V m c main_arg1 (((cfg0.win 1).blk t).view.emb (ix3 0 i x)) = _
  congr 1
  funext a
  apply Fin.ext
  match a with
  | ⟨0, _⟩ => show win0_1.index t 0 * 1 + 1 * 0 = t.val / 8; rw [index_1]; simp
  | ⟨1, _⟩ => show win0_1.index t 1 * 512 + 1 * i.val = 512 * (t.val % 8) + i.val; rw [index_1]; simp; ring
  | ⟨2, _⟩ => show win0_1.index t 2 * 512 + 1 * x.val = x.val; rw [index_1]; simp

theorem block_b (t : Fin cfg0.N) (i : Fin 512) (x : Fin 512) : (blocks m c t).b (ix3 0 i x)
    = V m c main_arg2 (ix3 ⟨t.val / 8, by have := points t; omega⟩ ⟨512 * (t.val % 8) + i.val, by omega⟩ x) := by
  show V m c main_arg2 (((cfg0.win 2).blk t).view.emb (ix3 0 i x)) = _
  congr 1
  funext a
  apply Fin.ext
  match a with
  | ⟨0, _⟩ => show win0_2.index t 0 * 1 + 1 * 0 = t.val / 8; rw [index_2]; simp
  | ⟨1, _⟩ => show win0_2.index t 1 * 512 + 1 * i.val = 512 * (t.val % 8) + i.val; rw [index_2]; simp; ring
  | ⟨2, _⟩ => show win0_2.index t 2 * 512 + 1 * x.val = x.val; rw [index_2]; simp

theorem block_o (t : Fin cfg0.N) (i x : Fin 1024) : (blocks m c t).o (ix2 i x) = V m c main_v1 (ix2 i x) := by
  show V m c main_v1 (((cfg0.win 3).blk t).view.emb (ix2 i x)) = _
  congr 1
  funext a
  apply Fin.ext
  match a with
  | ⟨0, _⟩ => show win0_3.index t 0 * 1024 + 1 * i.val = i.val; rw [index_3]; simp
  | ⟨1, _⟩ => show win0_3.index t 1 * 1024 + 1 * x.val = x.val; rw [index_3]; simp

theorem block_g (t : Fin cfg0.N) (x : Fin 1024) : (blocks m c t).g (ix2 0 x) = V m c main_v3 (ix2 0 x) := by
  show V m c main_v3 (((cfg0.win 4).blk t).view.emb (ix2 0 x)) = _
  congr 1
  funext a
  apply Fin.ext
  match a with
  | ⟨0, _⟩ => show win0_4.index t 0 * 1 + 1 * 0 = 0; rw [index_4]; simp
  | ⟨1, _⟩ => show win0_4.index t 1 * 1024 + 1 * x.val = x.val; rw [index_4]; simp

theorem block_u (t : Fin cfg0.N) (i : Fin 1024) (x : Fin 5632) : (blocks m c t).u (ix2 i x) = V m c main_v5 (ix2 i x) := by
  show V m c main_v5 (((cfg0.win 5).blk t).view.emb (ix2 i x)) = _
  congr 1
  funext a
  apply Fin.ext
  match a with
  | ⟨0, _⟩ => show win0_5.index t 0 * 1024 + 1 * i.val = i.val; rw [index_5]; simp
  | ⟨1, _⟩ => show win0_5.index t 1 * 5632 + 1 * x.val = x.val; rw [index_5]; simp

theorem block_d (t : Fin cfg0.N) (i : Fin 2816) (x : Fin 1024) : (blocks m c t).d (ix2 i x) = V m c main_v7 (ix2 i x) := by
  show V m c main_v7 (((cfg0.win 6).blk t).view.emb (ix2 i x)) = _
  congr 1
  funext a
  apply Fin.ext
  match a with
  | ⟨0, _⟩ => show win0_6.index t 0 * 2816 + 1 * i.val = i.val; rw [index_6]; simp
  | ⟨1, _⟩ => show win0_6.index t 1 * 1024 + 1 * x.val = x.val; rw [index_6]; simp

theorem block_l (t : Fin cfg0.N) (x : Fin 1024) : (blocks m c t).l (ix2 0 x) = V m c main_v8 (ix2 0 x) := by
  show V m c main_v8 (((cfg0.win 7).blk t).view.emb (ix2 0 x)) = _
  congr 1
  funext a
  apply Fin.ext
  match a with
  | ⟨0, _⟩ => show win0_7.index t 0 * 1 + 1 * 0 = 0; rw [index_7]; simp
  | ⟨1, _⟩ => show win0_7.index t 1 * 1024 + 1 * x.val = x.val; rw [index_7]; simp

theorem flushes : ∀ t : Fin cfg0.N, (cfg0.win 8).flush t = true := (by decide +kernel : ∀ t : Fin grid0.N, win0_8.flush t = true)

theorem point (t : Fin cfg0.N) : outsAt0 m c t = result (blocks m c t) := by
  unfold outsAt0
  exact body ..

/-- The output's array where point `t` wrote it. -/
theorem array_at (t : Fin cfg0.N) (i : Fin 512) (x : Fin 1024) :
    (dats m 0 c).arrAt 8 cfg0.N (ix3 ⟨t.val / 8, by have := points t; omega⟩ ⟨512 * (t.val % 8) + i.val, by omega⟩ x) = result (blocks m c t) (ix3 0 i x) := by
  have h := congrFun (Value.blocks8 m c t (flushes t)) (ix3 0 i x)
  rw [Value.flushed8, point] at h
  refine Eq.trans ?_ (h.trans ?_)
  · show _ = (dats m 0 c).arrAt 8 cfg0.N (((cfg0.win 8).blk t).view.emb (ix3 0 i x))
    congr 1
    funext a
    apply Fin.ext
    match a with
    | ⟨0, _⟩ => show t.val / 8 = win0_8.index t 0 * 1 + 1 * 0; rw [index_8]; simp
    | ⟨1, _⟩ => show 512 * (t.val % 8) + i.val = win0_8.index t 1 * 512 + 1 * i.val; rw [index_8]; simp; ring
    | ⟨2, _⟩ => show x.val = win0_8.index t 2 * 1024 + 1 * x.val; rw [index_8]; simp
  · rfl

end Windows

variable (m : (ℓ : Loc nD τ sig) → Buf (Elt Ideal) ℓ) (c : Dev nD)

theorem host_x (n : S16x4096x1024.Idx) : V m c main_arg0 n = m (c.tc.loc main_arg0) n := by unfold V; after_reads_at
theorem host_a (n : S16x4096x512.Idx) : V m c main_arg1 n = m (c.tc.loc main_arg1) n := by unfold V; after_reads_at
theorem host_b (n : S16x4096x512.Idx) : V m c main_arg2 n = m (c.tc.loc main_arg2) n := by unfold V; after_reads_at
theorem host_o (i x : Fin 1024) : V m c main_v1 (ix2 i x) = m (c.tc.loc main_arg3) (ix3 0 i x) := by unfold V; after_reads_at
theorem host_g (x : Fin 1024) : V m c main_v3 (ix2 0 x) = m (c.tc.loc main_arg4) (ix2 0 x) := by unfold V; after_reads_at
theorem host_u (i : Fin 1024) (x : Fin 5632) : V m c main_v5 (ix2 i x) = m (c.tc.loc main_arg5) (ix3 0 i x) := by unfold V; after_reads_at
theorem host_d (i : Fin 2816) (x : Fin 1024) : V m c main_v7 (ix2 i x) = m (c.tc.loc main_arg6) (ix3 0 i x) := by unfold V; after_reads_at
theorem host_l (x : Fin 1024) : V m c main_v8 (ix2 0 x) = m (c.tc.loc main_arg7) (ix1 x) := by unfold V; after_reads_at

/-- A token's row, of the program's arguments. -/
def row (x : FVec Ideal S16x4096x1024 .f32) (a b : FVec Ideal S16x4096x512 .bf16) (w : FVec Ideal S1x1024x1024 .f32) (g : FVec Ideal S1x1024 .f32)
    (u : FVec Ideal S1x1024x5632 .f32) (d : FVec Ideal S1x2816x1024 .f32) (l : FVec Ideal S1024 .f32) (s : Fin 16) (t : Fin 4096) : Fin 1024 → EReal :=
  Row.back (fun j => x (ix3 s t j)) (fun i => a (ix3 s t i)) (fun i => b (ix3 s t i)) (fun i j => w (ix3 0 i j)) (fun j => g (ix2 0 j))
    (fun i k => u (ix3 0 i k)) (fun k j => d (ix3 0 k j)) (fun j => l (ix1 j))

/-- A token's row, of the arrays of a memory. -/
def rowOf (s : Fin 16) (t : Fin 4096) : Fin 1024 → EReal :=
  row (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) s t

/-- The output's array. -/
def out : S16x4096x1024.Idx → EReal := (dats m 0 c).arrAt 8 cfg0.N

theorem out_at (t : Fin cfg0.N) (i : Fin 512) (x : Fin 1024) :
    out m c (ix3 ⟨t.val / 8, by have := points t; omega⟩ ⟨512 * (t.val % 8) + i.val, by omega⟩ x)
      = rowOf m c ⟨t.val / 8, by have := points t; omega⟩ ⟨512 * (t.val % 8) + i.val, by omega⟩ x := by
  refine (array_at m c t i x).trans ?_
  refine (result_apply _ i x).trans ?_
  exact Row.back_congr (fun j => (block_x m c t i j).trans (host_x m c ..)) (fun j => (block_a m c t i j).trans (host_a m c ..))
    (fun j => (block_b m c t i j).trans (host_b m c ..))
    (fun k j => (block_o m c t k j).trans (host_o m c k j)) (fun j => (block_g m c t j).trans (host_g m c j)) (fun k j => (block_u m c t k j).trans (host_u m c k j))
    (fun k j => (block_d m c t k j).trans (host_d m c k j)) (fun j => (block_l m c t j).trans (host_l m c j)) x

/-- The output's array at a token's channel. -/
theorem value_at (s : Fin 16) (t : Fin 4096) (x : Fin 1024) : out m c (ix3 s t x) = rowOf m c s t x := by
  have hN : 8 * s.val + t.val / 512 < cfg0.N := lt_of_lt_of_eq (by omega) N_0.symm
  have e := out_at m c ⟨8 * s.val + t.val / 512, hN⟩ ⟨t.val % 512, Nat.mod_lt _ (by decide)⟩ x
  have e1 : ∀ h, (⟨(8 * s.val + t.val / 512) / 8, h⟩ : Fin 16) = s := fun h => Fin.ext (by show (8 * s.val + t.val / 512) / 8 = s.val; omega)
  have e2 : ∀ h, (⟨512 * ((8 * s.val + t.val / 512) % 8) + t.val % 512, h⟩ : Fin 4096) = t :=
    fun h => Fin.ext (by show 512 * ((8 * s.val + t.val / 512) % 8) + t.val % 512 = t.val; omega)
  generalize out m c = f at *
  generalize rowOf m c = g at *
  simp only [e1, e2] at e
  exact e

theorem ix3_surj {a b c : ℕ} (j : (⟨3, ![a, b, c]⟩ : Shape).Idx) : ∃ x y z, j = ix3 x y z :=
  ⟨j 0, j 1, j 2, by funext d; match d with | ⟨0, _⟩ => rfl | ⟨1, _⟩ => rfl | ⟨2, _⟩ => rfl⟩

/-- The output's array is the one whose every token's row is this. -/
theorem out_eq (f : S16x4096x1024.Idx → EReal) (h : ∀ s t j, f (ix3 s t j) = rowOf m c s t j) : out m c = f := by
  funext n
  obtain ⟨s, t, j, rfl⟩ := ix3_surj n
  rw [value_at, h]

end Cert.Kernel2Ideal.Back

end
-- ==== Proof.Back.Plain.lean ====
/-
  The reference of the layer's second half, at an index: a token's row of `Row.lean`, of the same arguments.
-/
module

public import proofs.«01_k».proof.Proof.Back.Row
public import proofs.«01_k».proof.Proof.Gen.Reference2Ideal.Run

@[expose] public section

noncomputable section

namespace Cert.Reference2Ideal.Back

open Cert.Reference2Ideal Cert.Reference2Ideal.Gen Idealize.ShloMosaic

variable {F : FTy → Type} [FloatOps F]

/-! ## The reference in stages -/

/-- The two head groups side by side. -/
def joined (a b : FVec F S16x4096x512 .bf16) : FVec F S16x4096x1024 .f32 :=
  extf .f32 (concatenate S16x4096x1024 2 [⟨S16x4096x512, a⟩, ⟨S16x4096x512, b⟩] concatenates_S16x4096x512_S16x4096x512_S16x4096x1024_d2) bitsLt_bf16_f32

/-- The tokens plus the projection. -/
def mixed (x : FVec F S16x4096x1024 .f32) (y : FVec F S16x4096x1024 .f32) (w : FVec F S1x1024x1024 .f32) : FVec F S16x4096x1024 .f32 :=
  addf x (Host.dotGeneral dot_S16x4096x1024_S1024x1024_S16x4096x1024_2_0_01_1_n_n none y (shapeCast _ w shapeCasts_S1x1024x1024_S1024x1024))

/-- The norm with its gains. -/
def normed (x : FVec F S16x4096x1024 .f32) (g : FVec F S1024 .f32) : FVec F S16x4096x1024 .f32 :=
  mulf (mulf x (broadcastInDim S16x4096x1024 ![0, 1, 2] bcast_S16x4096x1_S16x4096x1024_0_1_2
      (Host.rsqrt (addf (Host.divf (broadcastInDim S16x4096x1 ![0, 1] bcast_S16x4096_S16x4096x1_0_1
          (Host.reduceAdd (mulf x x) (constant S_ .f32 0x00000000#32) reducesTo_S16x4096x1024_S16x4096_d2 h_S_))
        (broadcastInDim S16x4096x1 ![] bcast_S_S16x4096x1 (constant S_ .f32 0x44800000#32)))
        (broadcastInDim S16x4096x1 ![] bcast_S_S16x4096x1 (constant S_ .f32 0x358637BD#32))))))
    (broadcastInDim S16x4096x1024 ![0, 1, 2] bcast_S1x1x1024_S16x4096x1024_0_1_2 (broadcastInDim S1x1x1024 ![2] bcast_S1024_S1x1x1024_2 g))

/-- Every hidden channel before the activation, gate and value. -/
def wide (h : FVec F S16x4096x1024 .f32) (u : FVec F S1x1024x5632 .f32) : FVec F S16x4096x5632 .f32 :=
  Host.dotGeneral dot_S16x4096x1024_S1024x5632_S16x4096x5632_2_0_01_1_n_n none h (shapeCast _ u shapeCasts_S1x1024x5632_S1024x5632)

/-- The hidden activations. -/
def hidden (z : FVec F S16x4096x5632 .f32) : FVec F S16x4096x2816 .f32 :=
  mulf (mulf (extractStridedSlice S16x4096x2816 ![0, 0, 0] z slices_S16x4096x5632_S16x4096x2816_0_0_0)
      (Host.divf (broadcastInDim S16x4096x2816 ![] bcast_S_S16x4096x2816 (constant S_ .f32 0x3F800000#32))
        (addf (broadcastInDim S16x4096x2816 ![] bcast_S_S16x4096x2816 (constant S_ .f32 0x3F800000#32))
          (Host.exp (Host.negf (extractStridedSlice S16x4096x2816 ![0, 0, 0] z slices_S16x4096x5632_S16x4096x2816_0_0_0))))))
    (extractStridedSlice S16x4096x2816 ![0, 0, 2816] z slices_S16x4096x5632_S16x4096x2816_0_0_2816)

/-- The tokens plus half the feed-forward. -/
def fed (x : FVec F S16x4096x1024 .f32) (h : FVec F S16x4096x2816 .f32) (d : FVec F S1x2816x1024 .f32) : FVec F S16x4096x1024 .f32 :=
  addf x (mulf (broadcastInDim S16x4096x1024 ![] bcast_S_S16x4096x1024 (constant S_ .f32 0x3F000000#32))
    (Host.dotGeneral dot_S16x4096x2816_S2816x1024_S16x4096x1024_2_0_01_1_n_n none h (shapeCast _ d shapeCasts_S1x2816x1024_S2816x1024)))

/-- The feed-forward of given tokens. -/
def through (x : FVec F S16x4096x1024 .f32) (g : FVec F S1x1024 .f32) (u : FVec F S1x1024x5632 .f32) (d : FVec F S1x2816x1024 .f32) : FVec F S16x4096x1024 .f32 :=
  fed x (hidden (wide (normed x (shapeCast _ g shapeCasts_S1x1024_S1024)) u)) d

theorem result_stages (m : (ℓ : Loc nD τ sig) → Buf (Elt F) ℓ) (c : Dev nD) : Value.res_main_v42 m c
    = normed (through (mixed (m (c.tc.loc main_arg0)) (joined (m (c.tc.loc main_arg1)) (m (c.tc.loc main_arg2))) (m (c.tc.loc main_arg3)))
        (m (c.tc.loc main_arg4)) (m (c.tc.loc main_arg5)) (m (c.tc.loc main_arg6))) (m (c.tc.loc main_arg7)) := rfl

/-! ## Each stage at an index -/

theorem joined_left (a b : FVec Ideal S16x4096x512 .bf16) (s : Fin 16) (t : Fin 4096) (i : Fin 512) :
    joined a b (ix3 s t ⟨i.val, by omega⟩) = a (ix3 s t i) := by
  pointwise [joined]

theorem joined_right (a b : FVec Ideal S16x4096x512 .bf16) (s : Fin 16) (t : Fin 4096) (i : Fin 512) :
    joined a b (ix3 s t ⟨512 + i.val, by omega⟩) = b (ix3 s t i) := by
  pointwise [joined]

theorem mixed_apply (x y : FVec Ideal S16x4096x1024 .f32) (w : FVec Ideal S1x1024x1024 .f32) (s : Fin 16) (t : Fin 4096) (j : Fin 1024) :
    mixed x y w (ix3 s t j) = x (ix3 s t j) + ∑ i : Fin 1024, y (ix3 s t i) * w (ix3 0 i j) := by
  pointwise [mixed]

theorem normed_apply (x : FVec Ideal S16x4096x1024 .f32) (g : FVec Ideal S1024 .f32) (s : Fin 16) (t : Fin 4096) (j : Fin 1024) :
    normed x g (ix3 s t j) = Row.norm (fun j => x (ix3 s t j)) (fun j => g (ix1 j)) j := by
  unfold Row.norm
  pointwise [normed]

theorem wide_apply (h : FVec Ideal S16x4096x1024 .f32) (u : FVec Ideal S1x1024x5632 .f32) (s : Fin 16) (t : Fin 4096) (k : Fin 5632) :
    wide h u (ix3 s t k) = ∑ i : Fin 1024, h (ix3 s t i) * u (ix3 0 i k) := by
  pointwise [wide]

theorem hidden_apply (z : FVec Ideal S16x4096x5632 .f32) (s : Fin 16) (t : Fin 4096) (k : Fin 2816) :
    hidden z (ix3 s t k) = Row.gated (z (ix3 s t ⟨k.val, by omega⟩)) (z (ix3 s t ⟨2816 + k.val, by omega⟩)) := by
  unfold Row.gated
  pointwise [hidden]

theorem fed_apply (x : FVec Ideal S16x4096x1024 .f32) (h : FVec Ideal S16x4096x2816 .f32) (d : FVec Ideal S1x2816x1024 .f32) (s : Fin 16) (t : Fin 4096) (j : Fin 1024) :
    fed x h d (ix3 s t j) = x (ix3 s t j) + Ideal.ofBits .f32 0x3F000000#32 * ∑ k : Fin 2816, h (ix3 s t k) * d (ix3 0 k j) := by
  pointwise [fed]

theorem gain_apply (g : FVec Ideal S1x1024 .f32) (j : Fin 1024) : (shapeCast S1024 g shapeCasts_S1x1024_S1024 : FVec Ideal S1024 .f32) (ix1 j) = g (ix2 0 j) := by
  pointwise

theorem through_apply (x : FVec Ideal S16x4096x1024 .f32) (g : FVec Ideal S1x1024 .f32) (u : FVec Ideal S1x1024x5632 .f32) (d : FVec Ideal S1x2816x1024 .f32)
    (s : Fin 16) (t : Fin 4096) (j : Fin 1024) :
    through x g u d (ix3 s t j) = Row.fed (fun j => x (ix3 s t j)) (fun j => g (ix2 0 j)) (fun i k => u (ix3 0 i k)) (fun k j => d (ix3 0 k j)) j := by
  unfold through
  rw [fed_apply]
  simp only [hidden_apply, wide_apply, normed_apply, gain_apply]
  rfl

/-- The reference's result at a token's channel. -/
theorem result_apply (x : FVec Ideal S16x4096x1024 .f32) (a b : FVec Ideal S16x4096x512 .bf16) (w : FVec Ideal S1x1024x1024 .f32) (g : FVec Ideal S1x1024 .f32)
    (u : FVec Ideal S1x1024x5632 .f32) (d : FVec Ideal S1x2816x1024 .f32) (l : FVec Ideal S1024 .f32) (s : Fin 16) (t : Fin 4096) (j : Fin 1024) :
    normed (through (mixed x (joined a b) w) g u d) l (ix3 s t j)
      = Row.back (fun j => x (ix3 s t j)) (fun i => a (ix3 s t i)) (fun i => b (ix3 s t i)) (fun i j => w (ix3 0 i j)) (fun j => g (ix2 0 j))
        (fun i k => u (ix3 0 i k)) (fun k j => d (ix3 0 k j)) (fun j => l (ix1 j)) j := by
  rw [normed_apply]
  simp only [through_apply, mixed_apply]
  simp only [Row.sum_halves, joined_left, joined_right]
  rfl

end Cert.Reference2Ideal.Back

end
-- ==== Proof.Front.Columns.lean ====
/-
  What the mixer reads of one token, as formulas over the extended reals: columns of the projection of its row after the first half-step and the
  norm, and the output gate, the logistic function of some of them.
-/
module

public import proofs.«01_k».proof.Proof.Back.Row

@[expose] public section

noncomputable section

namespace Cert.Row

open Idealize.ShloMosaic

/-- A column of the projection of a row. -/
def column (h w : Fin 1024 → EReal) : EReal := ∑ i, h i * w i

/-- The logistic function. -/
def logistic (x : EReal) : EReal := Ideal.div (Ideal.ofBits .f32 0x3F800000#32) (Ideal.ofBits .f32 0x3F800000#32 + Ideal.exp (-x))

/-- The row after the feed-forward, normed for the mixer. -/
def mixer (x g : Fin 1024 → EReal) (u : Fin 1024 → Fin 5632 → EReal) (d : Fin 2816 → Fin 1024 → EReal) (n : Fin 1024 → EReal) : Fin 1024 → EReal :=
  norm (fed x g u d) n

theorem mixer_congr {x x' g g' : Fin 1024 → EReal} {u u' : Fin 1024 → Fin 5632 → EReal} {d d' : Fin 2816 → Fin 1024 → EReal} {n n' : Fin 1024 → EReal}
    (hx : ∀ j, x j = x' j) (hg : ∀ j, g j = g' j) (hu : ∀ i k, u i k = u' i k) (hd : ∀ k j, d k j = d' k j) (hn : ∀ j, n j = n' j) :
    mixer x g u d n = mixer x' g' u' d' n' := by
  rw [funext hx, funext hg, funext fun i => funext (hu i), funext fun k => funext (hd k), funext hn]

theorem column_comm (h w : Fin 1024 → EReal) : ∑ i, w i * h i = column h w := Finset.sum_congr rfl fun _ _ => mul_comm _ _

theorem logistic_of_sub (x : EReal) : Ideal.div (Ideal.ofBits .f32 0x3F800000#32)
    (Ideal.ofBits .f32 0x3F800000#32 + Ideal.exp (Ideal.ofBits .f32 0x00000000#32 - x)) = logistic x := by
  rw [Ideal.ofBits_zero_f32, zero_sub]
  rfl

end Cert.Row

end
-- ==== Proof.Front.Plain.lean ====
/-
  The front's reference, at an index: the columns of a token's projection, of `Columns.lean`, of the same arguments. The tokens after the first
  half-step are the second half's feed-forward of the front's own tokens and weights.
-/
module

public import proofs.«01_k».proof.Proof.Front.Columns
public import proofs.«01_k».proof.Proof.Back.Plain
public import proofs.«01_k».proof.Proof.Gen.Reference3Ideal.Run

@[expose] public section

noncomputable section

namespace Cert.Reference3Ideal.Front

open Cert.Reference3Ideal Cert.Reference3Ideal.Gen Idealize.ShloMosaic

variable {F : FTy → Type} [FloatOps F]

/-! ## The reference in stages -/

/-- The tokens after the first half-step, normed for the mixer. -/
def mixer (x : FVec F S16x4096x1024 .f32) (g : FVec F S1x1024 .f32) (u : FVec F S1x1024x5632 .f32) (d : FVec F S1x2816x1024 .f32) (n : FVec F S1x1024 .f32) :
    FVec F S16x4096x1024 .f32 :=
  Cert.Reference2Ideal.Back.normed (Cert.Reference2Ideal.Back.through x g u d) (shapeCast _ n shapeCasts_S1x1024_S1024)

/-- The mixer's projection of the normed tokens. -/
def projected (h : FVec F S16x4096x1024 .f32) (w : FVec F S1x1024x3600 .f32) : FVec F S16x4096x3600 .f32 :=
  Host.dotGeneral dot_S16x4096x1024_S1024x3600_S16x4096x3600_2_0_01_1_n_n none h (shapeCast _ w shapeCasts_S1x1024x3600_S1024x3600)

/-- The first head group's queries, channel by token, scaled. -/
def queries (p : FVec F S16x4096x3600 .f32) : FVec F S16x512x4096 .bf16 :=
  truncf .bf16 (transpose S16x512x4096 [0, 2, 1] (mulf (extractStridedSlice S16x4096x512 ![0, 0, 0] p slices_S16x4096x3600_S16x4096x512_0_0_0)
    (broadcastInDim S16x4096x512 ![] bcast_S_S16x4096x512 (constant S_ .f32 0x3E38AA3B#32))) transposes_S16x4096x512_S16x512x4096_0_2_1) bitsLt_bf16_f32

/-- The first head group's values, channel by token, 256 tokens to a block. -/
def values (p : FVec F S16x4096x3600 .f32) : FVec F S16x16x512x256 .bf16 :=
  truncf .bf16 (transpose S16x16x512x256 [0, 1, 3, 2] (shapeCast S16x16x256x512
      (extractStridedSlice S16x4096x512 ![0, 0, 1024] p slices_S16x4096x3600_S16x4096x512_0_0_1024) shapeCasts_S16x4096x512_S16x16x256x512)
    transposes_S16x16x256x512_S16x16x512x256_0_1_3_2) bitsLt_bf16_f32

/-- The second head group's values, channel by token. -/
def values' (p : FVec F S16x4096x3600 .f32) : FVec F S16x512x4096 .bf16 :=
  truncf .bf16 (transpose S16x512x4096 [0, 2, 1] (extractStridedSlice S16x4096x512 ![0, 0, 2568] p slices_S16x4096x3600_S16x4096x512_0_0_2568)
    transposes_S16x4096x512_S16x512x4096_0_2_1) bitsLt_bf16_f32

/-- The output gate. -/
def gate (p : FVec F S16x4096x3600 .f32) : FVec F S16x4096x512 .bf16 :=
  truncf .bf16 (Host.divf (broadcastInDim S16x4096x512 ![] bcast_S_S16x4096x512 (constant S_ .f32 0x3F800000#32))
    (addf (broadcastInDim S16x4096x512 ![] bcast_S_S16x4096x512 (constant S_ .f32 0x3F800000#32))
      (Host.exp (Host.negf (extractStridedSlice S16x4096x512 ![0, 0, 3080] p slices_S16x4096x3600_S16x4096x512_0_0_3080))))) bitsLt_bf16_f32

/-- The projection, of a memory's arguments. -/
abbrev ofMem (m : (ℓ : Loc nD τ sig) → Buf (Elt F) ℓ) (c : Dev nD) : FVec F S16x4096x3600 .f32 :=
  projected (mixer (m (c.tc.loc main_arg0)) (m (c.tc.loc main_arg1)) (m (c.tc.loc main_arg2)) (m (c.tc.loc main_arg3)) (m (c.tc.loc main_arg4)))
    (m (c.tc.loc main_arg5))

theorem queries_stages (m : (ℓ : Loc nD τ sig) → Buf (Elt F) ℓ) (c : Dev nD) : Value.res_main_v54 m c = queries (ofMem m c) := rfl
theorem values_stages (m : (ℓ : Loc nD τ sig) → Buf (Elt F) ℓ) (c : Dev nD) : Value.res_main_v57 m c = values (ofMem m c) := rfl
theorem values'_stages (m : (ℓ : Loc nD τ sig) → Buf (Elt F) ℓ) (c : Dev nD) : Value.res_main_v59 m c = values' (ofMem m c) := rfl
theorem gate_stages (m : (ℓ : Loc nD τ sig) → Buf (Elt F) ℓ) (c : Dev nD) : Value.res_main_v60 m c = gate (ofMem m c) := rfl

/-! ## Each stage at an index -/

theorem mixer_apply (x : FVec Ideal S16x4096x1024 .f32) (g : FVec Ideal S1x1024 .f32) (u : FVec Ideal S1x1024x5632 .f32) (d : FVec Ideal S1x2816x1024 .f32)
    (n : FVec Ideal S1x1024 .f32) (s : Fin 16) (t : Fin 4096) (j : Fin 1024) : mixer x g u d n (ix3 s t j)
      = Row.mixer (fun j => x (ix3 s t j)) (fun j => g (ix2 0 j)) (fun i k => u (ix3 0 i k)) (fun k j => d (ix3 0 k j)) (fun j => n (ix2 0 j)) j := by
  refine (Cert.Reference2Ideal.Back.normed_apply _ _ s t j).trans ?_
  unfold Row.mixer
  congr 1
  · exact funext fun j => Cert.Reference2Ideal.Back.through_apply x g u d s t j
  · exact funext fun j => Cert.Reference2Ideal.Back.gain_apply n j

theorem projected_apply (h : FVec Ideal S16x4096x1024 .f32) (w : FVec Ideal S1x1024x3600 .f32) (s : Fin 16) (t : Fin 4096) (k : Fin 3600) :
    projected h w (ix3 s t k) = Row.column (fun i => h (ix3 s t i)) (fun i => w (ix3 0 i k)) := by
  unfold Row.column
  pointwise [projected]

theorem queries_apply (p : FVec Ideal S16x4096x3600 .f32) (s : Fin 16) (j : Fin 512) (t : Fin 4096) :
    queries p (ix3 s j t) = p (ix3 s t ⟨j.val, by omega⟩) * Ideal.ofBits .f32 0x3E38AA3B#32 := by
  pointwise [queries]

theorem values_apply (p : FVec Ideal S16x4096x3600 .f32) (s q : Fin 16) (j : Fin 512) (r : Fin 256) :
    values p (ix4 s q j r) = p (ix3 s ⟨256 * q.val + r.val, by omega⟩ ⟨1024 + j.val, by omega⟩) := by
  pointwise [values]
  rw [show (⟨q.val * 256 + r.val, by omega⟩ : Fin 4096) = ⟨256 * q.val + r.val, by omega⟩ from Fin.ext (by show _ * _ + _ = _ * _ + _; omega)]

theorem values'_apply (p : FVec Ideal S16x4096x3600 .f32) (s : Fin 16) (j : Fin 512) (t : Fin 4096) :
    values' p (ix3 s j t) = p (ix3 s t ⟨2568 + j.val, by omega⟩) := by
  pointwise [values']

theorem gate_apply (p : FVec Ideal S16x4096x3600 .f32) (s : Fin 16) (t : Fin 4096) (j : Fin 512) :
    gate p (ix3 s t j) = Row.logistic (p (ix3 s t ⟨3080 + j.val, by omega⟩)) := by
  unfold Row.logistic
  pointwise [gate]

end Cert.Reference3Ideal.Front

end
-- ==== Proof.Front.Run.lean ====
module

public import proofs.«01_k».proof.Proof.Gen.Kernel3Ideal.Frame
public import proofs.«01_k».proof.Proof.Gen.Kernel3Ideal.Skeleton

/-! # One grid point of the front call

The body of the front call at a point of its grid, run symbolically. Three guards at its head only reset the two carried
scratch buffers, so the head is run once, for any outcome of the guards, with the two buffers at anything before and after.
Then there are two kinds of points: the points before the last compute a tile, the last only finishes the convolution of the
tile before. Of the outputs the tokens after the feed-forward, the first head group's queries, the two head groups' values and the output gate are named; the others are
held at some contents. -/

@[expose] public section

set_option maxRecDepth 16384

noncomputable section

namespace Cert.Front

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The guard of the first point, where the carried rows are cleared. -/
abbrev atFirst (i : grid0.Coords) : Prop := (Scalar.cmpi .ne (Scalar.extui (Scalar.cmpi .eq (BitVec.ofNat 32 (i 0).val) 0#32)) 0#32) = 1#1

/-- The guard of the tile before starts a sequence. -/
abbrev rowStart (i : grid0.Coords) : Prop := (Scalar.cmpi .ne (Scalar.extui (Scalar.cmpi .eq (Scalar.select (Scalar.andi (Scalar.xori (Scalar.cmpi .slt (Scalar.remsi (Scalar.maxsi (Scalar.subi (BitVec.ofNat 32 (i 0).val) 1#32) 0#32) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (Scalar.maxsi (Scalar.subi (BitVec.ofNat 32 (i 0).val) 1#32) 0#32) (Scalar.select (Scalar.cmpi .eq 8#32 0#32) 1#32 8#32)) 0#32)) (Scalar.addi (Scalar.remsi (Scalar.maxsi (Scalar.subi (BitVec.ofNat 32 (i 0).val) 1#32) 0#32) (Scalar.select (Scalar.cmpi .eq 8#32 0#32) 1#32 8#32)) (Scalar.select (Scalar.cmpi .eq 8#32 0#32) 1#32 8#32)) (Scalar.remsi (Scalar.maxsi (Scalar.subi (BitVec.ofNat 32 (i 0).val) 1#32) 0#32) (Scalar.select (Scalar.cmpi .eq 8#32 0#32) 1#32 8#32))) 0#32)) 0#32) = 1#1

/-- The guard of the tile starts a sequence. -/
abbrev tileStart (i : grid0.Coords) : Prop := (Scalar.cmpi .ne (Scalar.extui (Scalar.cmpi .eq (Scalar.select (Scalar.andi (Scalar.xori (Scalar.cmpi .slt (Scalar.remsi (BitVec.ofNat 32 (i 0).val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 (i 0).val) (Scalar.select (Scalar.cmpi .eq 8#32 0#32) 1#32 8#32)) 0#32)) (Scalar.addi (Scalar.remsi (BitVec.ofNat 32 (i 0).val) (Scalar.select (Scalar.cmpi .eq 8#32 0#32) 1#32 8#32)) (Scalar.select (Scalar.cmpi .eq 8#32 0#32) 1#32 8#32)) (Scalar.remsi (BitVec.ofNat 32 (i 0).val) (Scalar.select (Scalar.cmpi .eq 8#32 0#32) 1#32 8#32))) 0#32)) 0#32) = 1#1

variable (c : Dev nD) (i : grid0.Coords)
  (arg1 : Memref sig .tc .vmem S1x512x1024 .f32) (harg1 : arg1.IsWhole)  (arg2 : Memref sig .tc .vmem S1x1024 .f32) (harg2 : arg2.IsWhole)
  (arg3 : Memref sig .tc .vmem S1024x5632 .bf16) (harg3 : arg3.IsWhole)  (arg4 : Memref sig .tc .vmem S2816x1024 .bf16) (harg4 : arg4.IsWhole)
  (arg5 : Memref sig .tc .vmem S1x1024 .f32) (harg5 : arg5.IsWhole)  (arg6 : Memref sig .tc .vmem S544x1024 .bf16) (harg6 : arg6.IsWhole)
  (arg7 : Memref sig .tc .vmem S1024x512 .bf16) (harg7 : arg7.IsWhole)  (arg8 : Memref sig .tc .vmem S512x1024 .bf16) (harg8 : arg8.IsWhole)
  (arg9 : Memref sig .tc .vmem S1024x1024 .bf16) (harg9 : arg9.IsWhole)  (arg10 : Memref sig .tc .vmem S512x1024 .bf16) (harg10 : arg10.IsWhole)
  (arg11 : Memref sig .tc .vmem S1024x512 .bf16) (harg11 : arg11.IsWhole)  (arg12 : Memref sig .tc .vmem S32x512 .f32) (harg12 : arg12.IsWhole)
  (arg13 : Memref sig .tc .vmem S512x512 .bf16) (harg13 : arg13.IsWhole)  (arg14 : Memref sig .tc .vmem S4x1024 .f32) (harg14 : arg14.IsWhole)
  (arg15 : Memref sig .tc .vmem S1x512x1024 .f32) (harg15 : arg15.IsWhole)  (arg16 : Memref sig .tc .vmem S1x512x512 .bf16) (harg16 : arg16.IsWhole)
  (arg17 : Memref sig .tc .vmem S1x8x512x128 .bf16) (harg17 : arg17.IsWhole)  (arg18 : Memref sig .tc .vmem S1x2x512x256 .bf16) (harg18 : arg18.IsWhole)
  (arg19 : Memref sig .tc .vmem S1x24x512 .f32) (harg19 : arg19.IsWhole)  (arg20 : Memref sig .tc .vmem S1x512x512 .bf16) (harg20 : arg20.IsWhole)
  (arg21 : Memref sig .tc .vmem S1x512x512 .bf16) (harg21 : arg21.IsWhole)  (arg22 : Memref sig .tc .vmem S1x512x512 .bf16) (harg22 : arg22.IsWhole)
  (arg23 : Memref sig .tc .vmem S1x512x512 .bf16) (harg23 : arg23.IsWhole)  (arg24 : Memref sig .tc .vmem S1x3x8x512 .f32) (harg24 : arg24.IsWhole)
  (arg25 : Memref sig .tc .vmem S1x512x128 .f32) (harg25 : arg25.IsWhole)  (arg26 : Memref sig .tc .vmem S512x2816 .bf16) (harg26 : arg26.IsWhole)
  (arg27 : Memref sig .tc .vmem S520x1024 .f32) (harg27 : arg27.IsWhole)  (arg28 : Memref sig .tc .vmem S24x128 .f32) (harg28 : arg28.IsWhole)

/-- The head of the body: whatever its guards say, it leaves the two carried scratch buffers at some contents. -/
theorem head_run (E : Set ℕ) (K : BitVec 32 → sProp 𝕄) :
    iprop((∃ d, owns (c : Thread nD τ) arg27 fullShare d) ∗ (∃ d, owns (c : Thread nD τ) arg28 fullShare d)
        ∗ (iprop((∃ d, owns (c : Thread nD τ) arg27 fullShare d) ∗ (∃ d, owns (c : Thread nD τ) arg28 fullShare d)) -∗ K (BitVec.ofNat 32 (i 0).val)))
      ⊢ wp frame (wpE (defs₀ (F := F)) Variants.none c none) E (k0_part22 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [k0_part22_eq_skeleton]; unfold k0_part22_skel
  unfold owns
  iintro ⟨⟨%d1, %f1, -, H1⟩, ⟨%d2, %f2, -, H2⟩, Hk⟩
  by_cases h0 : atFirst i <;> by_cases h1 : rowStart i <;> by_cases h2 : tileStart i <;>
    (sl_exec (disch := first | sl_exact h0 | sl_exact h1 | sl_exact h2)
     sl_step
     iapply Hk
     isplitl [H1]
     · iexists _, _; isplitr; swap; · iexact H1
       ipureintro; rfl
     iexists _, _; isplitr; swap; · iexact H2
     ipureintro; rfl)

set_option maxHeartbeats 4000000 in
/-- A point before the last: the tile is computed. The pieces are what the body stores into the named buffers. -/
noncomputable def tile_run (last : ¬k0_cond4 i = 1#1) (more : k0_cond5 i = 1#1)
  (x0 : Vec F S1x512x1024 .f32) (x1 : Vec F S1x1024 .f32) (x2 : Vec F S1024x5632 .bf16) (x3 : Vec F S2816x1024 .bf16) (x4 : Vec F S1x1024 .f32)
  (x5 : Vec F S544x1024 .bf16) (x6 : Vec F S1024x512 .bf16) (x7 : Vec F S512x1024 .bf16) (x8 : Vec F S1024x1024 .bf16) (x9 : Vec F S512x1024 .bf16)
  (x10 : Vec F S1024x512 .bf16) (x11 : Vec F S32x512 .f32) (x12 : Vec F S512x512 .bf16) (x13 : Vec F S4x1024 .f32) :
    Σ' (L15 : List (View.Piece (Elt F) S1x512x1024 .f32)) (L16 : List (View.Piece (Elt F) S1x512x512 .bf16)) (L18 : List (View.Piece (Elt F) S1x2x512x256 .bf16)) (L22 : List (View.Piece (Elt F) S1x512x512 .bf16)),
    { L23 : List (View.Piece (Elt F) S1x512x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
            ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
                ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ d, owns (c : Thread nD τ) arg17 fullShare d) ∗ (∃ f, arg18.view.loc (c : Thread nD τ) ↦[arg18.view.set]{fullShare} arg18.view.writes (Elt F) f L18) ∗ (∃ d, owns (c : Thread nD τ) arg19 fullShare d) ∗ (∃ d, owns (c : Thread nD τ) arg20 fullShare d) ∗ (∃ d, owns (c : Thread nD τ) arg21 fullShare d) ∗ (∃ f, arg22.view.loc (c : Thread nD τ) ↦[arg22.view.set]{fullShare} arg22.view.writes (Elt F) f L22) ∗ (∃ f, arg23.view.loc (c : Thread nD τ) ↦[arg23.view.set]{fullShare} arg23.view.writes (Elt F) f L23) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)) -∗ K ⟨⟩))
          ⊢ wp frame (wpE (defs₀ (F := F)) Variants.none c none) E (cc0_front i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, ?_, ?_, ?_, fun E K => ?run⟩
  case run =>
    simp only [cc0_front_eq_skeleton]; unfold cc0_front_skel
    rw [wp_bind]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%ds0, %fs0, -, HS0⟩, HS1, HS2, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    iapply (head_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28)
    unfold owns
    isplitl [HS1]; · iexact HS1
    isplitl [HS2]; · iexact HS2
    iintro ⟨⟨%ds1, %fs1, -, HS1⟩, ⟨%ds2, %fs2, -, HS2⟩⟩
    simp only [k0_part21_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    sl_exec (disch := first | sl_exact last | sl_exact more)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [H15]; · iexists _; iexact H15
    isplitl [H16]
    · iexists _, _; isplitr; swap; · iexact H16
      ipureintro; rfl
    isplitl [H17]; · iexists _; iexact H17
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]; · iexists _; iexact H21
    isplitl [H22]; · iexists _; iexact H22
    isplitl [H23]
    · iexists _, _; isplitr; swap; · iexact H23
      ipureintro; rfl
    isplitl [H24]
    · iexists _, _; isplitr; swap; · iexact H24
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

set_option maxHeartbeats 4000000 in
/-- The last point: the named buffers are handed back as they were. -/
theorem last_run (last : k0_cond4 i = 1#1) (more : ¬k0_cond5 i = 1#1)
  (x0 : Vec F S1x512x1024 .f32) (x1 : Vec F S1x1024 .f32) (x2 : Vec F S1024x5632 .bf16) (x3 : Vec F S2816x1024 .bf16) (x4 : Vec F S1x1024 .f32)
  (x5 : Vec F S544x1024 .bf16) (x6 : Vec F S1024x512 .bf16) (x7 : Vec F S512x1024 .bf16) (x8 : Vec F S1024x1024 .bf16) (x9 : Vec F S512x1024 .bf16)
  (x10 : Vec F S1024x512 .bf16) (x11 : Vec F S32x512 .f32) (x12 : Vec F S512x512 .bf16) (x13 : Vec F S4x1024 .f32)
    (y15 : Vec F S1x512x1024 .f32) (y16 : Vec F S1x512x512 .bf16) (y18 : Vec F S1x2x512x256 .bf16) (y22 y23 : Vec F S1x512x512 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
        ∗ owns (c : Thread nD τ) arg15 fullShare y15 ∗ owns (c : Thread nD τ) arg16 fullShare y16 ∗ (∃ d, owns (c : Thread nD τ) arg17 fullShare d) ∗ owns (c : Thread nD τ) arg18 fullShare y18 ∗ (∃ d, owns (c : Thread nD τ) arg19 fullShare d) ∗ (∃ d, owns (c : Thread nD τ) arg20 fullShare d) ∗ (∃ d, owns (c : Thread nD τ) arg21 fullShare d) ∗ owns (c : Thread nD τ) arg22 fullShare y22 ∗ owns (c : Thread nD τ) arg23 fullShare y23 ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
            ∗ owns (c : Thread nD τ) arg15 fullShare y15 ∗ owns (c : Thread nD τ) arg16 fullShare y16 ∗ (∃ d, owns (c : Thread nD τ) arg17 fullShare d) ∗ owns (c : Thread nD τ) arg18 fullShare y18 ∗ (∃ d, owns (c : Thread nD τ) arg19 fullShare d) ∗ (∃ d, owns (c : Thread nD τ) arg20 fullShare d) ∗ (∃ d, owns (c : Thread nD τ) arg21 fullShare d) ∗ owns (c : Thread nD τ) arg22 fullShare y22 ∗ owns (c : Thread nD τ) arg23 fullShare y23 ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)) -∗ K ⟨⟩))
      ⊢ wp frame (wpE (defs₀ (F := F)) Variants.none c none) E (cc0_front i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
    simp only [cc0_front_eq_skeleton]; unfold cc0_front_skel
    rw [wp_bind]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%f17, %hf17, H17⟩, ⟨%d18, %f18, -, H18⟩, ⟨%d19, %f19, -, H19⟩, ⟨%d20, %f20, -, H20⟩, ⟨%f21, %hf21, H21⟩, ⟨%f22, %hf22, H22⟩, ⟨%d23, %f23, -, H23⟩, ⟨%d24, %f24, -, H24⟩, ⟨%ds0, %fs0, -, HS0⟩, HS1, HS2, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    iapply (head_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28)
    unfold owns
    isplitl [HS1]; · iexact HS1
    isplitl [HS2]; · iexact HS2
    iintro ⟨⟨%ds1, %fs1, -, HS1⟩, ⟨%ds2, %fs2, -, HS2⟩⟩
    simp only [k0_part1_eq_skeleton]
    sl_exec (disch := first | sl_exact last | sl_exact more)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact hf14
      iexact H14
    isplitl [H15]
    · iexists _; isplitr; · ipureintro; exact hf15
      iexact H15
    isplitl [H16]
    · iexists _, _; isplitr; swap; · iexact H16
      ipureintro; rfl
    isplitl [H17]
    · iexists _; isplitr; · ipureintro; exact hf17
      iexact H17
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _; isplitr; · ipureintro; exact hf21
      iexact H21
    isplitl [H22]
    · iexists _; isplitr; · ipureintro; exact hf22
      iexact H22
    isplitl [H23]
    · iexists _, _; isplitr; swap; · iexact H23
      ipureintro; rfl
    isplitl [H24]
    · iexists _, _; isplitr; swap; · iexact H24
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Front

end
-- ==== Proof.Front.Body.lean ====
/-
  What the front call's body stores for a tile of 512 tokens: the tokens, each with half its gated feed-forward added; and of these, normed, four
  projections: the first head group's queries and the two head groups' values, channel by token, and the output gate. The hidden activations are kept in scratch, eleven blocks of 256
  channels; the first head group's values go out in two stores of 256 tokens.
-/
module

public import proofs.«01_k».proof.Proof.Front.Run
public import Idealize.ShloMosaic.Lib.VecWindow
public import Idealize.ShloMosaic.Lib.Pipeline.ReadBack
public import Idealize.ShloMosaic.Lib.Pointwise
public import Idealize.ShloMosaic.Lib.Tactic

@[expose] public section

noncomputable section

namespace Cert.Front

open Cert.Kernel3Ideal Cert.Kernel3Ideal.Gen Idealize.ShloMosaic

variable {F : FTy → Type} [FloatOps F]

theorem inbCols : ∀ j : Fin 22, ∀ a, (![0, 256 * j.val] : Fin 2 → ℕ) a + S1024x256.size a ≤ S1024x5632.size a := by decide
theorem inbHalf : ∀ j : Fin 2, ∀ a, (![0, j.val, 0, 0] : Fin 4 → ℕ) a + S1x1x512x256.size a ≤ S1x2x512x256.size a := by decide
theorem inbAct : ∀ j : Fin 11, ∀ a, (![0, 256 * j.val] : Fin 2 → ℕ) a + S512x256.size a ≤ S512x2816.size a := by decide

/-- 256 columns of the gate's and the value's weights. -/
def cols (w : Vec F S1024x5632 .bf16) (j : Fin 22) : Vec F S1024x256 .bf16 := View.ld w (Rect.unit _ S1024x256.size (inbCols j))

/-- The blocks that a tile's tokens and projections read: the tokens; the feed-forward's gains and two weights; the mixer's gains; the weights of
    the first head group's queries, with the gates' below them, and of its values, of the second's values, and of the output gate. -/
structure Blocks (F : FTy → Type) [FloatOps F] where
  x : Vec F S1x512x1024 .f32
  g : Vec F S1x1024 .f32
  u : Vec F S1024x5632 .bf16
  d : Vec F S2816x1024 .bf16
  n : Vec F S1x1024 .f32
  q : Vec F S544x1024 .bf16
  v : Vec F S512x1024 .bf16
  w : Vec F S512x1024 .bf16
  o : Vec F S1024x512 .bf16

/-- 256 channels of the hidden activations. -/
def piece (k : Blocks F) (j : Fin 11) : FVec F S512x256 .bf16 :=
  k0_pay18 (k0_pay13 k.x k.g) (cols k.u (Fin.ofNat 22 j.val)) (cols k.u (Fin.ofNat 22 (11 + j.val)))
/-- The hidden activations. -/
def hidden (k : Blocks F) : Vec F S512x2816 .bf16 := fun i =>
  piece k (Fin.ofNat 11 ((i 1).val / 256)) (ix2 ⟨(i 0).val, (i 0).isLt⟩ ⟨(i 1).val % 256, Nat.mod_lt _ (by decide)⟩)
/-- The tile's tokens after the feed-forward. -/
def result (k : Blocks F) : FVec F S1x512x1024 .f32 := k0_pay36 (k0_pay12 k.x) (hidden k) k.d
/-- The same, normed for the mixer. -/
def mixer (k : Blocks F) : FVec F S512x1024 .bf16 :=
  k0_pay39 (k0_pay35 (k0_pay12 k.x) (hidden k) k.d) (k0_pay37 k.n) (k0_pay38 (k0_pay12 k.x) (hidden k) k.d)
/-- The first head group's queries. -/
def queries (k : Blocks F) : FVec F S1x512x512 .bf16 :=
  k0_pay41 (k0_pay35 (k0_pay12 k.x) (hidden k) k.d) (k0_pay37 k.n) (k0_pay38 (k0_pay12 k.x) (hidden k) k.d) k.q
/-- The first head group's values of 256 tokens. -/
def half (k : Blocks F) (j : Fin 2) : FVec F S1x1x512x256 .bf16 :=
  if j = 0 then k0_pay92 (mixer k) k.v else k0_pay94 (k0_pay93 (mixer k) k.v)
/-- The first head group's values. -/
def values (k : Blocks F) : Vec F S1x2x512x256 .bf16 := fun i => half k ⟨(i 1).val, (i 1).isLt⟩ (ix4 0 0 ⟨(i 2).val, (i 2).isLt⟩ ⟨(i 3).val, (i 3).isLt⟩)
/-- The second head group's values. -/
def values' (k : Blocks F) : FVec F S1x512x512 .bf16 := k0_pay95 (mixer k) k.w
/-- The output gate. -/
def gate (k : Blocks F) : FVec F S1x512x512 .bf16 := k0_pay3 (k0_pay96 (mixer k) k.o)

theorem values_emb (k : Blocks F) (j : Fin 2) (x : (Rect.unit (s := S1x2x512x256) _ S1x1x512x256.size (inbHalf j)).shape.Idx) :
    values k ((Rect.unit (s := S1x2x512x256) _ S1x1x512x256.size (inbHalf j)).emb x) = half k j x := by
  have h0 : (x 0).val < 1 := (x 0).isLt
  have h1 : (x 1).val < 1 := (x 1).isLt
  have e1 : (((Rect.unit (s := S1x2x512x256) _ S1x1x512x256.size (inbHalf j)).emb x) 1).val = j.val := by simp [Rect.emb, Rect.unit]; omega
  have e2 : (((Rect.unit (s := S1x2x512x256) _ S1x1x512x256.size (inbHalf j)).emb x) 2).val = (x 2).val := by simp [Rect.emb, Rect.unit]
  have e3 : (((Rect.unit (s := S1x2x512x256) _ S1x1x512x256.size (inbHalf j)).emb x) 3).val = (x 3).val := by simp [Rect.emb, Rect.unit]
  unfold values
  simp only [e1, e2, e3]
  congr 1
  funext a
  match a with
  | ⟨0, _⟩ => exact Fin.ext (Nat.lt_one_iff.mp h0).symm
  | ⟨1, _⟩ => exact Fin.ext (Nat.lt_one_iff.mp h1).symm
  | ⟨2, _⟩ => rfl
  | ⟨3, _⟩ => rfl

theorem hidden_emb (k : Blocks F) (j : Fin 11) (x : (Rect.unit (s := S512x2816) _ S512x256.size (inbAct j)).shape.Idx) :
    hidden k ((Rect.unit (s := S512x2816) _ S512x256.size (inbAct j)).emb x) = piece k j x := by
  have h0 : (x 0).val < 512 := (x 0).isLt
  have h1 : (x 1).val < 256 := (x 1).isLt
  have e0 : (((Rect.unit (s := S512x2816) _ S512x256.size (inbAct j)).emb x) 0).val = (x 0).val := by simp [Rect.emb, Rect.unit]
  have e1 : (((Rect.unit (s := S512x2816) _ S512x256.size (inbAct j)).emb x) 1).val = 256 * j.val + (x 1).val := by simp [Rect.emb, Rect.unit]
  have ej : Fin.ofNat 11 ((256 * j.val + (x 1).val) / 256) = j := Fin.ext (by simp; omega)
  unfold hidden
  simp only [e0, e1, ej]
  congr 1
  funext a
  match a with
  | ⟨0, _⟩ => rfl
  | ⟨1, _⟩ => apply Fin.ext; show (256 * j.val + (x 1).val) % 256 = (x 1).val; omega

theorem hidden_read (k : Blocks F) (v : View sig .tc .vmem S512x2816 .bf16) (L : List (View.Piece (Elt F) S512x2816 .bf16))
    (inb : ∀ a, (![0, 0] : Fin 2 → ℕ) a + S512x2816.size a ≤ S512x2816.size a) (hL : View.PiecesOf (hidden k) L) (hc : ∀ y, ∃ p ∈ L, y ∈ p.1.set) :
    v.readCov L (Rect.unit (s := S512x2816) ![0, 0] S512x2816.size inb).toLoadRect = hidden k := by
  rw [View.readCov_eq_canon']
  funext y
  exact (View.canon_apply_of_pieces _ _ hL.mem _ (hc _)).trans (congrArg (hidden k) (Rect.emb_unit_full inb y))

variable (c : Dev nD) (i : grid0.Coords)
  (arg1 : Memref sig .tc .vmem S1x512x1024 .f32) (harg1 : arg1.IsWhole)  (arg2 : Memref sig .tc .vmem S1x1024 .f32) (harg2 : arg2.IsWhole)
  (arg3 : Memref sig .tc .vmem S1024x5632 .bf16) (harg3 : arg3.IsWhole)  (arg4 : Memref sig .tc .vmem S2816x1024 .bf16) (harg4 : arg4.IsWhole)
  (arg5 : Memref sig .tc .vmem S1x1024 .f32) (harg5 : arg5.IsWhole)  (arg6 : Memref sig .tc .vmem S544x1024 .bf16) (harg6 : arg6.IsWhole)
  (arg7 : Memref sig .tc .vmem S1024x512 .bf16) (harg7 : arg7.IsWhole)  (arg8 : Memref sig .tc .vmem S512x1024 .bf16) (harg8 : arg8.IsWhole)
  (arg9 : Memref sig .tc .vmem S1024x1024 .bf16) (harg9 : arg9.IsWhole)  (arg10 : Memref sig .tc .vmem S512x1024 .bf16) (harg10 : arg10.IsWhole)
  (arg11 : Memref sig .tc .vmem S1024x512 .bf16) (harg11 : arg11.IsWhole)  (arg12 : Memref sig .tc .vmem S32x512 .f32) (harg12 : arg12.IsWhole)
  (arg13 : Memref sig .tc .vmem S512x512 .bf16) (harg13 : arg13.IsWhole)  (arg14 : Memref sig .tc .vmem S4x1024 .f32) (harg14 : arg14.IsWhole)
  (arg15 : Memref sig .tc .vmem S1x512x1024 .f32) (harg15 : arg15.IsWhole)  (arg16 : Memref sig .tc .vmem S1x512x512 .bf16) (harg16 : arg16.IsWhole)
  (arg17 : Memref sig .tc .vmem S1x8x512x128 .bf16) (harg17 : arg17.IsWhole)  (arg18 : Memref sig .tc .vmem S1x2x512x256 .bf16) (harg18 : arg18.IsWhole)
  (arg19 : Memref sig .tc .vmem S1x24x512 .f32) (harg19 : arg19.IsWhole)  (arg20 : Memref sig .tc .vmem S1x512x512 .bf16) (harg20 : arg20.IsWhole)
  (arg21 : Memref sig .tc .vmem S1x512x512 .bf16) (harg21 : arg21.IsWhole)  (arg22 : Memref sig .tc .vmem S1x512x512 .bf16) (harg22 : arg22.IsWhole)
  (arg23 : Memref sig .tc .vmem S1x512x512 .bf16) (harg23 : arg23.IsWhole)  (arg24 : Memref sig .tc .vmem S1x3x8x512 .f32) (harg24 : arg24.IsWhole)
  (arg25 : Memref sig .tc .vmem S1x512x128 .f32) (harg25 : arg25.IsWhole)  (arg26 : Memref sig .tc .vmem S512x2816 .bf16) (harg26 : arg26.IsWhole)
  (arg27 : Memref sig .tc .vmem S520x1024 .f32) (harg27 : arg27.IsWhole)  (arg28 : Memref sig .tc .vmem S24x128 .f32) (harg28 : arg28.IsWhole)
  (last : ¬k0_cond4 i = 1#1) (more : k0_cond5 i = 1#1)
  (x0 : Vec F S1x512x1024 .f32) (x1 : Vec F S1x1024 .f32) (x2 : Vec F S1024x5632 .bf16) (x3 : Vec F S2816x1024 .bf16) (x4 : Vec F S1x1024 .f32)
  (x5 : Vec F S544x1024 .bf16) (x6 : Vec F S1024x512 .bf16) (x7 : Vec F S512x1024 .bf16) (x8 : Vec F S1024x1024 .bf16) (x9 : Vec F S512x1024 .bf16)
  (x10 : Vec F S1024x512 .bf16) (x11 : Vec F S32x512 .f32) (x12 : Vec F S512x512 .bf16) (x13 : Vec F S4x1024 .f32)

/-! The body's stores into each named buffer cover it. -/

set_option maxRecDepth 16384 in
theorem tokens_cover (y : S1x512x1024.Idx) : ∃ p ∈ (tile_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 last more x0 x1 x2 x3 x4 x5 x6 x7 x8 x9 x10 x11 x12 x13).1, y ∈ p.1.set :=
  View.cover_of_tiledL (s := S1x512x1024) _ S1x512x1024.size (by sl_kernel_rfl) y

set_option maxRecDepth 16384 in
theorem queries_cover (y : S1x512x512.Idx) : ∃ p ∈ (tile_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 last more x0 x1 x2 x3 x4 x5 x6 x7 x8 x9 x10 x11 x12 x13).2.1, y ∈ p.1.set :=
  View.cover_of_tiledL (s := S1x512x512) _ S1x512x512.size (by sl_kernel_rfl) y

set_option maxRecDepth 16384 in
theorem values_cover (y : S1x2x512x256.Idx) : ∃ p ∈ (tile_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 last more x0 x1 x2 x3 x4 x5 x6 x7 x8 x9 x10 x11 x12 x13).2.2.1, y ∈ p.1.set :=
  View.cover_of_tiledL (s := S1x2x512x256) _ S1x1x512x256.size (by sl_kernel_rfl) y

set_option maxRecDepth 16384 in
theorem values'_cover (y : S1x512x512.Idx) : ∃ p ∈ (tile_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 last more x0 x1 x2 x3 x4 x5 x6 x7 x8 x9 x10 x11 x12 x13).2.2.2.1, y ∈ p.1.set :=
  View.cover_of_tiledL (s := S1x512x512) _ S1x512x512.size (by sl_kernel_rfl) y

set_option maxRecDepth 16384 in
theorem gate_cover (y : S1x512x512.Idx) : ∃ p ∈ (tile_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 last more x0 x1 x2 x3 x4 x5 x6 x7 x8 x9 x10 x11 x12 x13).2.2.2.2.1, y ∈ p.1.set :=
  View.cover_of_tiledL (s := S1x512x512) _ S1x512x512.size (by sl_kernel_rfl) y

set_option maxRecDepth 16384 in
set_option maxHeartbeats 1000000 in
/-- What the buffers then read. -/
theorem tile_canon : View.canon (tile_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 last more x0 x1 x2 x3 x4 x5 x6 x7 x8 x9 x10 x11 x12 x13).1 = result ⟨x0, x1, x2, x3, x4, x5, x7, x9, x10⟩
    ∧ View.canon (tile_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 last more x0 x1 x2 x3 x4 x5 x6 x7 x8 x9 x10 x11 x12 x13).2.1 = queries ⟨x0, x1, x2, x3, x4, x5, x7, x9, x10⟩
    ∧ View.PiecesOf (values ⟨x0, x1, x2, x3, x4, x5, x7, x9, x10⟩) (tile_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 last more x0 x1 x2 x3 x4 x5 x6 x7 x8 x9 x10 x11 x12 x13).2.2.1
    ∧ View.canon (tile_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 last more x0 x1 x2 x3 x4 x5 x6 x7 x8 x9 x10 x11 x12 x13).2.2.2.1 = values' ⟨x0, x1, x2, x3, x4, x5, x7, x9, x10⟩
    ∧ View.canon (tile_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 last more x0 x1 x2 x3 x4 x5 x6 x7 x8 x9 x10 x11 x12 x13).2.2.2.2.1 = gate ⟨x0, x1, x2, x3, x4, x5, x7, x9, x10⟩ := by
  have z3 : (![0, 0, 0] : Fin 3 → ℕ) = fun _ => 0 := by funext a; fin_cases a <;> rfl
  have z2 : (![0, 0] : Fin 2 → ℕ) = fun _ => 0 := by funext a; fin_cases a <;> rfl
  have l0 : arg1.view.readAt (Elt F) (Rect.unit ![0, 0, 0] ![1, 512, 1024] inb_S1x512x1024_S1x512x1024_0_0_0).toLoadRect (harg1.unread x0) = x0 :=
    (congrArg (View.ld · _) (harg1.read_unread (Val := Elt F) x0)).trans (View.ld_unit_zero z3 inb_S1x512x1024_S1x512x1024_0_0_0 x0)
  have l1 : arg2.view.readAt (Elt F) (Rect.unit ![0, 0] ![1, 1024] inb_S1x1024_S1x1024_0_0).toLoadRect (harg2.unread x1) = x1 :=
    (congrArg (View.ld · _) (harg2.read_unread (Val := Elt F) x1)).trans (View.ld_unit_zero z2 inb_S1x1024_S1x1024_0_0 x1)
  have l3 : arg4.view.readAt (Elt F) (Rect.unit ![0, 0] ![2816, 1024] inb_S2816x1024_S2816x1024_0_0).toLoadRect (harg4.unread x3) = x3 :=
    (congrArg (View.ld · _) (harg4.read_unread (Val := Elt F) x3)).trans (View.ld_unit_zero z2 inb_S2816x1024_S2816x1024_0_0 x3)
  have l4 : arg5.view.readAt (Elt F) (Rect.unit ![0, 0] ![1, 1024] inb_S1x1024_S1x1024_0_0).toLoadRect (harg5.unread x4) = x4 :=
    (congrArg (View.ld · _) (harg5.read_unread (Val := Elt F) x4)).trans (View.ld_unit_zero z2 inb_S1x1024_S1x1024_0_0 x4)
  have l5 : arg6.view.readAt (Elt F) (Rect.unit ![0, 0] ![544, 1024] inb_S544x1024_S544x1024_0_0).toLoadRect (harg6.unread x5) = x5 :=
    (congrArg (View.ld · _) (harg6.read_unread (Val := Elt F) x5)).trans (View.ld_unit_zero z2 inb_S544x1024_S544x1024_0_0 x5)
  have l7 : arg8.view.readAt (Elt F) (Rect.unit ![0, 0] ![512, 1024] inb_S512x1024_S512x1024_0_0).toLoadRect (harg8.unread x7) = x7 :=
    (congrArg (View.ld · _) (harg8.read_unread (Val := Elt F) x7)).trans (View.ld_unit_zero z2 inb_S512x1024_S512x1024_0_0 x7)
  have l9 : arg10.view.readAt (Elt F) (Rect.unit ![0, 0] ![512, 1024] inb_S512x1024_S512x1024_0_0).toLoadRect (harg10.unread x9) = x9 :=
    (congrArg (View.ld · _) (harg10.read_unread (Val := Elt F) x9)).trans (View.ld_unit_zero z2 inb_S512x1024_S512x1024_0_0 x9)
  have l10 : arg11.view.readAt (Elt F) (Rect.unit ![0, 0] ![1024, 512] inb_S1024x512_S1024x512_0_0).toLoadRect (harg11.unread x10) = x10 :=
    (congrArg (View.ld · _) (harg11.read_unread (Val := Elt F) x10)).trans (View.ld_unit_zero z2 inb_S1024x512_S1024x512_0_0 x10)
  have h2 := harg3.read_unread (Val := Elt F) x2
  unfold tile_run
  sl_unfold_run_names
  simp only [l0, l1, l3, l4, l5, l7, l9, l10]
  clear l0 l1 l3 l4 l5 l7 l9 l10
  generalize harg3.unread x2 = f2 at *
  subst h2
  rw [hidden_read ⟨x0, x1, arg3.view.read (Elt F) f2, x3, x4, x5, x7, x9, x10⟩ arg26.view _ _ ?_ ?_]
  · refine ⟨(View.canon_unit_zero z3 inb_S1x512x1024_S1x512x1024_0_0_0 _).trans rfl,
      (View.canon_unit_zero z3 inb_S1x512x512_S1x512x512_0_0_0 _).trans rfl, ?_,
      (View.canon_unit_zero z3 inb_S1x512x512_S1x512x512_0_0_0 _).trans rfl, (View.canon_unit_zero z3 inb_S1x512x512_S1x512x512_0_0_0 _).trans rfl⟩
    refine ⟨fun x => (?_ : _ = values _ ((Rect.unit (s := S1x2x512x256) _ S1x1x512x256.size (inbHalf 1)).emb x)),
        fun x => (?_ : _ = values _ ((Rect.unit (s := S1x2x512x256) _ S1x1x512x256.size (inbHalf 0)).emb x)), trivial⟩
    all_goals
      rw [values_emb]
      exact congrFun rfl x
  · refine ⟨fun x => (?_ : _ = hidden _ ((Rect.unit (s := S512x2816) _ S512x256.size (inbAct 10)).emb x)),
        fun x => (?_ : _ = hidden _ ((Rect.unit (s := S512x2816) _ S512x256.size (inbAct 9)).emb x)),
        fun x => (?_ : _ = hidden _ ((Rect.unit (s := S512x2816) _ S512x256.size (inbAct 8)).emb x)),
        fun x => (?_ : _ = hidden _ ((Rect.unit (s := S512x2816) _ S512x256.size (inbAct 7)).emb x)),
        fun x => (?_ : _ = hidden _ ((Rect.unit (s := S512x2816) _ S512x256.size (inbAct 6)).emb x)),
        fun x => (?_ : _ = hidden _ ((Rect.unit (s := S512x2816) _ S512x256.size (inbAct 5)).emb x)),
        fun x => (?_ : _ = hidden _ ((Rect.unit (s := S512x2816) _ S512x256.size (inbAct 4)).emb x)),
        fun x => (?_ : _ = hidden _ ((Rect.unit (s := S512x2816) _ S512x256.size (inbAct 3)).emb x)),
        fun x => (?_ : _ = hidden _ ((Rect.unit (s := S512x2816) _ S512x256.size (inbAct 2)).emb x)),
        fun x => (?_ : _ = hidden _ ((Rect.unit (s := S512x2816) _ S512x256.size (inbAct 1)).emb x)),
        fun x => (?_ : _ = hidden _ ((Rect.unit (s := S512x2816) _ S512x256.size (inbAct 0)).emb x)), trivial⟩
    all_goals
      rw [hidden_emb]
      exact congrFun rfl x
  · exact fun y => View.cover_of_tiledL (s := S512x2816) _ S512x256.size (by sl_kernel_rfl) y

/-! Whatever they held before. -/

theorem tokens_read (f : arg15.view.ty.Contents (Elt F)) :
    arg15.view.read (Elt F) (arg15.view.writes (Elt F) f (tile_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 last more x0 x1 x2 x3 x4 x5 x6 x7 x8 x9 x10 x11 x12 x13).1) = result ⟨x0, x1, x2, x3, x4, x5, x7, x9, x10⟩ := by
  rw [View.read_writes_of_cover arg15.view f arg15.view arg15.view.junk _ (tokens_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 last more x0 x1 x2 x3 x4 x5 x6 x7 x8 x9 x10 x11 x12 x13),
    View.read_writes_junk_eq_canon, (tile_canon c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 last more x0 x1 x2 x3 x4 x5 x6 x7 x8 x9 x10 x11 x12 x13).1]

theorem queries_read (f : arg16.view.ty.Contents (Elt F)) :
    arg16.view.read (Elt F) (arg16.view.writes (Elt F) f (tile_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 last more x0 x1 x2 x3 x4 x5 x6 x7 x8 x9 x10 x11 x12 x13).2.1) = queries ⟨x0, x1, x2, x3, x4, x5, x7, x9, x10⟩ := by
  rw [View.read_writes_of_cover arg16.view f arg16.view arg16.view.junk _ (queries_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 last more x0 x1 x2 x3 x4 x5 x6 x7 x8 x9 x10 x11 x12 x13),
    View.read_writes_junk_eq_canon, (tile_canon c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 last more x0 x1 x2 x3 x4 x5 x6 x7 x8 x9 x10 x11 x12 x13).2.1]

theorem values_read (f : arg18.view.ty.Contents (Elt F)) :
    arg18.view.read (Elt F) (arg18.view.writes (Elt F) f (tile_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 last more x0 x1 x2 x3 x4 x5 x6 x7 x8 x9 x10 x11 x12 x13).2.2.1) = values ⟨x0, x1, x2, x3, x4, x5, x7, x9, x10⟩ := by
  rw [View.read_writes_of_cover arg18.view f arg18.view arg18.view.junk _ (values_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 last more x0 x1 x2 x3 x4 x5 x6 x7 x8 x9 x10 x11 x12 x13),
    View.read_writes_junk_eq_canon]
  exact funext fun y => View.canon_apply_of_pieces _ _ (tile_canon c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 last more x0 x1 x2 x3 x4 x5 x6 x7 x8 x9 x10 x11 x12 x13).2.2.1.mem y (values_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 last more x0 x1 x2 x3 x4 x5 x6 x7 x8 x9 x10 x11 x12 x13 y)

theorem values'_read (f : arg22.view.ty.Contents (Elt F)) :
    arg22.view.read (Elt F) (arg22.view.writes (Elt F) f (tile_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 last more x0 x1 x2 x3 x4 x5 x6 x7 x8 x9 x10 x11 x12 x13).2.2.2.1) = values' ⟨x0, x1, x2, x3, x4, x5, x7, x9, x10⟩ := by
  rw [View.read_writes_of_cover arg22.view f arg22.view arg22.view.junk _ (values'_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 last more x0 x1 x2 x3 x4 x5 x6 x7 x8 x9 x10 x11 x12 x13),
    View.read_writes_junk_eq_canon, (tile_canon c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 last more x0 x1 x2 x3 x4 x5 x6 x7 x8 x9 x10 x11 x12 x13).2.2.2.1]

theorem gate_read (f : arg23.view.ty.Contents (Elt F)) :
    arg23.view.read (Elt F) (arg23.view.writes (Elt F) f (tile_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 last more x0 x1 x2 x3 x4 x5 x6 x7 x8 x9 x10 x11 x12 x13).2.2.2.2.1) = gate ⟨x0, x1, x2, x3, x4, x5, x7, x9, x10⟩ := by
  rw [View.read_writes_of_cover arg23.view f arg23.view arg23.view.junk _ (gate_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 last more x0 x1 x2 x3 x4 x5 x6 x7 x8 x9 x10 x11 x12 x13),
    View.read_writes_junk_eq_canon, (tile_canon c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 last more x0 x1 x2 x3 x4 x5 x6 x7 x8 x9 x10 x11 x12 x13).2.2.2.2]

end Cert.Front

end
-- ==== Proof.Front.Frame.lean ====
/-
  The run of the front call over its grid. Point `t` computes tile `t`; the last point, one past the tiles, leaves five outputs' buffers as they
  are: they still hold the last tile and are written back there. These five are followed: the tokens, the first head group's
  queries, the two head groups' values, the output gate. The other six outputs are let go.
-/
module

public import proofs.«01_k».proof.Proof.Front.Body

@[expose] public section

set_option maxRecDepth 16384

noncomputable section

namespace Cert.Front

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## The points -/

theorem points (t : Fin cfg0.N) : t.val < 129 := lt_of_lt_of_eq t.isLt N_0

theorem more_iff : ∀ t : Fin cfg0.N, k0_cond5 (grid0.coords t) = 1#1 ↔ t.val < 128 := (by decide +kernel : ∀ t : Fin grid0.N, _)
theorem last_iff : ∀ t : Fin cfg0.N, k0_cond4 (grid0.coords t) = 1#1 ↔ t.val = 128 := (by decide +kernel : ∀ t : Fin grid0.N, _)
/-- An output that is written back after every point but the one before the last, and that the body leaves alone where it computes no tile. -/
def Followed (w : Fin cfg0.W) : Prop :=
  (cfg0.win w).isOut = true ∧ (∀ t : Fin cfg0.N, (cfg0.win w).flush t = true ↔ t.val ≠ 127)
    ∧ (∀ i, cfg0.idle w i = !(k0_cond5 i == 1#1)) ∧ ∀ i a, (cfg0.win w).clip i a = none

theorem followed_14 : Followed 14 := ⟨rfl, (by decide +kernel : ∀ t : Fin grid0.N, win0_14.flush t = true ↔ t.val ≠ 127), fun _ => rfl, fun _ _ => rfl⟩
theorem followed_15 : Followed 15 := ⟨rfl, (by decide +kernel : ∀ t : Fin grid0.N, win0_15.flush t = true ↔ t.val ≠ 127), fun _ => rfl, fun _ _ => rfl⟩
theorem followed_17 : Followed 17 := ⟨rfl, (by decide +kernel : ∀ t : Fin grid0.N, win0_17.flush t = true ↔ t.val ≠ 127), fun _ => rfl, fun _ _ => rfl⟩
theorem followed_21 : Followed 21 := ⟨rfl, (by decide +kernel : ∀ t : Fin grid0.N, win0_21.flush t = true ↔ t.val ≠ 127), fun _ => rfl, fun _ _ => rfl⟩
theorem followed_22 : Followed 22 := ⟨rfl, (by decide +kernel : ∀ t : Fin grid0.N, win0_22.flush t = true ↔ t.val ≠ 127), fun _ => rfl, fun _ _ => rfl⟩

/-- The tile these buffers hold after point `t`. -/
def tileOf (t : Fin cfg0.N) : Fin cfg0.N := ⟨min t.val 127, lt_of_lt_of_eq (by omega) N_0.symm⟩

theorem tileOf_eq (t : Fin cfg0.N) (h : t.val < 128) : tileOf t = t := Fin.ext (by show min t.val 127 = t.val; omega)

/-- The blocks a tile reads at point `t`. -/
def blocks (t : Fin cfg0.N) : Blocks F := ⟨iblk m c 0 t, iblk m c 1 t, iblk m c 2 t, iblk m c 3 t, iblk m c 4 t, iblk m c 5 t, iblk m c 7 t, iblk m c 9 t, iblk m c 10 t⟩

/-! ## What each buffer holds -/

/-- The outputs that are let go. -/
def loose (w : Fin 25) : Bool :=
  Nat.beq w.val 16 || Nat.beq w.val 18 || Nat.beq w.val 19 || Nat.beq w.val 20 || Nat.beq w.val 23 || Nat.beq w.val 24

/-- The arrays as the region finds them; after a point each input's buffer at its block, each followed output's at its tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => result (blocks m c (tileOf t))
    | ⟨15, _⟩ => queries (blocks m c (tileOf t))
    | ⟨16, h⟩ => Dat.unnamed (cfg := cfg0) ⟨16, h⟩ t
    | ⟨17, _⟩ => values (blocks m c (tileOf t))
    | ⟨18, h⟩ => Dat.unnamed (cfg := cfg0) ⟨18, h⟩ t
    | ⟨19, h⟩ => Dat.unnamed (cfg := cfg0) ⟨19, h⟩ t
    | ⟨20, h⟩ => Dat.unnamed (cfg := cfg0) ⟨20, h⟩ t
    | ⟨21, _⟩ => values' (blocks m c (tileOf t))
    | ⟨22, _⟩ => gate (blocks m c (tileOf t))
    | ⟨23, h⟩ => Dat.unnamed (cfg := cfg0) ⟨23, h⟩ t
    | ⟨24, h⟩ => Dat.unnamed (cfg := cfg0) ⟨24, h⟩ t
    | ⟨_ + 25, h⟩ => absurd h (Nat.not_lt.2 (Nat.le_add_left _ _))
  Φ _ := Pipeline.ΦA spec0 c
  q _ := fullShare
  owed _ := 0

theorem A_eq (w : Fin cfg0.W) : (dats m 0 c).A w = V m c (Pipeline.arrRef spec0 w) := by dsimp only [dats]
theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = iblk m c 2 t := by dsimp only [dats]
theorem after_3 (t : Fin cfg0.N) : (dats m 0 c).after 3 t = iblk m c 3 t := by dsimp only [dats]
theorem after_4 (t : Fin cfg0.N) : (dats m 0 c).after 4 t = iblk m c 4 t := by dsimp only [dats]
theorem after_5 (t : Fin cfg0.N) : (dats m 0 c).after 5 t = iblk m c 5 t := by dsimp only [dats]
theorem after_6 (t : Fin cfg0.N) : (dats m 0 c).after 6 t = iblk m c 6 t := by dsimp only [dats]
theorem after_7 (t : Fin cfg0.N) : (dats m 0 c).after 7 t = iblk m c 7 t := by dsimp only [dats]
theorem after_8 (t : Fin cfg0.N) : (dats m 0 c).after 8 t = iblk m c 8 t := by dsimp only [dats]
theorem after_9 (t : Fin cfg0.N) : (dats m 0 c).after 9 t = iblk m c 9 t := by dsimp only [dats]
theorem after_10 (t : Fin cfg0.N) : (dats m 0 c).after 10 t = iblk m c 10 t := by dsimp only [dats]
theorem after_11 (t : Fin cfg0.N) : (dats m 0 c).after 11 t = iblk m c 11 t := by dsimp only [dats]
theorem after_12 (t : Fin cfg0.N) : (dats m 0 c).after 12 t = iblk m c 12 t := by dsimp only [dats]
theorem after_13 (t : Fin cfg0.N) : (dats m 0 c).after 13 t = iblk m c 13 t := by dsimp only [dats]
theorem after_14 (t : Fin cfg0.N) : (dats m 0 c).after 14 t = result (blocks m c (tileOf t)) := by dsimp only [dats]
theorem after_15 (t : Fin cfg0.N) : (dats m 0 c).after 15 t = queries (blocks m c (tileOf t)) := by dsimp only [dats]
theorem after_17 (t : Fin cfg0.N) : (dats m 0 c).after 17 t = values (blocks m c (tileOf t)) := by dsimp only [dats]
theorem after_21 (t : Fin cfg0.N) : (dats m 0 c).after 21 t = values' (blocks m c (tileOf t)) := by dsimp only [dats]
theorem after_22 (t : Fin cfg0.N) : (dats m 0 c).after 22 t = gate (blocks m c (tileOf t)) := by dsimp only [dats]
theorem before_0 (t : Fin cfg0.N) (d) : (dats m 0 c).before 0 t d = iblk m c 0 t := before0_0_of m _ (A_eq m c 0) (after_0 m c) t d
theorem before_1 (t : Fin cfg0.N) (d) : (dats m 0 c).before 1 t d = iblk m c 1 t := before0_1_of m _ (A_eq m c 1) (after_1 m c) t d
theorem before_2 (t : Fin cfg0.N) (d) : (dats m 0 c).before 2 t d = iblk m c 2 t := before0_2_of m _ (A_eq m c 2) (after_2 m c) t d
theorem before_3 (t : Fin cfg0.N) (d) : (dats m 0 c).before 3 t d = iblk m c 3 t := before0_3_of m _ (A_eq m c 3) (after_3 m c) t d
theorem before_4 (t : Fin cfg0.N) (d) : (dats m 0 c).before 4 t d = iblk m c 4 t := before0_4_of m _ (A_eq m c 4) (after_4 m c) t d
theorem before_5 (t : Fin cfg0.N) (d) : (dats m 0 c).before 5 t d = iblk m c 5 t := before0_5_of m _ (A_eq m c 5) (after_5 m c) t d
theorem before_6 (t : Fin cfg0.N) (d) : (dats m 0 c).before 6 t d = iblk m c 6 t := before0_6_of m _ (A_eq m c 6) (after_6 m c) t d
theorem before_7 (t : Fin cfg0.N) (d) : (dats m 0 c).before 7 t d = iblk m c 7 t := before0_7_of m _ (A_eq m c 7) (after_7 m c) t d
theorem before_8 (t : Fin cfg0.N) (d) : (dats m 0 c).before 8 t d = iblk m c 8 t := before0_8_of m _ (A_eq m c 8) (after_8 m c) t d
theorem before_9 (t : Fin cfg0.N) (d) : (dats m 0 c).before 9 t d = iblk m c 9 t := before0_9_of m _ (A_eq m c 9) (after_9 m c) t d
theorem before_10 (t : Fin cfg0.N) (d) : (dats m 0 c).before 10 t d = iblk m c 10 t := before0_10_of m _ (A_eq m c 10) (after_10 m c) t d
theorem before_11 (t : Fin cfg0.N) (d) : (dats m 0 c).before 11 t d = iblk m c 11 t := before0_11_of m _ (A_eq m c 11) (after_11 m c) t d
theorem before_12 (t : Fin cfg0.N) (d) : (dats m 0 c).before 12 t d = iblk m c 12 t := before0_12_of m _ (A_eq m c 12) (after_12 m c) t d
theorem before_13 (t : Fin cfg0.N) (d) : (dats m 0 c).before 13 t d = iblk m c 13 t := before0_13_of m _ (A_eq m c 13) (after_13 m c) t d

/-- At the last point a followed output's buffer holds the last tile, left there by the point before. -/
theorem before_followed {w : Fin cfg0.W} (hw : Followed w) (ha : ∀ t t', tileOf t = tileOf t' → (dats m 0 c).after w t = (dats m 0 c).after w t')
    (t : Fin cfg0.N) (h : ¬t.val < 128) (d) : (dats m 0 c).before w t d = (dats m 0 c).after w t := by
  have ht := points t
  have hf : (cfg0.win w).flush ⟨t.val - 1, Nat.lt_of_le_of_lt (Nat.sub_le _ _) t.isLt⟩ = false :=
    Bool.eq_false_iff.mpr fun e => (hw.2.1 _).mp e (by show t.val - 1 = 127; omega)
  have hl : cfg0.idle w (cfg0.grid.coords ⟨t.val - 1, Nat.lt_of_le_of_lt (Nat.sub_le _ _) t.isLt⟩) = false := by
    have e : k0_cond5 (grid0.coords ⟨t.val - 1, Nat.lt_of_le_of_lt (Nat.sub_le _ _) t.isLt⟩) = 1#1 := (more_iff _).mpr (by show t.val - 1 < 128; omega)
    refine (hw.2.2.1 _).trans ?_
    show (!(k0_cond5 (grid0.coords _) == 1#1)) = false
    rw [e]; rfl
  rw [(dats m 0 c).before_of_pos w t (by omega) ((cfg0.win w).fetch_out hw.1 t), hf, if_neg Bool.false_ne_true]
  unfold Dat.left
  rw [hl]
  show (dats m 0 c).kept w _ d = _
  unfold Dat.kept
  rw [Pipeline.fill_of_clip_none w _ (hw.2.2.2 _) d ((dats m 0 c).after w _), Window.fill_cut]
  exact ha _ _ (Fin.ext (by show min (t.val - 1) 127 = min t.val 127; omega))
theorem before_14 (t : Fin cfg0.N) (h : ¬t.val < 128) (d) : (dats m 0 c).before 14 t d = result (blocks m c (tileOf t)) :=
  (before_followed m c followed_14 (fun t t' e => by rw [after_14, after_14, e]) t h d).trans (after_14 m c t)
theorem before_15 (t : Fin cfg0.N) (h : ¬t.val < 128) (d) : (dats m 0 c).before 15 t d = queries (blocks m c (tileOf t)) :=
  (before_followed m c followed_15 (fun t t' e => by rw [after_15, after_15, e]) t h d).trans (after_15 m c t)
theorem before_17 (t : Fin cfg0.N) (h : ¬t.val < 128) (d) : (dats m 0 c).before 17 t d = values (blocks m c (tileOf t)) :=
  (before_followed m c followed_17 (fun t t' e => by rw [after_17, after_17, e]) t h d).trans (after_17 m c t)
theorem before_21 (t : Fin cfg0.N) (h : ¬t.val < 128) (d) : (dats m 0 c).before 21 t d = values' (blocks m c (tileOf t)) :=
  (before_followed m c followed_21 (fun t t' e => by rw [after_21, after_21, e]) t h d).trans (after_21 m c t)
theorem before_22 (t : Fin cfg0.N) (h : ¬t.val < 128) (d) : (dats m 0 c).before 22 t d = gate (blocks m c (tileOf t)) :=
  (before_followed m c followed_22 (fun t t' e => by rw [after_22, after_22, e]) t h d).trans (after_22 m c t)

theorem leaves_live (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]
theorem leaves_0 (t : Fin cfg0.N) : (dats m 0 c).leavesExact 0 t = owns (c : Thread nD τ) (win0_0.stage (cfg0.slots t 0)) fullShare (iblk m c 0 t) :=
  (leaves_live m c 0 t rfl).trans (by rw [after_0])
theorem leaves_1 (t : Fin cfg0.N) : (dats m 0 c).leavesExact 1 t = owns (c : Thread nD τ) (win0_1.stage (cfg0.slots t 1)) fullShare (iblk m c 1 t) :=
  (leaves_live m c 1 t rfl).trans (by rw [after_1])
theorem leaves_2 (t : Fin cfg0.N) : (dats m 0 c).leavesExact 2 t = owns (c : Thread nD τ) (win0_2.stage (cfg0.slots t 2)) fullShare (iblk m c 2 t) :=
  (leaves_live m c 2 t rfl).trans (by rw [after_2])
theorem leaves_3 (t : Fin cfg0.N) : (dats m 0 c).leavesExact 3 t = owns (c : Thread nD τ) (win0_3.stage (cfg0.slots t 3)) fullShare (iblk m c 3 t) :=
  (leaves_live m c 3 t rfl).trans (by rw [after_3])
theorem leaves_4 (t : Fin cfg0.N) : (dats m 0 c).leavesExact 4 t = owns (c : Thread nD τ) (win0_4.stage (cfg0.slots t 4)) fullShare (iblk m c 4 t) :=
  (leaves_live m c 4 t rfl).trans (by rw [after_4])
theorem leaves_5 (t : Fin cfg0.N) : (dats m 0 c).leavesExact 5 t = owns (c : Thread nD τ) (win0_5.stage (cfg0.slots t 5)) fullShare (iblk m c 5 t) :=
  (leaves_live m c 5 t rfl).trans (by rw [after_5])
theorem leaves_6 (t : Fin cfg0.N) : (dats m 0 c).leavesExact 6 t = owns (c : Thread nD τ) (win0_6.stage (cfg0.slots t 6)) fullShare (iblk m c 6 t) :=
  (leaves_live m c 6 t rfl).trans (by rw [after_6])
theorem leaves_7 (t : Fin cfg0.N) : (dats m 0 c).leavesExact 7 t = owns (c : Thread nD τ) (win0_7.stage (cfg0.slots t 7)) fullShare (iblk m c 7 t) :=
  (leaves_live m c 7 t rfl).trans (by rw [after_7])
theorem leaves_8 (t : Fin cfg0.N) : (dats m 0 c).leavesExact 8 t = owns (c : Thread nD τ) (win0_8.stage (cfg0.slots t 8)) fullShare (iblk m c 8 t) :=
  (leaves_live m c 8 t rfl).trans (by rw [after_8])
theorem leaves_9 (t : Fin cfg0.N) : (dats m 0 c).leavesExact 9 t = owns (c : Thread nD τ) (win0_9.stage (cfg0.slots t 9)) fullShare (iblk m c 9 t) :=
  (leaves_live m c 9 t rfl).trans (by rw [after_9])
theorem leaves_10 (t : Fin cfg0.N) : (dats m 0 c).leavesExact 10 t = owns (c : Thread nD τ) (win0_10.stage (cfg0.slots t 10)) fullShare (iblk m c 10 t) :=
  (leaves_live m c 10 t rfl).trans (by rw [after_10])
theorem leaves_11 (t : Fin cfg0.N) : (dats m 0 c).leavesExact 11 t = owns (c : Thread nD τ) (win0_11.stage (cfg0.slots t 11)) fullShare (iblk m c 11 t) :=
  (leaves_live m c 11 t rfl).trans (by rw [after_11])
theorem leaves_12 (t : Fin cfg0.N) : (dats m 0 c).leavesExact 12 t = owns (c : Thread nD τ) (win0_12.stage (cfg0.slots t 12)) fullShare (iblk m c 12 t) :=
  (leaves_live m c 12 t rfl).trans (by rw [after_12])
theorem leaves_13 (t : Fin cfg0.N) : (dats m 0 c).leavesExact 13 t = owns (c : Thread nD τ) (win0_13.stage (cfg0.slots t 13)) fullShare (iblk m c 13 t) :=
  (leaves_live m c 13 t rfl).trans (by rw [after_13])

/-- A followed output's buffer at the end of a point. -/
theorem leaves_followed {w : Fin cfg0.W} (hw : Followed w) (t : Fin cfg0.N) :
    (dats m 0 c).leavesExact w t = owns (c : Thread nD τ) ((cfg0.win w).stage (cfg0.slots t w)) fullShare ((dats m 0 c).after w t) := by
  by_cases h : t.val < 128
  · refine leaves_live m c w t ((hw.2.2.1 _).trans ?_)
    have e := (more_iff t).mpr h
    show (!(k0_cond5 (grid0.coords t) == 1#1)) = false
    rw [e]; rfl
  · have ht := points t
    have hf : (cfg0.win w).flush t = true := (hw.2.1 t).mpr (by omega)
    unfold Dat.leavesExact
    rw [hf]
    cases cfg0.idle w (cfg0.grid.coords t) <;> rfl
theorem leaves_14 (t : Fin cfg0.N) : (dats m 0 c).leavesExact 14 t = owns (c : Thread nD τ) (win0_14.stage (cfg0.slots t 14)) fullShare (result (blocks m c (tileOf t))) :=
  (leaves_followed m c followed_14 t).trans (by rw [after_14])
theorem leaves_15 (t : Fin cfg0.N) : (dats m 0 c).leavesExact 15 t = owns (c : Thread nD τ) (win0_15.stage (cfg0.slots t 15)) fullShare (queries (blocks m c (tileOf t))) :=
  (leaves_followed m c followed_15 t).trans (by rw [after_15])
theorem leaves_17 (t : Fin cfg0.N) : (dats m 0 c).leavesExact 17 t = owns (c : Thread nD τ) (win0_17.stage (cfg0.slots t 17)) fullShare (values (blocks m c (tileOf t))) :=
  (leaves_followed m c followed_17 t).trans (by rw [after_17])
theorem leaves_21 (t : Fin cfg0.N) : (dats m 0 c).leavesExact 21 t = owns (c : Thread nD τ) (win0_21.stage (cfg0.slots t 21)) fullShare (values' (blocks m c (tileOf t))) :=
  (leaves_followed m c followed_21 t).trans (by rw [after_21])
theorem leaves_22 (t : Fin cfg0.N) : (dats m 0 c).leavesExact 22 t = owns (c : Thread nD τ) (win0_22.stage (cfg0.slots t 22)) fullShare (gate (blocks m c (tileOf t))) :=
  (leaves_followed m c followed_22 t).trans (by rw [after_22])

/-- The region's own buffers: three scratch buffers and the generator register. -/
theorem scratch : (Pipeline.ΦA spec0 c : sProp 𝕄)
    = iprop(iprop((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d)) ∗ (∃ r, prngReg c r)) := by
  unfold Pipeline.ΦA; rw [scopedRest0_eq]; simp only [owns_whole]; try rfl

/-! ## The body at a point -/

/-- What the body is handed. -/
def given (t : Fin cfg0.N) : sProp 𝕄 :=
  iprop(Pipeline.ΦA spec0 c ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d))
    ∗ (∃ d, owns (c : Thread nD τ) (win0_16.stage (cfg0.slots t 16)) fullShare d)
    ∗ (∃ d, owns (c : Thread nD τ) (win0_17.stage (cfg0.slots t 17)) fullShare ((dats m 0 c).before 17 t d))
    ∗ (∃ d, owns (c : Thread nD τ) (win0_18.stage (cfg0.slots t 18)) fullShare d)
    ∗ (∃ d, owns (c : Thread nD τ) (win0_19.stage (cfg0.slots t 19)) fullShare d)
    ∗ (∃ d, owns (c : Thread nD τ) (win0_20.stage (cfg0.slots t 20)) fullShare d)
    ∗ (∃ d, owns (c : Thread nD τ) (win0_21.stage (cfg0.slots t 21)) fullShare ((dats m 0 c).before 21 t d))
    ∗ (∃ d, owns (c : Thread nD τ) (win0_22.stage (cfg0.slots t 22)) fullShare ((dats m 0 c).before 22 t d))
    ∗ (∃ d, owns (c : Thread nD τ) (win0_23.stage (cfg0.slots t 23)) fullShare d)
    ∗ (∃ d, owns (c : Thread nD τ) (win0_24.stage (cfg0.slots t 24)) fullShare d))

/-- What it gives back. -/
def back (t : Fin cfg0.N) : sProp 𝕄 :=
  iprop(Pipeline.ΦA spec0 c ∗ (dats m 0 c).owesAt () t.castSucc
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (∃ d, owns (c : Thread nD τ) (win0_16.stage (cfg0.slots t 16)) fullShare d)
    ∗ (dats m 0 c).leavesExact 17 t
    ∗ (∃ d, owns (c : Thread nD τ) (win0_18.stage (cfg0.slots t 18)) fullShare d)
    ∗ (∃ d, owns (c : Thread nD τ) (win0_19.stage (cfg0.slots t 19)) fullShare d)
    ∗ (∃ d, owns (c : Thread nD τ) (win0_20.stage (cfg0.slots t 20)) fullShare d)
    ∗ (dats m 0 c).leavesExact 21 t
    ∗ (dats m 0 c).leavesExact 22 t
    ∗ (∃ d, owns (c : Thread nD τ) (win0_23.stage (cfg0.slots t 23)) fullShare d)
    ∗ (∃ d, owns (c : Thread nD τ) (win0_24.stage (cfg0.slots t 24)) fullShare d))

set_option maxHeartbeats 4000000 in
theorem at_point (t : Fin cfg0.N) :
    given m c t ⊢ wp frame (wpE (defs₀ (F := F)) Variants.none c none) Set.univ (bodyAt0 t) (fun _ => back m c t) := by
  unfold given back bodyAt0
  simp only [before_0, before_1, before_2, before_3, before_4, before_5, before_6, before_7, before_8, before_9, before_10, before_11, before_12, before_13, leaves_0, leaves_1, leaves_2, leaves_3, leaves_4, leaves_5, leaves_6, leaves_7, leaves_8, leaves_9, leaves_10, leaves_11, leaves_12, leaves_13, leaves_14, leaves_15, leaves_17, leaves_21, leaves_22]
  rw [scratch]
  by_cases h : t.val < 128
  · have more := (more_iff t).mpr h
    have last : ¬k0_cond4 (grid0.coords t) = 1#1 := fun e => by have := (last_iff t).mp e; omega
    rw [tileOf_eq t h]
    iintro ⟨⟨⟨HS0, HS1, HS2⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, H16, ⟨%d17, H17⟩, H18, H19, H20, ⟨%d21, H21⟩, ⟨%d22, H22⟩, H23, H24⟩
    iapply ((tile_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (Memref.whole cc0_scratch0) (Memref.isWhole_whole _) (Memref.whole cc0_scratch1) (Memref.isWhole_whole _) (Memref.whole cc0_scratch2) (Memref.isWhole_whole _) last more (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)).2.2.2.2.2 _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexact H16
    isplitl [H17]; · iexists _; iexact H17
    isplitl [H18]; · iexact H18
    isplitl [H19]; · iexact H19
    isplitl [H20]; · iexact H20
    isplitl [H21]; · iexists _; iexact H21
    isplitl [H22]; · iexists _; iexact H22
    isplitl [H23]; · iexact H23
    isplitl [H24]; · iexact H24
    isplitl [HS0]; · iexact HS0
    isplitl [HS1]; · iexact HS1
    isplitl [HS2]; · iexact HS2
    iintro ⟨H0, H1, H2, H3, H4, H5, H6, H7, H8, H9, H10, H11, H12, H13, ⟨%f14, H14⟩, ⟨%f15, H15⟩, H16, ⟨%f17, H17⟩, H18, H19, H20, ⟨%f21, H21⟩, ⟨%f22, H22⟩, H23, H24, HS0, HS1, HS2⟩
    isplitl [HS0 HS1 HS2 Hg]
    · isplitl [HS0 HS1 HS2]
      · isplitl [HS0]; · iexact HS0
        isplitl [HS1]; · iexact HS1
        iexact HS2
      iexact Hg
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · unfold owns; iexists _; isplitr; swap; · iexact H14
      ipureintro
      exact tokens_read c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (Memref.whole cc0_scratch0) (Memref.isWhole_whole _) (Memref.whole cc0_scratch1) (Memref.isWhole_whole _) (Memref.whole cc0_scratch2) (Memref.isWhole_whole _) last more (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) f14
    isplitl [H15]
    · unfold owns; iexists _; isplitr; swap; · iexact H15
      ipureintro
      exact queries_read c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (Memref.whole cc0_scratch0) (Memref.isWhole_whole _) (Memref.whole cc0_scratch1) (Memref.isWhole_whole _) (Memref.whole cc0_scratch2) (Memref.isWhole_whole _) last more (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) f15
    isplitl [H16]; · iexact H16
    isplitl [H17]
    · unfold owns; iexists _; isplitr; swap; · iexact H17
      ipureintro
      exact values_read c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (Memref.whole cc0_scratch0) (Memref.isWhole_whole _) (Memref.whole cc0_scratch1) (Memref.isWhole_whole _) (Memref.whole cc0_scratch2) (Memref.isWhole_whole _) last more (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) f17
    isplitl [H18]; · iexact H18
    isplitl [H19]; · iexact H19
    isplitl [H20]; · iexact H20
    isplitl [H21]
    · unfold owns; iexists _; isplitr; swap; · iexact H21
      ipureintro
      exact values'_read c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (Memref.whole cc0_scratch0) (Memref.isWhole_whole _) (Memref.whole cc0_scratch1) (Memref.isWhole_whole _) (Memref.whole cc0_scratch2) (Memref.isWhole_whole _) last more (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) f21
    isplitl [H22]
    · unfold owns; iexists _; isplitr; swap; · iexact H22
      ipureintro
      exact gate_read c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (Memref.whole cc0_scratch0) (Memref.isWhole_whole _) (Memref.whole cc0_scratch1) (Memref.isWhole_whole _) (Memref.whole cc0_scratch2) (Memref.isWhole_whole _) last more (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) f22
    isplitl [H23]; · iexact H23
    iexact H24
  · have more : ¬k0_cond5 (grid0.coords t) = 1#1 := fun e => h ((more_iff t).mp e)
    have last := (last_iff t).mpr (by have := points t; omega)
    simp only [before_14 m c t h, before_15 m c t h, before_17 m c t h, before_21 m c t h, before_22 m c t h]
    iintro ⟨⟨⟨HS0, HS1, HS2⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, H16, ⟨%d17, H17⟩, H18, H19, H20, ⟨%d21, H21⟩, ⟨%d22, H22⟩, H23, H24⟩
    iapply (last_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (Memref.whole cc0_scratch0) (Memref.isWhole_whole _) (Memref.whole cc0_scratch1) (Memref.isWhole_whole _) (Memref.whole cc0_scratch2) (Memref.isWhole_whole _) last more (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (result (blocks m c (tileOf t))) (queries (blocks m c (tileOf t))) (values (blocks m c (tileOf t))) (values' (blocks m c (tileOf t))) (gate (blocks m c (tileOf t))) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [HS0]; · iexact HS0
    isplitl [HS1]; · iexact HS1
    isplitl [HS2]; · iexact HS2
    iintro ⟨H0, H1, H2, H3, H4, H5, H6, H7, H8, H9, H10, H11, H12, H13, H14, H15, H16, H17, H18, H19, H20, H21, H22, H23, H24, HS0, HS1, HS2⟩
    isplitl [HS0 HS1 HS2 Hg]
    · isplitl [HS0 HS1 HS2]
      · isplitl [HS0]; · iexact HS0
        isplitl [HS1]; · iexact HS1
        iexact HS2
      iexact Hg
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    iexact H24

set_option maxHeartbeats 2000000 in
theorem obligation : BodyObligation (dats (F := F) m 0 c) (defs₀ (F := F)) Variants.none () Set.univ loose := fun t => by
  have row : defs₀ (F := F) .tc cfg0.body (cfg0.bodyArgs t (cfg0.slots t)) = bodyAt0 t := by unfold defs₀; rw [Defs.onTc_tc]
  rw [bigSep_W0, bigSep_W0, row]
  exact triple_restated (at_point m c t) rfl .rfl fun _ => .rfl

/-! ## The run -/

set_option backward.isDefEq.respectTransparency.types false in
/-- The launch: the arrays the pipeline leaves, and every semaphore counter at zero. -/
theorem launched : θ_run defs (onTc (τ := τ) (main (F := F))) (s₀ m ρ)
    (fun r => (Pipeline.RDat.FramePost (cfgs 0) (fun c => (dats m 0 c).toRForget loose) (V m)) r ∧ r.2.sem = fun _ => 0) :=
  Pipeline.θ_run_frame_forget (Q' := _) cfgs (dats m) (0 : Fin 1) launch0 defs₀ Variants.none loose m ρ main
    (hbody := fun c => (obligation m c).loose) (hshare := fun c => (dats m 0 c).share_full fun _ => rfl)
    (howed := fun _ _ => rfl) (V := V m) (hmain := hmain m Variants.none) (hA := A_eq m) (hΦ := fun _ _ => rfl)

set_option maxHeartbeats 2000000 in
/-- The followed arrays at the pipeline's contents, the arguments unchanged, the counters at zero. -/
theorem run : θ_run defs (onTc (τ := τ) (main (F := F))) ⟨m, fun _ => 0, ρ⟩ (fun r => (∀ c : Dev nD,
      r.2.mem ((c.tc : Thread nD τ).loc main_v47_0) = (dats m 0 c).arrAt 14 cfg0.N
      ∧ r.2.mem ((c.tc : Thread nD τ).loc main_v47_1) = (dats m 0 c).arrAt 15 cfg0.N
      ∧ r.2.mem ((c.tc : Thread nD τ).loc main_v47_3) = (dats m 0 c).arrAt 17 cfg0.N
      ∧ r.2.mem ((c.tc : Thread nD τ).loc main_v47_7) = (dats m 0 c).arrAt 21 cfg0.N
      ∧ r.2.mem ((c.tc : Thread nD τ).loc main_v47_8) = (dats m 0 c).arrAt 22 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ hr => ⟨fun c => have h := hr.1; ⟨(Dat.toRForget_arrAt_iff (dat := dats m 0 c) (fgt := loose) (w := 14) rfl _ _).mp ((h c).1 14),
      (Dat.toRForget_arrAt_iff (dat := dats m 0 c) (fgt := loose) (w := 15) rfl _ _).mp ((h c).1 15),
      (Dat.toRForget_arrAt_iff (dat := dats m 0 c) (fgt := loose) (w := 17) rfl _ _).mp ((h c).1 17),
      (Dat.toRForget_arrAt_iff (dat := dats m 0 c) (fgt := loose) (w := 21) rfl _ _).mp ((h c).1 21),
      (Dat.toRForget_arrAt_iff (dat := dats m 0 c) (fgt := loose) (w := 22) rfl _ _).mp ((h c).1 22),
      (Pipeline.RDat.FramePost.arr_in h c 0 rfl).trans ((A_eq m c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩, hr.2⟩) (launched m ρ)

end Cert.Front

end
-- ==== Proof.Front.Tile.lean ====
/-
  A tile at an index: each of the 512 rows of the tokens is one token's row plus half its gated feed-forward; the queries, the values and the output gate
  are columns of the projections of these rows, normed.
-/
module

public import proofs.«01_k».proof.Proof.Front.Body
public import proofs.«01_k».proof.Proof.Front.Columns

@[expose] public section

noncomputable section

namespace Cert.Front

open Cert.Kernel3Ideal Cert.Kernel3Ideal.Gen Idealize.ShloMosaic

theorem cols_apply (w : Vec Ideal S1024x5632 .bf16) (j : Fin 22) (i : Fin 1024) (x : Fin 256) :
    cols w j (ix2 i x) = w (ix2 i ⟨256 * j.val + x.val, by omega⟩) := by
  unfold cols
  pointwise

theorem normed_apply (z : Vec Ideal S1x512x1024 .f32) (g : Vec Ideal S1x1024 .f32) (r : Fin 512) (x : Fin 1024) :
    k0_pay13 z g (ix2 r x) = Row.norm (fun x => z (ix3 0 r x)) (fun x => g (ix2 0 x)) x := by
  unfold Row.norm
  pointwise [k0_pay13, k0_pay12]

/-- The feed-forward's hidden channel `x` of row `r`. -/
theorem hidden_apply (k : Blocks Ideal) (r : Fin 512) (x : Fin 2816) : hidden k (ix2 r x)
    = Row.hidden (Row.norm (fun x => k.x (ix3 0 r x)) (fun x => k.g (ix2 0 x))) (fun i x => k.u (ix2 i x)) x := by
  have e : Row.norm (fun x => k.x (ix3 0 r x)) (fun x => k.g (ix2 0 x)) = fun x => k0_pay13 k.x k.g (ix2 r x) := funext fun x => (normed_apply k.x k.g r x).symm
  have n : (Fin.ofNat 11 (x.val / 256)).val = x.val / 256 := Nat.mod_eq_of_lt (by omega)
  show piece k (Fin.ofNat 11 (x.val / 256)) (ix2 r ⟨x.val % 256, Nat.mod_lt _ (by decide)⟩) = _
  rw [e]
  unfold Row.hidden
  rw [← Row.gated_of_sub]
  unfold piece
  generalize k0_pay13 k.x k.g = h
  generalize Fin.ofNat 11 (x.val / 256) = j at *
  pointwise [k0_pay18]
  have e1 : (Fin.ofNat 22 (x.val / 256)).val = x.val / 256 := Nat.mod_eq_of_lt (by omega)
  have e2 : (Fin.ofNat 22 (11 + x.val / 256)).val = 11 + x.val / 256 := Nat.mod_eq_of_lt (by omega)
  have e3 : 256 * (x.val / 256) + x.val % 256 = x.val := Nat.div_add_mod _ _
  have e4 : 256 * (11 + x.val / 256) + x.val % 256 = 2816 + x.val := by omega
  simp only [cols_apply, n]
  simp only [e1, e2, e3, e4]

theorem fed_apply (z : FVec Ideal S512x1024 .f32) (h : Vec Ideal S512x2816 .bf16) (d : Vec Ideal S2816x1024 .bf16) (r : Fin 512) (x : Fin 1024) :
    k0_pay36 z h d (ix3 0 r x) = z (ix2 r x) + Ideal.ofBits .f32 0x3F000000#32 * ∑ k : Fin 2816, h (ix2 r k) * d (ix2 k x) := by
  pointwise [k0_pay36, k0_pay35]

theorem tokens_apply (z : Vec Ideal S1x512x1024 .f32) (r : Fin 512) (x : Fin 1024) : k0_pay12 z (ix2 r x) = z (ix3 0 r x) := by
  pointwise [k0_pay12]

/-- The tile's tokens, row by row. -/
theorem result_apply (k : Blocks Ideal) (r : Fin 512) (x : Fin 1024) : result k (ix3 0 r x)
    = Row.fed (fun x => k.x (ix3 0 r x)) (fun x => k.g (ix2 0 x)) (fun i x => k.u (ix2 i x)) (fun i x => k.d (ix2 i x)) x := by
  unfold result
  rw [fed_apply, tokens_apply]
  simp only [hidden_apply]
  rfl

theorem half_step_apply (z : FVec Ideal S512x1024 .f32) (h : Vec Ideal S512x2816 .bf16) (d : Vec Ideal S2816x1024 .bf16) (r : Fin 512) (x : Fin 1024) :
    k0_pay35 z h d (ix2 r x) = z (ix2 r x) + Ideal.ofBits .f32 0x3F000000#32 * ∑ k : Fin 2816, h (ix2 r k) * d (ix2 k x) := by
  pointwise [k0_pay35]

theorem mixer_norm_apply (z : FVec Ideal S512x1024 .f32) (h : Vec Ideal S512x2816 .bf16) (d : Vec Ideal S2816x1024 .bf16) (n : Vec Ideal S1x1024 .f32)
    (r : Fin 512) (x : Fin 1024) : k0_pay39 (k0_pay35 z h d) (k0_pay37 n) (k0_pay38 z h d) (ix2 r x)
      = Row.norm (fun x => k0_pay35 z h d (ix2 r x)) (fun x => n (ix2 0 x)) x := by
  unfold Row.norm k0_pay38
  generalize k0_pay35 z h d = y
  pointwise [k0_pay39, k0_pay37]

/-- The tile's tokens, normed for the mixer. -/
theorem mixer_apply (k : Blocks Ideal) (r : Fin 512) (x : Fin 1024) : mixer k (ix2 r x)
    = Row.mixer (fun x => k.x (ix3 0 r x)) (fun x => k.g (ix2 0 x)) (fun i x => k.u (ix2 i x)) (fun i x => k.d (ix2 i x)) (fun x => k.n (ix2 0 x)) x := by
  unfold mixer
  rw [mixer_norm_apply]
  simp only [half_step_apply, tokens_apply, hidden_apply]
  rfl

/-- The first head group's queries: columns scaled. -/
theorem queries_apply (k : Blocks Ideal) (j r : Fin 512) : queries k (ix3 0 j r)
    = Row.column (fun i => mixer k (ix2 r i)) (fun i => k.q (ix2 ⟨j.val, by omega⟩ i)) * Ideal.ofBits .f32 0x3E38AA3B#32 := by
  rw [← Row.column_comm]
  unfold queries k0_pay41 k0_pay40 mixer
  generalize k0_pay39 (F := Ideal) _ _ _ = h
  pointwise

theorem first_half_apply (h : FVec Ideal S512x1024 .bf16) (w : Vec Ideal S512x1024 .bf16) (j : Fin 512) (r : Fin 256) :
    k0_pay92 h w (ix4 0 0 j r) = ∑ i : Fin 1024, w (ix2 j i) * h (ix2 ⟨r.val, by omega⟩ i) := by
  pointwise [k0_pay92, k0_pay91]

theorem second_half_apply (h : FVec Ideal S512x1024 .bf16) (w : Vec Ideal S512x1024 .bf16) (j : Fin 512) (r : Fin 256) :
    k0_pay94 (k0_pay93 h w) (ix4 0 0 j r) = ∑ i : Fin 1024, w (ix2 j i) * h (ix2 ⟨256 + r.val, by omega⟩ i) := by
  pointwise [k0_pay94, k0_pay93, k0_pay91]

/-- The first head group's values, of token `256 b + r` of the tile. -/
theorem values_apply (k : Blocks Ideal) (b : Fin 2) (j : Fin 512) (r : Fin 256) (t : Fin 512) (ht : t.val = 256 * b.val + r.val) :
    values k (ix4 0 b j r) = Row.column (fun i => mixer k (ix2 t i)) (fun i => k.v (ix2 j i)) := by
  show half k b (ix4 0 0 j r) = _
  rw [← Row.column_comm]
  unfold half
  match b with
  | 0 => rw [if_pos rfl, first_half_apply, show t = ⟨r.val, by omega⟩ from Fin.ext (by simpa using ht)]
  | 1 => rw [if_neg (by decide), second_half_apply, show t = ⟨256 + r.val, by omega⟩ from Fin.ext (by simpa using ht)]

/-- The second head group's values. -/
theorem values'_apply (k : Blocks Ideal) (j r : Fin 512) :
    values' k (ix3 0 j r) = Row.column (fun i => mixer k (ix2 r i)) (fun i => k.w (ix2 j i)) := by
  rw [← Row.column_comm]
  unfold values'
  generalize mixer k = h
  pointwise [k0_pay95]

/-- The output gate. -/
theorem gate_apply (k : Blocks Ideal) (r j : Fin 512) :
    gate k (ix3 0 r j) = Row.logistic (Row.column (fun i => mixer k (ix2 r i)) (fun i => k.o (ix2 i j))) := by
  rw [← Row.logistic_of_sub]
  unfold Row.column gate
  generalize mixer k = h
  pointwise [k0_pay3, k0_pay96]

end Cert.Front

end
-- ==== Proof.Front.Whole.lean ====
/-
  The whole grid: sixteen batch entries of eight tiles of 512 tokens, and one point more. Each followed array at a token is what that token's row
  gives, of the arrays the host code prepares.
-/
module

public import proofs.«01_k».proof.Proof.Front.Frame
public import proofs.«01_k».proof.Proof.Front.Tile
public import proofs.«01_k».proof.Proof.Front.Plain
public import proofs.«01_k».proof.Proof.Back.Whole

@[expose] public section

noncomputable section

namespace Cert.Front

open Cert.Kernel3Ideal Cert.Kernel3Ideal.Gen Idealize.ShloMosaic

section Windows

variable {F : FTy → Type} [FloatOps F] (m : (ℓ : Loc nD τ sig) → Buf (Elt F) ℓ) (c : Dev nD)

/-! ## The inputs' blocks -/

theorem index_0 : ∀ t : Fin cfg0.N, t.val < 128 → win0_0.index t = ![t.val / 8, t.val % 8, 0] := (by decide +kernel : ∀ t : Fin grid0.N, _)
theorem index_1 : ∀ t : Fin cfg0.N, ∀ a, win0_1.index t a = 0 := (by decide +kernel : ∀ t : Fin grid0.N, _)
theorem index_2 : ∀ t : Fin cfg0.N, ∀ a, win0_2.index t a = 0 := (by decide +kernel : ∀ t : Fin grid0.N, _)
theorem index_3 : ∀ t : Fin cfg0.N, ∀ a, win0_3.index t a = 0 := (by decide +kernel : ∀ t : Fin grid0.N, _)
theorem index_4 : ∀ t : Fin cfg0.N, ∀ a, win0_4.index t a = 0 := (by decide +kernel : ∀ t : Fin grid0.N, _)
theorem index_5 : ∀ t : Fin cfg0.N, ∀ a, win0_5.index t a = 0 := (by decide +kernel : ∀ t : Fin grid0.N, _)
theorem index_7 : ∀ t : Fin cfg0.N, ∀ a, win0_7.index t a = 0 := (by decide +kernel : ∀ t : Fin grid0.N, _)
theorem index_9 : ∀ t : Fin cfg0.N, ∀ a, win0_9.index t a = 0 := (by decide +kernel : ∀ t : Fin grid0.N, _)
theorem index_10 : ∀ t : Fin cfg0.N, ∀ a, win0_10.index t a = 0 := (by decide +kernel : ∀ t : Fin grid0.N, _)

/-- Tile `n` is computed at point `n`. -/
def point (n : Fin 128) : Fin cfg0.N := ⟨n.val, lt_of_lt_of_eq (by omega) N_0.symm⟩

theorem block_x (n : Fin 128) (i : Fin 512) (s : Fin 16) (t : Fin 4096) (hs : s.val = n.val / 8) (ht : t.val = 512 * (n.val % 8) + i.val) (x : Fin 1024) :
    (blocks m c (point n)).x (ix3 0 i x) = V m c main_arg0 (ix3 s t x) := by
  show V m c main_arg0 (((cfg0.win 0).blk (point n)).view.emb (ix3 0 i x)) = _
  congr 1
  funext a
  apply Fin.ext
  match a with
  | ⟨0, _⟩ => show win0_0.index (point n) 0 * 1 + 1 * 0 = s.val; rw [index_0 _ n.isLt, hs]; simp [point]
  | ⟨1, _⟩ => show win0_0.index (point n) 1 * 512 + 1 * i.val = t.val; rw [index_0 _ n.isLt, ht]; simp [point]; ring
  | ⟨2, _⟩ => show win0_0.index (point n) 2 * 1024 + 1 * x.val = x.val; rw [index_0 _ n.isLt]; simp

theorem block_g (t : Fin cfg0.N) (y : S1x1024.Idx) : (blocks m c t).g y = V m c main_v39 y :=
  congrArg (V m c main_v39) (funext fun a => Fin.ext (win0_1.rect_emb_val_of_index_zero t a (index_1 t a) y))
theorem block_u (t : Fin cfg0.N) (y : S1024x5632.Idx) : (blocks m c t).u y = V m c main_v41 y :=
  congrArg (V m c main_v41) (funext fun a => Fin.ext (win0_2.rect_emb_val_of_index_zero t a (index_2 t a) y))
theorem block_d (t : Fin cfg0.N) (y : S2816x1024.Idx) : (blocks m c t).d y = V m c main_v43 y :=
  congrArg (V m c main_v43) (funext fun a => Fin.ext (win0_3.rect_emb_val_of_index_zero t a (index_3 t a) y))
theorem block_n (t : Fin cfg0.N) (y : S1x1024.Idx) : (blocks m c t).n y = V m c main_v45 y :=
  congrArg (V m c main_v45) (funext fun a => Fin.ext (win0_4.rect_emb_val_of_index_zero t a (index_4 t a) y))
theorem block_q (t : Fin cfg0.N) (y : S544x1024.Idx) : (blocks m c t).q y = V m c main_v26 y :=
  congrArg (V m c main_v26) (funext fun a => Fin.ext (win0_5.rect_emb_val_of_index_zero t a (index_5 t a) y))
theorem block_v (t : Fin cfg0.N) (y : S512x1024.Idx) : (blocks m c t).v y = V m c main_v5 y :=
  congrArg (V m c main_v5) (funext fun a => Fin.ext (win0_7.rect_emb_val_of_index_zero t a (index_7 t a) y))
theorem block_w (t : Fin cfg0.N) (y : S512x1024.Idx) : (blocks m c t).w y = V m c main_v10 y :=
  congrArg (V m c main_v10) (funext fun a => Fin.ext (win0_9.rect_emb_val_of_index_zero t a (index_9 t a) y))
theorem block_o (t : Fin cfg0.N) (y : S1024x512.Idx) : (blocks m c t).o y = V m c main_v12 y :=
  congrArg (V m c main_v12) (funext fun a => Fin.ext (win0_10.rect_emb_val_of_index_zero t a (index_10 t a) y))

/-! ## The followed arrays -/

theorem index_14 : ∀ t : Fin cfg0.N, win0_14.index t = ![min t.val 127 / 8, min t.val 127 % 8, 0] := (by decide +kernel : ∀ t : Fin grid0.N, _)
theorem index_15 : ∀ t : Fin cfg0.N, win0_15.index t = ![min t.val 127 / 8, 0, min t.val 127 % 8] := (by decide +kernel : ∀ t : Fin grid0.N, _)
theorem index_17 : ∀ t : Fin cfg0.N, win0_17.index t = ![min t.val 127 / 8, min t.val 127 % 8, 0, 0] := (by decide +kernel : ∀ t : Fin grid0.N, _)
theorem index_21 : ∀ t : Fin cfg0.N, win0_21.index t = ![min t.val 127 / 8, 0, min t.val 127 % 8] := (by decide +kernel : ∀ t : Fin grid0.N, _)
theorem index_22 : ∀ t : Fin cfg0.N, win0_22.index t = ![min t.val 127 / 8, min t.val 127 % 8, 0] := (by decide +kernel : ∀ t : Fin grid0.N, _)

theorem tile_of_index {p q : ℕ} (hp : p / 8 = q / 8) (hq : p % 8 = q % 8) : p = q := by omega

theorem index_14_inj (t t' : Fin cfg0.N) (e : win0_14.index t = win0_14.index t') : min t.val 127 = min t'.val 127 := by
  rw [index_14, index_14] at e; exact tile_of_index (congrFun e 0) (congrFun e 1)
theorem index_15_inj (t t' : Fin cfg0.N) (e : win0_15.index t = win0_15.index t') : min t.val 127 = min t'.val 127 := by
  rw [index_15, index_15] at e; exact tile_of_index (congrFun e 0) (congrFun e 2)
theorem index_17_inj (t t' : Fin cfg0.N) (e : win0_17.index t = win0_17.index t') : min t.val 127 = min t'.val 127 := by
  rw [index_17, index_17] at e; exact tile_of_index (congrFun e 0) (congrFun e 1)
theorem index_21_inj (t t' : Fin cfg0.N) (e : win0_21.index t = win0_21.index t') : min t.val 127 = min t'.val 127 := by
  rw [index_21, index_21] at e; exact tile_of_index (congrFun e 0) (congrFun e 2)
theorem index_22_inj (t t' : Fin cfg0.N) (e : win0_22.index t = win0_22.index t') : min t.val 127 = min t'.val 127 := by
  rw [index_22, index_22] at e; exact tile_of_index (congrFun e 0) (congrFun e 1)

/-- Two points that write a followed array back write different tiles of it: its block `t` is what point `t` wrote. -/
theorem written {w : Fin cfg0.W} (hw : Followed w) (hi : ∀ t t', (cfg0.win w).index t = (cfg0.win w).index t' → min t.val 127 = min t'.val 127)
    (t : Fin cfg0.N) (ht : t.val ≠ 127) : ((cfg0.win w).blk t).view.read (Elt F) ((dats m 0 c).arrAt w cfg0.N) = (dats m 0 c).flushed w t := by
  refine (dats m 0 c).read_blk_arrAt_eq_flushed w (fun t t' hf hf' hne => ?_) cfg0.N t t.isLt ((hw.2.1 t).mpr ht)
  refine (cfg0.win w).disjoint_blk (fun e => hne (Fin.ext ?_)) ((cfg0.win w).kind_out hw.1)
  have h := points t
  have h' := points t'
  have n := (hw.2.1 t).mp hf
  have n' := (hw.2.1 t').mp hf'
  have := hi t t' e
  omega

/-- Every tile is written back at some point. -/
theorem reached (n : Fin 128) : ∃ t : Fin cfg0.N, t.val ≠ 127 ∧ min t.val 127 = n.val := by
  by_cases e : n.val = 127
  · exact ⟨⟨128, lt_of_lt_of_eq (by decide) N_0.symm⟩, by decide, e.symm⟩
  · exact ⟨point n, e, by show min n.val 127 = n.val; omega⟩

theorem tileOf_point {t : Fin cfg0.N} {n : Fin 128} (h : min t.val 127 = n.val) : tileOf t = point n := Fin.ext h

theorem tokens_at (n : Fin 128) (i : Fin 512) (s : Fin 16) (t : Fin 4096) (hs : s.val = n.val / 8) (ht : t.val = 512 * (n.val % 8) + i.val) (x : Fin 1024) :
    (dats m 0 c).arrAt 14 cfg0.N (ix3 s t x) = result (blocks m c (point n)) (ix3 0 i x) := by
  obtain ⟨p, hp, hn⟩ := reached n
  refine Eq.trans ?_ ((congrFun (written m c followed_14 index_14_inj p hp) (ix3 0 i x)).trans ?_)
  · show _ = (dats m 0 c).arrAt 14 cfg0.N (((cfg0.win 14).blk p).view.emb (ix3 0 i x))
    congr 1
    funext a
    apply Fin.ext
    match a with
    | ⟨0, _⟩ => show s.val = win0_14.index p 0 * 1 + 1 * 0; rw [index_14, hn, hs]; simp
    | ⟨1, _⟩ => show t.val = win0_14.index p 1 * 512 + 1 * i.val; rw [index_14, hn, ht]; simp; ring
    | ⟨2, _⟩ => show x.val = win0_14.index p 2 * 1024 + 1 * x.val; rw [index_14]; simp
  · rw [← tileOf_point hn]; exact congrFun (after_14 m c p) (ix3 0 i x)

theorem queries_at (n : Fin 128) (i : Fin 512) (s : Fin 16) (t : Fin 4096) (hs : s.val = n.val / 8) (ht : t.val = 512 * (n.val % 8) + i.val) (j : Fin 512) :
    (dats m 0 c).arrAt 15 cfg0.N (ix3 s j t) = queries (blocks m c (point n)) (ix3 0 j i) := by
  obtain ⟨p, hp, hn⟩ := reached n
  refine Eq.trans ?_ ((congrFun (written m c followed_15 index_15_inj p hp) (ix3 0 j i)).trans ?_)
  · show _ = (dats m 0 c).arrAt 15 cfg0.N (((cfg0.win 15).blk p).view.emb (ix3 0 j i))
    congr 1
    funext a
    apply Fin.ext
    match a with
    | ⟨0, _⟩ => show s.val = win0_15.index p 0 * 1 + 1 * 0; rw [index_15, hn, hs]; simp
    | ⟨1, _⟩ => show j.val = win0_15.index p 1 * 512 + 1 * j.val; rw [index_15]; simp
    | ⟨2, _⟩ => show t.val = win0_15.index p 2 * 512 + 1 * i.val; rw [index_15, hn, ht]; simp; ring
  · rw [← tileOf_point hn]; exact congrFun (after_15 m c p) (ix3 0 j i)

theorem values_at (n : Fin 128) (b : Fin 2) (s q : Fin 16) (hs : s.val = n.val / 8) (hq : q.val = 2 * (n.val % 8) + b.val) (j : Fin 512) (r : Fin 256) :
    (dats m 0 c).arrAt 17 cfg0.N (ix4 s q j r) = values (blocks m c (point n)) (ix4 0 b j r) := by
  obtain ⟨p, hp, hn⟩ := reached n
  refine Eq.trans ?_ ((congrFun (written m c followed_17 index_17_inj p hp) (ix4 0 b j r)).trans ?_)
  · show _ = (dats m 0 c).arrAt 17 cfg0.N (((cfg0.win 17).blk p).view.emb (ix4 0 b j r))
    congr 1
    funext a
    apply Fin.ext
    match a with
    | ⟨0, _⟩ => show s.val = win0_17.index p 0 * 1 + 1 * 0; rw [index_17, hn, hs]; simp
    | ⟨1, _⟩ => show q.val = win0_17.index p 1 * 2 + 1 * b.val; rw [index_17, hn, hq]; simp; ring
    | ⟨2, _⟩ => show j.val = win0_17.index p 2 * 512 + 1 * j.val; rw [index_17]; simp
    | ⟨3, _⟩ => show r.val = win0_17.index p 3 * 256 + 1 * r.val; rw [index_17]; simp
  · rw [← tileOf_point hn]; exact congrFun (after_17 m c p) (ix4 0 b j r)

theorem values'_at (n : Fin 128) (i : Fin 512) (s : Fin 16) (t : Fin 4096) (hs : s.val = n.val / 8) (ht : t.val = 512 * (n.val % 8) + i.val) (j : Fin 512) :
    (dats m 0 c).arrAt 21 cfg0.N (ix3 s j t) = values' (blocks m c (point n)) (ix3 0 j i) := by
  obtain ⟨p, hp, hn⟩ := reached n
  refine Eq.trans ?_ ((congrFun (written m c followed_21 index_21_inj p hp) (ix3 0 j i)).trans ?_)
  · show _ = (dats m 0 c).arrAt 21 cfg0.N (((cfg0.win 21).blk p).view.emb (ix3 0 j i))
    congr 1
    funext a
    apply Fin.ext
    match a with
    | ⟨0, _⟩ => show s.val = win0_21.index p 0 * 1 + 1 * 0; rw [index_21, hn, hs]; simp
    | ⟨1, _⟩ => show j.val = win0_21.index p 1 * 512 + 1 * j.val; rw [index_21]; simp
    | ⟨2, _⟩ => show t.val = win0_21.index p 2 * 512 + 1 * i.val; rw [index_21, hn, ht]; simp; ring
  · rw [← tileOf_point hn]; exact congrFun (after_21 m c p) (ix3 0 j i)

theorem gate_at (n : Fin 128) (i : Fin 512) (s : Fin 16) (t : Fin 4096) (hs : s.val = n.val / 8) (ht : t.val = 512 * (n.val % 8) + i.val) (j : Fin 512) :
    (dats m 0 c).arrAt 22 cfg0.N (ix3 s t j) = gate (blocks m c (point n)) (ix3 0 i j) := by
  obtain ⟨p, hp, hn⟩ := reached n
  refine Eq.trans ?_ ((congrFun (written m c followed_22 index_22_inj p hp) (ix3 0 i j)).trans ?_)
  · show _ = (dats m 0 c).arrAt 22 cfg0.N (((cfg0.win 22).blk p).view.emb (ix3 0 i j))
    congr 1
    funext a
    apply Fin.ext
    match a with
    | ⟨0, _⟩ => show s.val = win0_22.index p 0 * 1 + 1 * 0; rw [index_22, hn, hs]; simp
    | ⟨1, _⟩ => show t.val = win0_22.index p 1 * 512 + 1 * i.val; rw [index_22, hn, ht]; simp; ring
    | ⟨2, _⟩ => show j.val = win0_22.index p 2 * 512 + 1 * j.val; rw [index_22]; simp
  · rw [← tileOf_point hn]; exact congrFun (after_22 m c p) (ix3 0 i j)

end Windows

variable (m : (ℓ : Loc nD τ sig) → Buf (Elt Ideal) ℓ) (c : Dev nD)

/-! ## The host's arrays -/

theorem host_x (n : S16x4096x1024.Idx) : V m c main_arg0 n = m (c.tc.loc main_arg0) n := congrFun (V_main_arg0 m c) n
theorem host_g (x : Fin 1024) : V m c main_v39 (ix2 0 x) = m (c.tc.loc main_arg1) (ix2 0 x) := by unfold V; after_reads_at
theorem host_u (i : Fin 1024) (x : Fin 5632) : V m c main_v41 (ix2 i x) = m (c.tc.loc main_arg2) (ix3 0 i x) := by unfold V; after_reads_at
theorem host_d (i : Fin 2816) (x : Fin 1024) : V m c main_v43 (ix2 i x) = m (c.tc.loc main_arg3) (ix3 0 i x) := by unfold V; after_reads_at
theorem host_n (x : Fin 1024) : V m c main_v45 (ix2 0 x) = m (c.tc.loc main_arg4) (ix2 0 x) := by unfold V; after_reads_at
theorem host_q (j : Fin 512) (i : Fin 1024) : V m c main_v26 (ix2 ⟨j.val, by omega⟩ i) = m (c.tc.loc main_arg5) (ix3 0 i ⟨j.val, by omega⟩) := by
  unfold V; after_reads_at; after_reads_at
theorem host_v (j : Fin 512) (i : Fin 1024) : V m c main_v5 (ix2 j i) = m (c.tc.loc main_arg5) (ix3 0 i ⟨1024 + j.val, by omega⟩) := by
  unfold V; after_reads_at
theorem host_w (j : Fin 512) (i : Fin 1024) : V m c main_v10 (ix2 j i) = m (c.tc.loc main_arg5) (ix3 0 i ⟨2568 + j.val, by omega⟩) := by
  unfold V; after_reads_at
theorem host_o (i : Fin 1024) (j : Fin 512) : V m c main_v12 (ix2 i j) = m (c.tc.loc main_arg5) (ix3 0 i ⟨3080 + j.val, by omega⟩) := by
  unfold V; after_reads_at

/-! ## A token's row -/

/-- After the first half-step, of the arrays of a memory. -/
def rowOf (s : Fin 16) (t : Fin 4096) : Fin 1024 → EReal :=
  Row.fed (fun j => (m (c.tc.loc main_arg0) : FVec Ideal S16x4096x1024 .f32) (ix3 s t j)) (fun j => (m (c.tc.loc main_arg1) : FVec Ideal S1x1024 .f32) (ix2 0 j))
    (fun i k => (m (c.tc.loc main_arg2) : FVec Ideal S1x1024x5632 .f32) (ix3 0 i k)) (fun k j => (m (c.tc.loc main_arg3) : FVec Ideal S1x2816x1024 .f32) (ix3 0 k j))

/-- Normed for the mixer. -/
def mixerOf (s : Fin 16) (t : Fin 4096) : Fin 1024 → EReal := Row.norm (rowOf m c s t) (fun j => (m (c.tc.loc main_arg4) : FVec Ideal S1x1024 .f32) (ix2 0 j))

/-- A column of its projection. -/
def columnOf (s : Fin 16) (t : Fin 4096) (k : Fin 3600) : EReal :=
  Row.column (mixerOf m c s t) (fun i => (m (c.tc.loc main_arg5) : FVec Ideal S1x1024x3600 .f32) (ix3 0 i k))

theorem fed_congr {x x' g g' : Fin 1024 → EReal} {u u' : Fin 1024 → Fin 5632 → EReal} {d d' : Fin 2816 → Fin 1024 → EReal} (hx : ∀ j, x j = x' j)
    (hg : ∀ j, g j = g' j) (hu : ∀ i k, u i k = u' i k) (hd : ∀ k j, d k j = d' k j) (j : Fin 1024) : Row.fed x g u d j = Row.fed x' g' u' d' j := by
  rw [funext hx, funext hg, funext fun i => funext (hu i), funext fun k => funext (hd k)]

section At

variable (n : Fin 128) (i : Fin 512) (s : Fin 16) (t : Fin 4096) (hs : s.val = n.val / 8) (ht : t.val = 512 * (n.val % 8) + i.val)
include hs ht

theorem fed_at (x : Fin 1024) : Row.fed (fun x => (blocks m c (point n)).x (ix3 0 i x)) (fun x => (blocks m c (point n)).g (ix2 0 x))
    (fun i x => (blocks m c (point n)).u (ix2 i x)) (fun i x => (blocks m c (point n)).d (ix2 i x)) x = rowOf m c s t x :=
  fed_congr (fun j => (block_x m c n i s t hs ht j).trans (host_x m c ..)) (fun j => (block_g m c _ _).trans (host_g m c j))
    (fun k j => (block_u m c _ _).trans (host_u m c k j)) (fun k j => (block_d m c _ _).trans (host_d m c k j)) x

theorem mixer_at : (fun x => mixer (blocks m c (point n)) (ix2 i x)) = mixerOf m c s t := by
  funext x
  refine (mixer_apply _ i x).trans ?_
  unfold Row.mixer mixerOf
  rw [funext (fed_at m c n i s t hs ht), funext fun j => (block_n m c (point n) (ix2 0 j)).trans (host_n m c j)]

end At

/-! ## The five arrays -/

/-- The tokens' array. -/
def out : S16x4096x1024.Idx → EReal := (dats m 0 c).arrAt 14 cfg0.N
/-- The first head group's queries. -/
def outQ : S16x512x4096.Idx → EReal := (dats m 0 c).arrAt 15 cfg0.N
/-- The first head group's values. -/
def outV : S16x16x512x256.Idx → EReal := (dats m 0 c).arrAt 17 cfg0.N
/-- The second head group's values. -/
def outW : S16x512x4096.Idx → EReal := (dats m 0 c).arrAt 21 cfg0.N
/-- The output gate. -/
def outO : S16x4096x512.Idx → EReal := (dats m 0 c).arrAt 22 cfg0.N

theorem out_at (s : Fin 16) (t : Fin 4096) (x : Fin 1024) : out m c (ix3 s t x) = rowOf m c s t x := by
  let n : Fin 128 := ⟨8 * s.val + t.val / 512, by omega⟩
  let i : Fin 512 := ⟨t.val % 512, Nat.mod_lt _ (by decide)⟩
  have hs : s.val = n.val / 8 := by show s.val = (8 * s.val + t.val / 512) / 8; omega
  have ht : t.val = 512 * (n.val % 8) + i.val := by show t.val = 512 * ((8 * s.val + t.val / 512) % 8) + t.val % 512; omega
  exact (tokens_at m c n i s t hs ht x).trans ((result_apply _ i x).trans (fed_at m c n i s t hs ht x))

theorem outQ_at (s : Fin 16) (j : Fin 512) (t : Fin 4096) : outQ m c (ix3 s j t) = columnOf m c s t ⟨j.val, by omega⟩ * Ideal.ofBits .f32 0x3E38AA3B#32 := by
  let n : Fin 128 := ⟨8 * s.val + t.val / 512, by omega⟩
  let i : Fin 512 := ⟨t.val % 512, Nat.mod_lt _ (by decide)⟩
  have hs : s.val = n.val / 8 := by show s.val = (8 * s.val + t.val / 512) / 8; omega
  have ht : t.val = 512 * (n.val % 8) + i.val := by show t.val = 512 * ((8 * s.val + t.val / 512) % 8) + t.val % 512; omega
  refine (queries_at m c n i s t hs ht j).trans ((queries_apply _ j i).trans ?_)
  unfold columnOf
  rw [mixer_at m c n i s t hs ht, funext fun k => (block_q m c (point n) (ix2 ⟨j.val, by omega⟩ k)).trans (host_q m c j k)]

theorem outV_at (s q : Fin 16) (j : Fin 512) (r : Fin 256) :
    outV m c (ix4 s q j r) = columnOf m c s ⟨256 * q.val + r.val, by omega⟩ ⟨1024 + j.val, by omega⟩ := by
  let n : Fin 128 := ⟨8 * s.val + q.val / 2, by omega⟩
  let b : Fin 2 := ⟨q.val % 2, Nat.mod_lt _ (by decide)⟩
  let i : Fin 512 := ⟨256 * (q.val % 2) + r.val, by omega⟩
  have hs : s.val = n.val / 8 := by show s.val = (8 * s.val + q.val / 2) / 8; omega
  have hq : q.val = 2 * (n.val % 8) + b.val := by show q.val = 2 * ((8 * s.val + q.val / 2) % 8) + q.val % 2; omega
  have ht : 256 * q.val + r.val = 512 * (n.val % 8) + i.val := by
    show 256 * q.val + r.val = 512 * ((8 * s.val + q.val / 2) % 8) + (256 * (q.val % 2) + r.val); omega
  refine (values_at m c n b s q hs hq j r).trans ((values_apply _ b j r i rfl).trans ?_)
  unfold columnOf
  rw [mixer_at m c n i s ⟨256 * q.val + r.val, by omega⟩ hs ht, funext fun k => (block_v m c (point n) (ix2 j k)).trans (host_v m c j k)]

theorem outW_at (s : Fin 16) (j : Fin 512) (t : Fin 4096) : outW m c (ix3 s j t) = columnOf m c s t ⟨2568 + j.val, by omega⟩ := by
  let n : Fin 128 := ⟨8 * s.val + t.val / 512, by omega⟩
  let i : Fin 512 := ⟨t.val % 512, Nat.mod_lt _ (by decide)⟩
  have hs : s.val = n.val / 8 := by show s.val = (8 * s.val + t.val / 512) / 8; omega
  have ht : t.val = 512 * (n.val % 8) + i.val := by show t.val = 512 * ((8 * s.val + t.val / 512) % 8) + t.val % 512; omega
  refine (values'_at m c n i s t hs ht j).trans ((values'_apply _ j i).trans ?_)
  unfold columnOf
  rw [mixer_at m c n i s t hs ht, funext fun k => (block_w m c (point n) (ix2 j k)).trans (host_w m c j k)]

theorem outO_at (s : Fin 16) (t : Fin 4096) (j : Fin 512) : outO m c (ix3 s t j) = Row.logistic (columnOf m c s t ⟨3080 + j.val, by omega⟩) := by
  let n : Fin 128 := ⟨8 * s.val + t.val / 512, by omega⟩
  let i : Fin 512 := ⟨t.val % 512, Nat.mod_lt _ (by decide)⟩
  have hs : s.val = n.val / 8 := by show s.val = (8 * s.val + t.val / 512) / 8; omega
  have ht : t.val = 512 * (n.val % 8) + i.val := by show t.val = 512 * ((8 * s.val + t.val / 512) % 8) + t.val % 512; omega
  refine (gate_at m c n i s t hs ht j).trans ((gate_apply _ i j).trans ?_)
  unfold columnOf
  rw [mixer_at m c n i s t hs ht, funext fun k => (block_o m c (point n) (ix2 k j)).trans (host_o m c k j)]

/-! ## The reference's formulas give them -/

/-- The reference's projection, of the kernel's arguments. -/
abbrev projection : FVec Ideal Cert.Reference3Ideal.S16x4096x3600 .f32 :=
  Cert.Reference3Ideal.Front.projected (F := Ideal) (Cert.Reference3Ideal.Front.mixer (m (c.tc.loc main_arg0)) (m (c.tc.loc main_arg1)) (m (c.tc.loc main_arg2))
    (m (c.tc.loc main_arg3)) (m (c.tc.loc main_arg4))) (m (c.tc.loc main_arg5))

theorem projection_at (s : Fin 16) (t : Fin 4096) (k : Fin 3600) : projection m c (ix3 s t k) = columnOf m c s t k := by
  refine (Cert.Reference3Ideal.Front.projected_apply _ _ s t k).trans ?_
  unfold columnOf
  congr 1
  exact funext fun j => Cert.Reference3Ideal.Front.mixer_apply _ _ _ _ _ s t j

theorem out_eq : out m c = Cert.Reference2Ideal.Back.through (F := Ideal) (m (c.tc.loc main_arg0)) (m (c.tc.loc main_arg1)) (m (c.tc.loc main_arg2)) (m (c.tc.loc main_arg3)) := by
  funext n
  obtain ⟨s, t, j, rfl⟩ := Cert.Kernel2Ideal.Back.ix3_surj n
  exact (out_at m c s t j).trans (Cert.Reference2Ideal.Back.through_apply _ _ _ _ s t j).symm

theorem outQ_eq : outQ m c = Cert.Reference3Ideal.Front.queries (F := Ideal) (projection m c) := by
  funext n
  obtain ⟨s, j, t, rfl⟩ := Cert.Kernel2Ideal.Back.ix3_surj n
  exact (outQ_at m c s j t).trans ((Cert.Reference3Ideal.Front.queries_apply _ s j t).trans (congrArg (· * Ideal.ofBits .f32 0x3E38AA3B#32) (projection_at m c _ _ _))).symm

theorem outV_eq : outV m c = Cert.Reference3Ideal.Front.values (F := Ideal) (projection m c) := by
  funext n
  obtain ⟨s, q, j, r, rfl⟩ : ∃ s q j r, n = ix4 s q j r :=
    ⟨n 0, n 1, n 2, n 3, by funext d; match d with | ⟨0, _⟩ => rfl | ⟨1, _⟩ => rfl | ⟨2, _⟩ => rfl | ⟨3, _⟩ => rfl⟩
  exact (outV_at m c s q j r).trans ((Cert.Reference3Ideal.Front.values_apply _ s q j r).trans (projection_at m c _ _ _)).symm

theorem outW_eq : outW m c = Cert.Reference3Ideal.Front.values' (F := Ideal) (projection m c) := by
  funext n
  obtain ⟨s, j, t, rfl⟩ := Cert.Kernel2Ideal.Back.ix3_surj n
  exact (outW_at m c s j t).trans ((Cert.Reference3Ideal.Front.values'_apply _ s j t).trans (projection_at m c _ _ _)).symm

theorem outO_eq : outO m c = Cert.Reference3Ideal.Front.gate (F := Ideal) (projection m c) := by
  funext n
  obtain ⟨s, t, j, rfl⟩ := Cert.Kernel2Ideal.Back.ix3_surj n
  exact (outO_at m c s t j).trans ((Cert.Reference3Ideal.Front.gate_apply _ s t j).trans (congrArg Row.logistic (projection_at m c _ _ _))).symm

end Cert.Front

end
-- ==== Proof.Front.Quiet.lean ====
/-
  The front's frame over any floats, and that the two programs, which have the same text, make the same statement of it at the machine's floats.
-/
module

public import proofs.«01_k».proof.Defs
public import proofs.«01_k».proof.Proof.Gen.Kernel3
public import proofs.«01_k».proof.Proof.Front.Frame
public import Idealize.ShloMosaic.Lib.Tactic

@[expose] public section

noncomputable section

namespace Cert.Front

open Idealize.ShloMosaic Idealize.SL.Sem

/-- The front runs, leaves its arguments as they were, and every semaphore counter at zero. -/
def Quiet (F : FTy → Type) [FloatOps F] : Prop :=
  ∀ (m : (ℓ : Loc Cert.Kernel3Ideal.nD Cert.Kernel3Ideal.τ Cert.Kernel3Ideal.sig) → Buf (Elt F) ℓ) (g : Dev Cert.Kernel3Ideal.nD → PrngReg), True →
    θ_run (Cert.Kernel3Ideal.defs (F := F)) (onTc (τ := Cert.Kernel3Ideal.τ) (Cert.Kernel3Ideal.main (F := F))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

theorem quiet {F : FTy → Type} [FloatOps F] : Quiet F := fun m ρ _ =>
  (θ_run Cert.Kernel3Ideal.defs _ _).mono (fun _ h => ⟨fun c => (h.1 c).2.2.2.2.2, h.2⟩) (run m ρ)

theorem same : Quiet Bits = quiescent_Kernel3 := by sl_kernel_rfl

end Cert.Front

end
-- ==== Proof.lean ====
module

public import proofs.«01_k».proof.Defs
public import proofs.«01_k».proof.Proof.Gen.Kernel.Frame
public import proofs.«01_k».proof.Proof.Gen.KernelIdeal.Value
public import proofs.«01_k».proof.Proof.Gen.Pre_finite
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Skeleton
public import proofs.«01_k».proof.Proof.Gen.Reference3Ideal.Run
public import proofs.«01_k».proof.Proof.Mlstm.Equal
public import proofs.«01_k».proof.Proof.Back.Whole
public import proofs.«01_k».proof.Proof.Back.Plain
public import proofs.«01_k».proof.Proof.Front.Plain
public import proofs.«01_k».proof.Proof.Front.Whole
public import proofs.«01_k».proof.Proof.Front.Quiet
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

/-- The reference's run, weakened to its frame. -/
theorem frame_R : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : algebraic_KernelIdeal_ReferenceIdeal_pre_finite := by
  intro m g m' g' pre args
  refine ⟨fun c => Cert.KernelIdeal.Value.G7 m c, Cert.KernelIdeal.Value.run m g, ?_⟩
  refine (θ_run Cert.ReferenceIdeal.defs _ _).mono (fun r h c => ⟨(h c).1.trans ?_, (h c).2⟩) (Cert.ReferenceIdeal.Value.run (F := Ideal) m' g')
  obtain ⟨a0, a1, a2, a3, a4, a5, a6⟩ := args c
  obtain ⟨D, H⟩ := Cert.Pre_finite.Mlstm.holds _ _ _ _ _ _ _ default (congrFun (pre c) default)
  rw [Cert.ReferenceIdeal.Mlstm.result_stages, a0, a1, a2, a3, a4, a5, a6]
  exact (funext fun n => Cert.KernelIdeal.Mlstm.equal H n).symm

/-- The back's reference's run, weakened to its frame. -/
theorem frame_R2 : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic2 : algebraic_Kernel2Ideal_Reference2Ideal := by
  intro m g m' g' pre args
  refine ⟨fun c => Cert.Kernel2Ideal.Back.out m c, Cert.Kernel2Ideal.Value.run_blocks m g, ?_⟩
  refine (θ_run Cert.Reference2Ideal.defs _ _).mono (fun r h c => ⟨(h c).1.trans ?_, (h c).2⟩) (Cert.Reference2Ideal.Value.run (F := Ideal) m' g')
  obtain ⟨a0, a1, a2, a3, a4, a5, a6, a7⟩ := args c
  rw [Cert.Reference2Ideal.Back.result_stages, a0, a1, a2, a3, a4, a5, a6, a7]
  exact (Cert.Kernel2Ideal.Back.out_eq m c _ fun s t j => Cert.Reference2Ideal.Back.result_apply _ _ _ _ _ _ _ _ s t j).symm

theorem frame_K3 : quiescent_Kernel3 := Cert.Front.same.mp Cert.Front.quiet

theorem frame_KI3 : quiescent_Kernel3Ideal := Cert.Front.quiet

/-- The front's reference's run, weakened to its frame. -/
theorem frame_R3 : quiescent_Reference3Ideal := fun m ρ _ =>
  (θ_run Cert.Reference3Ideal.defs _ _).mono (fun r h => ⟨fun c => (h c).2.2.2.2.2, sem_eq_zero_of_no_sems (by decide) r.2⟩)
    (Cert.Reference3Ideal.Value.run (F := Ideal) m ρ)

theorem algebraic3 : algebraic_Kernel3Ideal_Reference3Ideal := by
  intro m g m' g' pre args
  refine ⟨fun c => Cert.Front.out m c, fun c => Cert.Front.outQ m c, fun c => Cert.Front.outV m c, fun c => Cert.Front.outW m c, fun c => Cert.Front.outO m c,
    (θ_run Cert.Kernel3Ideal.defs _ _).mono (fun _ h => h.1) (Cert.Front.run (F := Ideal) m g), ?_⟩
  refine (θ_run Cert.Reference3Ideal.defs _ _).mono (fun r h c => ?_) (Cert.Reference3Ideal.Value.run (F := Ideal) m' g')
  obtain ⟨a0, a1, a2, a3, a4, a5, -⟩ := args c
  have p : Cert.Reference3Ideal.Front.ofMem (F := Ideal) m' c = Cert.Front.projection m c := by
    unfold Cert.Reference3Ideal.Front.ofMem Cert.Front.projection
    rw [a0, a1, a2, a3, a4, a5]
  obtain ⟨x, q, v, w, o, kept⟩ := h c
  refine ⟨x.trans ?_, q.trans ?_, v.trans ?_, w.trans ?_, o.trans ?_, kept⟩
  · rw [a0, a1, a2, a3]
    exact (Cert.Front.out_eq m c).symm
  · rw [Cert.Reference3Ideal.Front.queries_stages, p]
    exact (Cert.Front.outQ_eq m c).symm
  · rw [Cert.Reference3Ideal.Front.values_stages, p]
    exact (Cert.Front.outV_eq m c).symm
  · rw [Cert.Reference3Ideal.Front.values'_stages, p]
    exact (Cert.Front.outW_eq m c).symm
  · rw [Cert.Reference3Ideal.Front.gate_stages, p]
    exact (Cert.Front.outO_eq m c).symm

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Pre_finite.Gen.facts,
    fun m ρ _ => Cert.Kernel.Gen.frame m ρ, fun m ρ _ => Cert.KernelIdeal.Gen.frame m ρ,
    fun m ρ _ => Cert.KernelIdeal.Gen.frame m ρ, frame_R, fun m ρ _ => frame_R m ρ trivial,
    fun m ρ _ => Cert.Kernel2.Gen.frame m ρ, fun m ρ _ => Cert.Kernel2Ideal.Gen.frame m ρ, frame_R2, frame_K3, frame_KI3, frame_R3,
    (trivial : preserves_Kernel_KernelIdeal), algebraic, (trivial : preserves_Kernel2_Kernel2Ideal), algebraic2,
    (trivial : preserves_Kernel3_Kernel3Ideal), algebraic3⟩

end Cert.Proof

end
